-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_cst) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S64x8x100000 : Shape := ⟨3, ![64, 8, 100000]⟩
abbrev S_ : Shape := ⟨0, ![]⟩
abbrev S64x8 : Shape := ⟨2, ![64, 8]⟩
abbrev S64x8x1 : Shape := ⟨3, ![64, 8, 1]⟩

class Facts : Prop where
  reducesTo_S64x8x100000_S64x8_d2 : S64x8x100000.ReducesTo [2] S64x8
  h_S_ : 0 < S_.numel
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)

variable [Facts]

def fn {F : FTy → Type} [FloatOps F] (main_arg0 : FVec F S64x8x100000 .f32) : IVec S64x8x1 1 :=
  let main_cst : FVec F S_ .f32 := constant S_ .f32 0xFF800000#32
  let main_v0 : FVec F S64x8 .f32 := (fun x v => Host.reduce FloatOps.maximumf x v reducesTo_S64x8x100000_S64x8_d2 h_S_) main_arg0 main_cst
  let main_v1 : FVec F S64x8x1 .f32 := broadcastInDim S64x8x1 ![0, 1] bcast_S64x8_S64x8x1_0_1 main_v0
  let main_cst_0 : FVec F S_ .f32 := constant S_ .f32 0xFF800000#32
  let main_v2 : FVec F S64x8x1 .f32 := broadcastInDim S64x8x1 ![] bcast_S_S64x8x1 main_cst_0
  let main_v3 : IVec S64x8x1 1 := cmpf .ogt main_v1 main_v2
  let main_cst_1 : FVec F S_ .f32 := constant S_ .f32 0x7F800000#32
  let main_v4 : FVec F S64x8x1 .f32 := broadcastInDim S64x8x1 ![] bcast_S_S64x8x1 main_cst_1
  let main_v5 : IVec S64x8x1 1 := cmpf .olt main_v1 main_v4
  let main_v6 : IVec S64x8x1 1 := andi main_v3 main_v5
  main_v6
-- ==== Kernel.lean ====
abbrev S64x8x100000 : Shape := ⟨3, ![64, 8, 100000]⟩
abbrev S512x100000 : Shape := ⟨2, ![512, 100000]⟩
abbrev S64x8x1 : Shape := ⟨3, ![64, 8, 1]⟩
abbrev S8x100000 : Shape := ⟨2, ![8, 100000]⟩
abbrev S1x8x1 : Shape := ⟨3, ![1, 8, 1]⟩
abbrev S8x1 : Shape := ⟨2, ![8, 1]⟩
abbrev S8 : Shape := ⟨1, ![8]⟩
abbrev S8x512 : Shape := ⟨2, ![8, 512]⟩
abbrev S8x160 : Shape := ⟨2, ![8, 160]⟩
abbrev S64x8 : Shape := ⟨2, ![64, 8]⟩
abbrev S_ : Shape := ⟨0, ![]⟩
abbrev S1 : Shape := ⟨1, ![1]⟩

abbrev nBuf : Space → Nat
  | .hbm => 10
  | .vmem => 8
  | .smem => 0
  | _ => 0

abbrev bufTy : (tb : Table) → Fin (tcTables nBuf tb) → BufTy
  | .hbm, ⟨0, _⟩ => ⟨S64x8x100000, .f32⟩
  | .hbm, ⟨1, _⟩ => ⟨S512x100000, .f32⟩
  | .hbm, ⟨2, _⟩ => ⟨S512x100000, .f32⟩
  | .hbm, ⟨3, _⟩ => ⟨S512x100000, .f32⟩
  | .hbm, ⟨4, _⟩ => ⟨S64x8x1, .f32⟩
  | .hbm, ⟨5, _⟩ => ⟨S64x8, .f32⟩
  | .hbm, ⟨6, _⟩ => ⟨S64x8x100000, .f32⟩
  | .hbm, ⟨7, _⟩ => ⟨S64x8x100000, .f32⟩
  | .hbm, ⟨8, _⟩ => ⟨S_, .f32⟩
  | .hbm, ⟨9, _⟩ => ⟨S1, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S1x8x1, .f32⟩
  | .local _ .vmem, ⟨7, _⟩ => ⟨S1x8x1, .f32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_5 : BitVec 32 := 0#32
  let c195_i32 : BitVec 32 := 195#32
  let v17 : BitVec 32 := Scalar.addi c0_i32_5 c195_i32
  let c1_i32 : BitVec 32 := 1#32
  ⟨c0_i32_5, v17, c1_i32⟩
def k0_off1 (k0_t1 : Fin k0_t1_loop.trips) : Fin 2 → Nat :=
  let c0_134 : Index := 0#32
  let c0_i32_5 : BitVec 32 := 0#32
  let c1_i32 : BitVec 32 := 1#32
  let arg5 : BitVec 32 := Scf.iv c0_i32_5 c1_i32 k0_t1
  let c512_i32 : BitVec 32 := 512#32
  let v442 : BitVec 32 := Scalar.muli arg5 c512_i32
  let v443 : Index := Scalar.indexCast v442
  ![0, v443.toNat]
@[reducible] def k0_t2_loop : Scf.Loop 32 :=
  let c0_i32_126 : BitVec 32 := 0#32
  let c195_i32_127 : BitVec 32 := 195#32
  let v437 : BitVec 32 := Scalar.addi c0_i32_126 c195_i32_127
  let c1_i32_128 : BitVec 32 := 1#32
  ⟨c0_i32_126, v437, c1_i32_128⟩
def k0_off2 (k0_t2 : Fin k0_t2_loop.trips) : Fin 2 → Nat :=
  let c0_134 : Index := 0#32
  let c0_i32_126 : BitVec 32 := 0#32
  let c1_i32_128 : BitVec 32 := 1#32
  let arg5 : BitVec 32 := Scf.iv c0_i32_126 c1_i32_128 k0_t2
  let c512_i32 : BitVec 32 := 512#32
  let v442 : BitVec 32 := Scalar.muli arg5 c512_i32
  let v443 : Index := Scalar.indexCast v442
  ![0, v443.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x8x100000 : Shape := ⟨3, ![64, 8, 100000]⟩
abbrev S1 : Shape := ⟨1, ![1]⟩
abbrev S51200000 : Shape := ⟨1, ![51200000]⟩
abbrev S_ : Shape := ⟨0, ![]⟩
abbrev S1x1x1 : Shape := ⟨3, ![1, 1, 1]⟩
abbrev S64x8 : Shape := ⟨2, ![64, 8]⟩
abbrev S64x8x1 : Shape := ⟨3, ![64, 8, 1]⟩
abbrev S64x8x1x1 : Shape := ⟨4, ![64, 8, 1, 1]⟩
abbrev S1x1x1x1 : Shape := ⟨4, ![1, 1, 1, 1]⟩

abbrev nBuf : Space → Nat
  | .hbm => 542
  | .vmem => 0
  | .smem => 0
  | _ => 0

abbrev hbmTy0_0 (i : Nat) : BufTy := match i % 128 with
  | 0 => ⟨S64x8x100000, .f32⟩
  | 1 => ⟨S1, .f32⟩
  | 2 => ⟨S51200000, .i32⟩
  | 3 => ⟨S64x8x100000, .i32⟩
  | 4 => ⟨S_, .i32⟩
  | 5 => ⟨S64x8x100000, .i32⟩
  | 6 => ⟨S_, .i32⟩
  | 7 => ⟨S64x8x100000, .i32⟩
  | 8 => ⟨S64x8x100000, .i32⟩
  | 9 => ⟨S_, .i32⟩
  | 10 => ⟨S64x8x100000, .i32⟩
  | 11 => ⟨S64x8x100000, .i32⟩
  | 12 => ⟨S64x8x100000, .i32⟩
  | 13 => ⟨S_, .i32⟩
  | 14 => ⟨S64x8x100000, .i32⟩
  | 15 => ⟨S64x8x100000, .i32⟩
  | 16 => ⟨S_, .i32⟩
  | 17 => ⟨S64x8x100000, .i32⟩
  | 18 => ⟨S64x8x100000, .i32⟩
  | 19 => ⟨S64x8x100000, .i32⟩
  | 20 => ⟨S64x8x100000, .i32⟩
  | 21 => ⟨S64x8x100000, .i32⟩
  | 22 => ⟨S_, .i32⟩
  | 23 => ⟨S64x8x100000, .i32⟩
  | 24 => ⟨S64x8x100000, .i32⟩
  | 25 => ⟨S_, .i32⟩
  | 26 => ⟨S64x8x100000, .i32⟩
  | 27 => ⟨S64x8x100000, .i32⟩
  | 28 => ⟨S64x8x100000, .i32⟩
  | 29 => ⟨S64x8x100000, .i32⟩
  | 30 => ⟨S64x8x100000, .i32⟩
  | 31 => ⟨S_, .i32⟩
  | 32 => ⟨S64x8x100000, .i32⟩
  | 33 => ⟨S64x8x100000, .i32⟩
  | 34 => ⟨S_, .i32⟩
  | 35 => ⟨S64x8x100000, .i32⟩
  | 36 => ⟨S64x8x100000, .i32⟩
  | 37 => ⟨S64x8x100000, .i32⟩
  | 38 => ⟨S64x8x100000, .i32⟩
  | 39 => ⟨S64x8x100000, .i32⟩
  | 40 => ⟨S_, .i32⟩
  | 41 => ⟨S64x8x100000, .i32⟩
  | 42 => ⟨S64x8x100000, .i32⟩
  | 43 => ⟨S_, .i32⟩
  | 44 => ⟨S64x8x100000, .i32⟩
  | 45 => ⟨S64x8x100000, .i32⟩
  | 46 => ⟨S64x8x100000, .i32⟩
  | 47 => ⟨S64x8x100000, .i32⟩
  | 48 => ⟨S_, .i32⟩
  | 49 => ⟨S64x8x100000, .i32⟩
  | 50 => ⟨S64x8x100000, .i32⟩
  | 51 => ⟨S_, .i32⟩
  | 52 => ⟨S64x8x100000, .i32⟩
  | 53 => ⟨S64x8x100000, .i32⟩
  | 54 => ⟨S64x8x100000, .i32⟩
  | 55 => ⟨S_, .i32⟩
  | 56 => ⟨S64x8x100000, .i32⟩
  | 57 => ⟨S64x8x100000, .i32⟩
  | 58 => ⟨S_, .i32⟩
  | 59 => ⟨S64x8x100000, .i32⟩
  | 60 => ⟨S64x8x100000, .i32⟩
  | 61 => ⟨S64x8x100000, .i32⟩
  | 62 => ⟨S64x8x100000, .i32⟩
  | 63 => ⟨S64x8x100000, .i32⟩
  | 64 => ⟨S_, .i32⟩
  | 65 => ⟨S64x8x100000, .i32⟩
  | 66 => ⟨S64x8x100000, .i32⟩
  | 67 => ⟨S_, .i32⟩
  | 68 => ⟨S64x8x100000, .i32⟩
  | 69 => ⟨S64x8x100000, .i32⟩
  | 70 => ⟨S64x8x100000, .i32⟩
  | 71 => ⟨S64x8x100000, .i32⟩
  | 72 => ⟨S64x8x100000, .i32⟩
  | 73 => ⟨S_, .i32⟩
  | 74 => ⟨S64x8x100000, .i32⟩
  | 75 => ⟨S64x8x100000, .i32⟩
  | 76 => ⟨S_, .i32⟩
  | 77 => ⟨S64x8x100000, .i32⟩
  | 78 => ⟨S64x8x100000, .i32⟩
  | 79 => ⟨S64x8x100000, .i32⟩
  | 80 => ⟨S64x8x100000, .i32⟩
  | 81 => ⟨S64x8x100000, .i32⟩
  | 82 => ⟨S_, .i32⟩
  | 83 => ⟨S64x8x100000, .i32⟩
  | 84 => ⟨S64x8x100000, .i32⟩
  | 85 => ⟨S_, .i32⟩
  | 86 => ⟨S64x8x100000, .i32⟩
  | 87 => ⟨S64x8x100000, .i32⟩
  | 88 => ⟨S64x8x100000, .i32⟩
  | 89 => ⟨S64x8x100000, .i32⟩
  | 90 => ⟨S_, .i32⟩
  | 91 => ⟨S64x8x100000, .i32⟩
  | 92 => ⟨S64x8x100000, .i32⟩
  | 93 => ⟨S_, .i32⟩
  | 94 => ⟨S64x8x100000, .i32⟩
  | 95 => ⟨S64x8x100000, .i32⟩
  | 96 => ⟨S64x8x100000, .i32⟩
  | 97 => ⟨S_, .i32⟩
  | 98 => ⟨S64x8x100000, .i32⟩
  | 99 => ⟨S64x8x100000, .i32⟩
  | 100 => ⟨S_, .i32⟩
  | 101 => ⟨S64x8x100000, .i32⟩
  | 102 => ⟨S64x8x100000, .i32⟩
  | 103 => ⟨S64x8x100000, .i32⟩
  | 104 => ⟨S64x8x100000, .i32⟩
  | 105 => ⟨S64x8x100000, .i32⟩
  | 106 => ⟨S_, .i32⟩
  | 107 => ⟨S64x8x100000, .i32⟩
  | 108 => ⟨S64x8x100000, .i32⟩
  | 109 => ⟨S_, .i32⟩
  | 110 => ⟨S64x8x100000, .i32⟩
  | 111 => ⟨S64x8x100000, .i32⟩
  | 112 => ⟨S64x8x100000, .i32⟩
  | 113 => ⟨S64x8x100000, .i32⟩
  | 114 => ⟨S64x8x100000, .i32⟩
  | 115 => ⟨S_, .i32⟩
  | 116 => ⟨S64x8x100000, .i32⟩
  | 117 => ⟨S64x8x100000, .i32⟩
  | 118 => ⟨S_, .i32⟩
  | 119 => ⟨S64x8x100000, .i32⟩
  | 120 => ⟨S64x8x100000, .i32⟩
  | 121 => ⟨S64x8x100000, .i32⟩
  | 122 => ⟨S64x8x100000, .i32⟩
  | 123 => ⟨S64x8x100000, .i32⟩
  | 124 => ⟨S_, .i32⟩
  | 125 => ⟨S64x8x100000, .i32⟩
  | 126 => ⟨S64x8x100000, .i32⟩
  | 127 => ⟨S_, .i32⟩
  | _ => ⟨S64x8x100000, .f32⟩

abbrev hbmTy0_1 (i : Nat) : BufTy := match i % 128 with
  | 0 => ⟨S64x8x100000, .i32⟩
  | 1 => ⟨S64x8x100000, .i32⟩
  | 2 => ⟨S64x8x100000, .i32⟩
  | 3 => ⟨S64x8x100000, .i32⟩
  | 4 => ⟨S_, .i32⟩
  | 5 => ⟨S64x8x100000, .i32⟩
  | 6 => ⟨S64x8x100000, .i32⟩
  | 7 => ⟨S_, .i32⟩
  | 8 => ⟨S64x8x100000, .i32⟩
  | 9 => ⟨S64x8x100000, .i32⟩
  | 10 => ⟨S64x8x100000, .i32⟩
  | 11 => ⟨S_, .i32⟩
  | 12 => ⟨S64x8x100000, .i32⟩
  | 13 => ⟨S64x8x100000, .i32⟩
  | 14 => ⟨S_, .i32⟩
  | 15 => ⟨S64x8x100000, .i32⟩
  | 16 => ⟨S64x8x100000, .i32⟩
  | 17 => ⟨S64x8x100000, .i32⟩
  | 18 => ⟨S64x8x100000, .i32⟩
  | 19 => ⟨S64x8x100000, .i32⟩
  | 20 => ⟨S_, .i32⟩
  | 21 => ⟨S64x8x100000, .i32⟩
  | 22 => ⟨S64x8x100000, .i32⟩
  | 23 => ⟨S_, .i32⟩
  | 24 => ⟨S64x8x100000, .i32⟩
  | 25 => ⟨S64x8x100000, .i32⟩
  | 26 => ⟨S64x8x100000, .i32⟩
  | 27 => ⟨S64x8x100000, .i32⟩
  | 28 => ⟨S64x8x100000, .i32⟩
  | 29 => ⟨S_, .i32⟩
  | 30 => ⟨S64x8x100000, .i32⟩
  | 31 => ⟨S64x8x100000, .i32⟩
  | 32 => ⟨S_, .i32⟩
  | 33 => ⟨S64x8x100000, .i32⟩
  | 34 => ⟨S64x8x100000, .i32⟩
  | 35 => ⟨S64x8x100000, .i32⟩
  | 36 => ⟨S64x8x100000, .i32⟩
  | 37 => ⟨S64x8x100000, .i32⟩
  | 38 => ⟨S_, .i32⟩
  | 39 => ⟨S64x8x100000, .i32⟩
  | 40 => ⟨S64x8x100000, .i32⟩
  | 41 => ⟨S_, .i32⟩
  | 42 => ⟨S64x8x100000, .i32⟩
  | 43 => ⟨S64x8x100000, .i32⟩
  | 44 => ⟨S64x8x100000, .i32⟩
  | 45 => ⟨S64x8x100000, .i32⟩
  | 46 => ⟨S_, .i32⟩
  | 47 => ⟨S64x8x100000, .i32⟩
  | 48 => ⟨S64x8x100000, .i32⟩
  | 49 => ⟨S_, .i32⟩
  | 50 => ⟨S64x8x100000, .i32⟩
  | 51 => ⟨S64x8x100000, .i32⟩
  | 52 => ⟨S64x8x100000, .i32⟩
  | 53 => ⟨S_, .i32⟩
  | 54 => ⟨S64x8x100000, .i32⟩
  | 55 => ⟨S64x8x100000, .i32⟩
  | 56 => ⟨S_, .i32⟩
  | 57 => ⟨S64x8x100000, .i32⟩
  | 58 => ⟨S64x8x100000, .i32⟩
  | 59 => ⟨S64x8x100000, .i32⟩
  | 60 => ⟨S64x8x100000, .i32⟩
  | 61 => ⟨S64x8x100000, .i32⟩
  | 62 => ⟨S_, .i32⟩
  | 63 => ⟨S64x8x100000, .i32⟩
  | 64 => ⟨S64x8x100000, .i32⟩
  | 65 => ⟨S_, .i32⟩
  | 66 => ⟨S64x8x100000, .i32⟩
  | 67 => ⟨S64x8x100000, .i32⟩
  | 68 => ⟨S64x8x100000, .i32⟩
  | 69 => ⟨S64x8x100000, .i32⟩
  | 70 => ⟨S64x8x100000, .i32⟩
  | 71 => ⟨S_, .i32⟩
  | 72 => ⟨S64x8x100000, .i32⟩
  | 73 => ⟨S64x8x100000, .i32⟩
  | 74 => ⟨S_, .i32⟩
  | 75 => ⟨S64x8x100000, .i32⟩
  | 76 => ⟨S64x8x100000, .i32⟩
  | 77 => ⟨S64x8x100000, .i32⟩
  | 78 => ⟨S64x8x100000, .i32⟩
  | 79 => ⟨S64x8x100000, .i32⟩
  | 80 => ⟨S_, .i32⟩
  | 81 => ⟨S64x8x100000, .i32⟩
  | 82 => ⟨S64x8x100000, .i32⟩
  | 83 => ⟨S_, .i32⟩
  | 84 => ⟨S64x8x100000, .i32⟩
  | 85 => ⟨S64x8x100000, .i32⟩
  | 86 => ⟨S64x8x100000, .i32⟩
  | 87 => ⟨S64x8x100000, .i32⟩
  | 88 => ⟨S_, .i32⟩
  | 89 => ⟨S64x8x100000, .i32⟩
  | 90 => ⟨S64x8x100000, .i32⟩
  | 91 => ⟨S_, .i32⟩
  | 92 => ⟨S64x8x100000, .i32⟩
  | 93 => ⟨S64x8x100000, .i32⟩
  | 94 => ⟨S64x8x100000, .i32⟩
  | 95 => ⟨S_, .i32⟩
  | 96 => ⟨S64x8x100000, .i32⟩
  | 97 => ⟨S64x8x100000, .i32⟩
  | 98 => ⟨S_, .i32⟩
  | 99 => ⟨S64x8x100000, .i32⟩
  | 100 => ⟨S64x8x100000, .i32⟩
  | 101 => ⟨S64x8x100000, .f32⟩
  | 102 => ⟨S_, .f32⟩
  | 103 => ⟨S64x8x100000, .f32⟩
  | 104 => ⟨S64x8x100000, .f32⟩
  | 105 => ⟨S_, .f32⟩
  | 106 => ⟨S64x8x100000, .f32⟩
  | 107 => ⟨S64x8x100000, .f32⟩
  | 108 => ⟨S_, .f32⟩
  | 109 => ⟨S64x8x100000, .f32⟩
  | 110 => ⟨S64x8x100000, .f32⟩
  | 111 => ⟨S64x8x100000, .f32⟩
  | 112 => ⟨S64x8x100000, .f32⟩
  | 113 => ⟨S64x8x100000, .f32⟩
  | 114 => ⟨S64x8x100000, .f32⟩
  | 115 => ⟨S64x8x100000, .f32⟩
  | 116 => ⟨S1x1x1, .f32⟩
  | 117 => ⟨S64x8x100000, .f32⟩
  | 118 => ⟨S64x8x100000, .f32⟩
  | 119 => ⟨S_, .f32⟩
  | 120 => ⟨S64x8, .f32⟩
  | 121 => ⟨S_, .f32⟩
  | 122 => ⟨S64x8, .f32⟩
  | 123 => ⟨S64x8, .f32⟩
  | 124 => ⟨S64x8x1, .f32⟩
  | 125 => ⟨S64x8x100000, .f32⟩
  | 126 => ⟨S64x8x100000, .f32⟩
  | 127 => ⟨S64x8x100000, .f32⟩
  | _ => ⟨S64x8x100000, .f32⟩

abbrev hbmTy0_2 (i : Nat) : BufTy := match i % 128 with
  | 0 => ⟨S_, .f32⟩
  | 1 => ⟨S64x8, .f32⟩
  | 2 => ⟨S64x8x1, .f32⟩
  | 3 => ⟨S64x8x100000, .f32⟩
  | 4 => ⟨S64x8x100000, .f32⟩
  | 5 => ⟨S64x8x100000, .f32⟩
  | 6 => ⟨S51200000, .i32⟩
  | 7 => ⟨S64x8x100000, .i32⟩
  | 8 => ⟨S_, .i32⟩
  | 9 => ⟨S64x8x100000, .i32⟩
  | 10 => ⟨S_, .i32⟩
  | 11 => ⟨S64x8x100000, .i32⟩
  | 12 => ⟨S64x8x100000, .i32⟩
  | 13 => ⟨S_, .i32⟩
  | 14 => ⟨S64x8x100000, .i32⟩
  | 15 => ⟨S64x8x100000, .i32⟩
  | 16 => ⟨S64x8x100000, .i32⟩
  | 17 => ⟨S_, .i32⟩
  | 18 => ⟨S64x8x100000, .i32⟩
  | 19 => ⟨S64x8x100000, .i32⟩
  | 20 => ⟨S_, .i32⟩
  | 21 => ⟨S64x8x100000, .i32⟩
  | 22 => ⟨S64x8x100000, .i32⟩
  | 23 => ⟨S64x8x100000, .i32⟩
  | 24 => ⟨S64x8x100000, .i32⟩
  | 25 => ⟨S64x8x100000, .i32⟩
  | 26 => ⟨S_, .i32⟩
  | 27 => ⟨S64x8x100000, .i32⟩
  | 28 => ⟨S64x8x100000, .i32⟩
  | 29 => ⟨S_, .i32⟩
  | 30 => ⟨S64x8x100000, .i32⟩
  | 31 => ⟨S64x8x100000, .i32⟩
  | 32 => ⟨S64x8x100000, .i32⟩
  | 33 => ⟨S64x8x100000, .i32⟩
  | 34 => ⟨S64x8x100000, .i32⟩
  | 35 => ⟨S_, .i32⟩
  | 36 => ⟨S64x8x100000, .i32⟩
  | 37 => ⟨S64x8x100000, .i32⟩
  | 38 => ⟨S_, .i32⟩
  | 39 => ⟨S64x8x100000, .i32⟩
  | 40 => ⟨S64x8x100000, .i32⟩
  | 41 => ⟨S64x8x100000, .i32⟩
  | 42 => ⟨S64x8x100000, .i32⟩
  | 43 => ⟨S64x8x100000, .i32⟩
  | 44 => ⟨S_, .i32⟩
  | 45 => ⟨S64x8x100000, .i32⟩
  | 46 => ⟨S64x8x100000, .i32⟩
  | 47 => ⟨S_, .i32⟩
  | 48 => ⟨S64x8x100000, .i32⟩
  | 49 => ⟨S64x8x100000, .i32⟩
  | 50 => ⟨S64x8x100000, .i32⟩
  | 51 => ⟨S64x8x100000, .i32⟩
  | 52 => ⟨S_, .i32⟩
  | 53 => ⟨S64x8x100000, .i32⟩
  | 54 => ⟨S64x8x100000, .i32⟩
  | 55 => ⟨S_, .i32⟩
  | 56 => ⟨S64x8x100000, .i32⟩
  | 57 => ⟨S64x8x100000, .i32⟩
  | 58 => ⟨S64x8x100000, .i32⟩
  | 59 => ⟨S_, .i32⟩
  | 60 => ⟨S64x8x100000, .i32⟩
  | 61 => ⟨S64x8x100000, .i32⟩
  | 62 => ⟨S_, .i32⟩
  | 63 => ⟨S64x8x100000, .i32⟩
  | 64 => ⟨S64x8x100000, .i32⟩
  | 65 => ⟨S64x8x100000, .i32⟩
  | 66 => ⟨S64x8x100000, .i32⟩
  | 67 => ⟨S64x8x100000, .i32⟩
  | 68 => ⟨S_, .i32⟩
  | 69 => ⟨S64x8x100000, .i32⟩
  | 70 => ⟨S64x8x100000, .i32⟩
  | 71 => ⟨S_, .i32⟩
  | 72 => ⟨S64x8x100000, .i32⟩
  | 73 => ⟨S64x8x100000, .i32⟩
  | 74 => ⟨S64x8x100000, .i32⟩
  | 75 => ⟨S64x8x100000, .i32⟩
  | 76 => ⟨S64x8x100000, .i32⟩
  | 77 => ⟨S_, .i32⟩
  | 78 => ⟨S64x8x100000, .i32⟩
  | 79 => ⟨S64x8x100000, .i32⟩
  | 80 => ⟨S_, .i32⟩
  | 81 => ⟨S64x8x100000, .i32⟩
  | 82 => ⟨S64x8x100000, .i32⟩
  | 83 => ⟨S64x8x100000, .i32⟩
  | 84 => ⟨S64x8x100000, .i32⟩
  | 85 => ⟨S64x8x100000, .i32⟩
  | 86 => ⟨S_, .i32⟩
  | 87 => ⟨S64x8x100000, .i32⟩
  | 88 => ⟨S64x8x100000, .i32⟩
  | 89 => ⟨S_, .i32⟩
  | 90 => ⟨S64x8x100000, .i32⟩
  | 91 => ⟨S64x8x100000, .i32⟩
  | 92 => ⟨S64x8x100000, .i32⟩
  | 93 => ⟨S64x8x100000, .i32⟩
  | 94 => ⟨S_, .i32⟩
  | 95 => ⟨S64x8x100000, .i32⟩
  | 96 => ⟨S64x8x100000, .i32⟩
  | 97 => ⟨S_, .i32⟩
  | 98 => ⟨S64x8x100000, .i32⟩
  | 99 => ⟨S64x8x100000, .i32⟩
  | 100 => ⟨S64x8x100000, .i32⟩
  | 101 => ⟨S_, .i32⟩
  | 102 => ⟨S64x8x100000, .i32⟩
  | 103 => ⟨S64x8x100000, .i32⟩
  | 104 => ⟨S_, .i32⟩
  | 105 => ⟨S64x8x100000, .i32⟩
  | 106 => ⟨S64x8x100000, .i32⟩
  | 107 => ⟨S64x8x100000, .i32⟩
  | 108 => ⟨S64x8x100000, .i32⟩
  | 109 => ⟨S64x8x100000, .i32⟩
  | 110 => ⟨S_, .i32⟩
  | 111 => ⟨S64x8x100000, .i32⟩
  | 112 => ⟨S64x8x100000, .i32⟩
  | 113 => ⟨S_, .i32⟩
  | 114 => ⟨S64x8x100000, .i32⟩
  | 115 => ⟨S64x8x100000, .i32⟩
  | 116 => ⟨S64x8x100000, .i32⟩
  | 117 => ⟨S64x8x100000, .i32⟩
  | 118 => ⟨S64x8x100000, .i32⟩
  | 119 => ⟨S_, .i32⟩
  | 120 => ⟨S64x8x100000, .i32⟩
  | 121 => ⟨S64x8x100000, .i32⟩
  | 122 => ⟨S_, .i32⟩
  | 123 => ⟨S64x8x100000, .i32⟩
  | 124 => ⟨S64x8x100000, .i32⟩
  | 125 => ⟨S64x8x100000, .i32⟩
  | 126 => ⟨S64x8x100000, .i32⟩
  | 127 => ⟨S64x8x100000, .i32⟩
  | _ => ⟨S64x8x100000, .f32⟩

abbrev hbmTy0_3 (i : Nat) : BufTy := match i % 128 with
  | 0 => ⟨S_, .i32⟩
  | 1 => ⟨S64x8x100000, .i32⟩
  | 2 => ⟨S64x8x100000, .i32⟩
  | 3 => ⟨S_, .i32⟩
  | 4 => ⟨S64x8x100000, .i32⟩
  | 5 => ⟨S64x8x100000, .i32⟩
  | 6 => ⟨S64x8x100000, .i32⟩
  | 7 => ⟨S64x8x100000, .i32⟩
  | 8 => ⟨S_, .i32⟩
  | 9 => ⟨S64x8x100000, .i32⟩
  | 10 => ⟨S64x8x100000, .i32⟩
  | 11 => ⟨S_, .i32⟩
  | 12 => ⟨S64x8x100000, .i32⟩
  | 13 => ⟨S64x8x100000, .i32⟩
  | 14 => ⟨S64x8x100000, .i32⟩
  | 15 => ⟨S_, .i32⟩
  | 16 => ⟨S64x8x100000, .i32⟩
  | 17 => ⟨S64x8x100000, .i32⟩
  | 18 => ⟨S_, .i32⟩
  | 19 => ⟨S64x8x100000, .i32⟩
  | 20 => ⟨S64x8x100000, .i32⟩
  | 21 => ⟨S64x8x100000, .i32⟩
  | 22 => ⟨S64x8x100000, .i32⟩
  | 23 => ⟨S64x8x100000, .i32⟩
  | 24 => ⟨S_, .i32⟩
  | 25 => ⟨S64x8x100000, .i32⟩
  | 26 => ⟨S64x8x100000, .i32⟩
  | 27 => ⟨S_, .i32⟩
  | 28 => ⟨S64x8x100000, .i32⟩
  | 29 => ⟨S64x8x100000, .i32⟩
  | 30 => ⟨S64x8x100000, .i32⟩
  | 31 => ⟨S64x8x100000, .i32⟩
  | 32 => ⟨S64x8x100000, .i32⟩
  | 33 => ⟨S_, .i32⟩
  | 34 => ⟨S64x8x100000, .i32⟩
  | 35 => ⟨S64x8x100000, .i32⟩
  | 36 => ⟨S_, .i32⟩
  | 37 => ⟨S64x8x100000, .i32⟩
  | 38 => ⟨S64x8x100000, .i32⟩
  | 39 => ⟨S64x8x100000, .i32⟩
  | 40 => ⟨S64x8x100000, .i32⟩
  | 41 => ⟨S64x8x100000, .i32⟩
  | 42 => ⟨S_, .i32⟩
  | 43 => ⟨S64x8x100000, .i32⟩
  | 44 => ⟨S64x8x100000, .i32⟩
  | 45 => ⟨S_, .i32⟩
  | 46 => ⟨S64x8x100000, .i32⟩
  | 47 => ⟨S64x8x100000, .i32⟩
  | 48 => ⟨S64x8x100000, .i32⟩
  | 49 => ⟨S64x8x100000, .i32⟩
  | 50 => ⟨S_, .i32⟩
  | 51 => ⟨S64x8x100000, .i32⟩
  | 52 => ⟨S64x8x100000, .i32⟩
  | 53 => ⟨S_, .i32⟩
  | 54 => ⟨S64x8x100000, .i32⟩
  | 55 => ⟨S64x8x100000, .i32⟩
  | 56 => ⟨S64x8x100000, .i32⟩
  | 57 => ⟨S_, .i32⟩
  | 58 => ⟨S64x8x100000, .i32⟩
  | 59 => ⟨S64x8x100000, .i32⟩
  | 60 => ⟨S_, .i32⟩
  | 61 => ⟨S64x8x100000, .i32⟩
  | 62 => ⟨S64x8x100000, .i32⟩
  | 63 => ⟨S64x8x100000, .i32⟩
  | 64 => ⟨S64x8x100000, .i32⟩
  | 65 => ⟨S64x8x100000, .i32⟩
  | 66 => ⟨S_, .i32⟩
  | 67 => ⟨S64x8x100000, .i32⟩
  | 68 => ⟨S64x8x100000, .i32⟩
  | 69 => ⟨S_, .i32⟩
  | 70 => ⟨S64x8x100000, .i32⟩
  | 71 => ⟨S64x8x100000, .i32⟩
  | 72 => ⟨S64x8x100000, .i32⟩
  | 73 => ⟨S64x8x100000, .i32⟩
  | 74 => ⟨S64x8x100000, .i32⟩
  | 75 => ⟨S_, .i32⟩
  | 76 => ⟨S64x8x100000, .i32⟩
  | 77 => ⟨S64x8x100000, .i32⟩
  | 78 => ⟨S_, .i32⟩
  | 79 => ⟨S64x8x100000, .i32⟩
  | 80 => ⟨S64x8x100000, .i32⟩
  | 81 => ⟨S64x8x100000, .i32⟩
  | 82 => ⟨S64x8x100000, .i32⟩
  | 83 => ⟨S64x8x100000, .i32⟩
  | 84 => ⟨S_, .i32⟩
  | 85 => ⟨S64x8x100000, .i32⟩
  | 86 => ⟨S64x8x100000, .i32⟩
  | 87 => ⟨S_, .i32⟩
  | 88 => ⟨S64x8x100000, .i32⟩
  | 89 => ⟨S64x8x100000, .i32⟩
  | 90 => ⟨S64x8x100000, .i32⟩
  | 91 => ⟨S64x8x100000, .i32⟩
  | 92 => ⟨S_, .i32⟩
  | 93 => ⟨S64x8x100000, .i32⟩
  | 94 => ⟨S64x8x100000, .i32⟩
  | 95 => ⟨S_, .i32⟩
  | 96 => ⟨S64x8x100000, .i32⟩
  | 97 => ⟨S64x8x100000, .i32⟩
  | 98 => ⟨S64x8x100000, .i32⟩
  | 99 => ⟨S_, .i32⟩
  | 100 => ⟨S64x8x100000, .i32⟩
  | 101 => ⟨S64x8x100000, .i32⟩
  | 102 => ⟨S_, .i32⟩
  | 103 => ⟨S64x8x100000, .i32⟩
  | 104 => ⟨S64x8x100000, .i32⟩
  | 105 => ⟨S64x8x100000, .f32⟩
  | 106 => ⟨S_, .f32⟩
  | 107 => ⟨S64x8x100000, .f32⟩
  | 108 => ⟨S64x8x100000, .f32⟩
  | 109 => ⟨S_, .f32⟩
  | 110 => ⟨S64x8x100000, .f32⟩
  | 111 => ⟨S64x8x100000, .f32⟩
  | 112 => ⟨S64x8x100000, .f32⟩
  | 113 => ⟨S64x8x100000, .f32⟩
  | 114 => ⟨S64x8x100000, .f32⟩
  | 115 => ⟨S64x8x100000, .f32⟩
  | 116 => ⟨S_, .f32⟩
  | 117 => ⟨S64x8, .f32⟩
  | 118 => ⟨S64x8x1, .f32⟩
  | 119 => ⟨S64x8x100000, .f32⟩
  | 120 => ⟨S64x8x100000, .i1⟩
  | 121 => ⟨S64x8x100000, .i32⟩
  | 122 => ⟨S_, .i32⟩
  | 123 => ⟨S_, .i32⟩
  | 124 => ⟨S64x8x100000, .i32⟩
  | 125 => ⟨S64x8x100000, .i32⟩
  | 126 => ⟨S_, .i32⟩
  | 127 => ⟨S64x8, .i32⟩
  | _ => ⟨S64x8x100000, .f32⟩

abbrev hbmTy0_4 (i : Nat) : BufTy := match i % 128 with
  | 0 => ⟨S64x8x1, .i32⟩
  | 1 => ⟨S_, .i32⟩
  | 2 => ⟨S64x8x1, .i32⟩
  | 3 => ⟨S64x8x1, .i1⟩
  | 4 => ⟨S_, .i32⟩
  | 5 => ⟨S64x8x1, .i32⟩
  | 6 => ⟨S64x8x1, .i32⟩
  | 7 => ⟨S64x8x1, .i32⟩
  | 8 => ⟨S64x8x1x1, .i32⟩
  | 9 => ⟨S1, .i32⟩
  | 10 => ⟨S_, .i32⟩
  | 11 => ⟨S64x8x1x1, .i32⟩
  | 12 => ⟨S64x8x1x1, .i1⟩
  | 13 => ⟨S1x1x1x1, .i32⟩
  | 14 => ⟨S64x8x1x1, .i32⟩
  | 15 => ⟨S64x8x1x1, .i1⟩
  | 16 => ⟨S64x8x1x1, .i1⟩
  | 17 => ⟨S_, .i1⟩
  | 18 => ⟨S64x8x1, .i1⟩
  | 19 => ⟨S64x8x1, .f32⟩
  | 20 => ⟨S_, .f32⟩
  | 21 => ⟨S64x8x1, .f32⟩
  | 22 => ⟨S64x8x1, .f32⟩
  | 23 => ⟨S64x8, .f32⟩
  | 24 => ⟨S64x8, .f32⟩
  | 25 => ⟨S64x8, .f32⟩
  | 26 => ⟨S_, .f32⟩
  | 27 => ⟨S64x8, .f32⟩
  | 28 => ⟨S64x8, .f32⟩
  | 29 => ⟨S64x8, .f32⟩
  | _ => ⟨S64x8x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_c_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_c_11 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_12 : Ref sig .tc := ⟨.hbm, 55, rfl⟩
abbrev main_v40 : Ref sig .tc := ⟨.hbm, 56, rfl⟩
abbrev main_v41 : Ref sig .tc := ⟨.hbm, 57, rfl⟩
abbrev main_c_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_14 : Ref sig .tc := ⟨.hbm, 64, rfl⟩
abbrev main_v47 : Ref sig .tc := ⟨.hbm, 65, rfl⟩
abbrev main_v48 : Ref sig .tc := ⟨.hbm, 66, rfl⟩
abbrev main_c_15 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_16 : Ref sig .tc := ⟨.hbm, 73, rfl⟩
abbrev main_v54 : Ref sig .tc := ⟨.hbm, 74, rfl⟩
abbrev main_v55 : Ref sig .tc := ⟨.hbm, 75, rfl⟩
abbrev main_c_17 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_18 : Ref sig .tc := ⟨.hbm, 82, rfl⟩
abbrev main_v61 : Ref sig .tc := ⟨.hbm, 83, rfl⟩
abbrev main_v62 : Ref sig .tc := ⟨.hbm, 84, rfl⟩
abbrev main_c_19 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_20 : Ref sig .tc := ⟨.hbm, 90, rfl⟩
abbrev main_v67 : Ref sig .tc := ⟨.hbm, 91, rfl⟩
abbrev main_v68 : Ref sig .tc := ⟨.hbm, 92, rfl⟩
abbrev main_c_21 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_22 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_24 : Ref sig .tc := ⟨.hbm, 106, rfl⟩
abbrev main_v79 : Ref sig .tc := ⟨.hbm, 107, rfl⟩
abbrev main_v80 : Ref sig .tc := ⟨.hbm, 108, rfl⟩
abbrev main_c_25 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_26 : Ref sig .tc := ⟨.hbm, 115, rfl⟩
abbrev main_v86 : Ref sig .tc := ⟨.hbm, 116, rfl⟩
abbrev main_v87 : Ref sig .tc := ⟨.hbm, 117, rfl⟩
abbrev main_c_27 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_28 : Ref sig .tc := ⟨.hbm, 124, rfl⟩
abbrev main_v93 : Ref sig .tc := ⟨.hbm, 125, rfl⟩
abbrev main_v94 : Ref sig .tc := ⟨.hbm, 126, rfl⟩
abbrev main_c_29 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_30 : Ref sig .tc := ⟨.hbm, 132, rfl⟩
abbrev main_v99 : Ref sig .tc := ⟨.hbm, 133, rfl⟩
abbrev main_v100 : Ref sig .tc := ⟨.hbm, 134, rfl⟩
abbrev main_c_31 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_32 : Ref sig .tc := ⟨.hbm, 139, rfl⟩
abbrev main_v104 : Ref sig .tc := ⟨.hbm, 140, rfl⟩
abbrev main_v105 : Ref sig .tc := ⟨.hbm, 141, rfl⟩
abbrev main_c_33 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_34 : Ref sig .tc := ⟨.hbm, 148, rfl⟩
abbrev main_v111 : Ref sig .tc := ⟨.hbm, 149, rfl⟩
abbrev main_v112 : Ref sig .tc := ⟨.hbm, 150, rfl⟩
abbrev main_c_35 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_36 : Ref sig .tc := ⟨.hbm, 157, rfl⟩
abbrev main_v118 : Ref sig .tc := ⟨.hbm, 158, rfl⟩
abbrev main_v119 : Ref sig .tc := ⟨.hbm, 159, rfl⟩
abbrev main_c_37 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_38 : Ref sig .tc := ⟨.hbm, 166, rfl⟩
abbrev main_v125 : Ref sig .tc := ⟨.hbm, 167, rfl⟩
abbrev main_v126 : Ref sig .tc := ⟨.hbm, 168, rfl⟩
abbrev main_c_39 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_40 : Ref sig .tc := ⟨.hbm, 174, rfl⟩
abbrev main_v131 : Ref sig .tc := ⟨.hbm, 175, rfl⟩
abbrev main_v132 : Ref sig .tc := ⟨.hbm, 176, rfl⟩
abbrev main_c_41 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_c_42 : Ref sig .tc := ⟨.hbm, 181, rfl⟩
abbrev main_v136 : Ref sig .tc := ⟨.hbm, 182, rfl⟩
abbrev main_v137 : Ref sig .tc := ⟨.hbm, 183, rfl⟩
abbrev main_c_43 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_44 : Ref sig .tc := ⟨.hbm, 190, rfl⟩
abbrev main_v143 : Ref sig .tc := ⟨.hbm, 191, rfl⟩
abbrev main_v144 : Ref sig .tc := ⟨.hbm, 192, rfl⟩
abbrev main_c_45 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_46 : Ref sig .tc := ⟨.hbm, 199, rfl⟩
abbrev main_v150 : Ref sig .tc := ⟨.hbm, 200, rfl⟩
abbrev main_v151 : Ref sig .tc := ⟨.hbm, 201, rfl⟩
abbrev main_c_47 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_48 : Ref sig .tc := ⟨.hbm, 208, rfl⟩
abbrev main_v157 : Ref sig .tc := ⟨.hbm, 209, rfl⟩
abbrev main_v158 : Ref sig .tc := ⟨.hbm, 210, rfl⟩
abbrev main_c_49 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_50 : Ref sig .tc := ⟨.hbm, 216, rfl⟩
abbrev main_v163 : Ref sig .tc := ⟨.hbm, 217, rfl⟩
abbrev main_v164 : Ref sig .tc := ⟨.hbm, 218, rfl⟩
abbrev main_c_51 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_52 : Ref sig .tc := ⟨.hbm, 223, rfl⟩
abbrev main_v168 : Ref sig .tc := ⟨.hbm, 224, rfl⟩
abbrev main_v169 : Ref sig .tc := ⟨.hbm, 225, rfl⟩
abbrev main_c_53 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_54 : Ref sig .tc := ⟨.hbm, 230, rfl⟩
abbrev main_v173 : Ref sig .tc := ⟨.hbm, 231, rfl⟩
abbrev main_v174 : Ref sig .tc := ⟨.hbm, 232, rfl⟩
abbrev main_cst_55 : Ref sig .tc := ⟨.hbm, 233, rfl⟩
abbrev main_v175 : Ref sig .tc := ⟨.hbm, 234, rfl⟩
abbrev main_v176 : Ref sig .tc := ⟨.hbm, 235, rfl⟩
abbrev main_cst_56 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_57 : Ref sig .tc := ⟨.hbm, 247, rfl⟩
abbrev main_v187 : Ref sig .tc := ⟨.hbm, 248, rfl⟩
abbrev main_cst_58 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_59 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_c_60 : Ref sig .tc := ⟨.hbm, 264, rfl⟩
abbrev main_v201 : Ref sig .tc := ⟨.hbm, 265, rfl⟩
abbrev main_c_61 : Ref sig .tc := ⟨.hbm, 266, rfl⟩
abbrev main_v202 : Ref sig .tc := ⟨.hbm, 267, rfl⟩
abbrev main_v203 : Ref sig .tc := ⟨.hbm, 268, rfl⟩
abbrev main_c_62 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_c_63 : Ref sig .tc := ⟨.hbm, 273, rfl⟩
abbrev main_v207 : Ref sig .tc := ⟨.hbm, 274, rfl⟩
abbrev main_v208 : Ref sig .tc := ⟨.hbm, 275, rfl⟩
abbrev main_c_64 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_c_65 : Ref sig .tc := ⟨.hbm, 282, rfl⟩
abbrev main_v214 : Ref sig .tc := ⟨.hbm, 283, rfl⟩
abbrev main_v215 : Ref sig .tc := ⟨.hbm, 284, rfl⟩
abbrev main_c_66 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_c_67 : Ref sig .tc := ⟨.hbm, 291, rfl⟩
abbrev main_v221 : Ref sig .tc := ⟨.hbm, 292, rfl⟩
abbrev main_v222 : Ref sig .tc := ⟨.hbm, 293, rfl⟩
abbrev main_c_68 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_c_69 : Ref sig .tc := ⟨.hbm, 300, rfl⟩
abbrev main_v228 : Ref sig .tc := ⟨.hbm, 301, rfl⟩
abbrev main_v229 : Ref sig .tc := ⟨.hbm, 302, rfl⟩
abbrev main_c_70 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_c_71 : Ref sig .tc := ⟨.hbm, 308, rfl⟩
abbrev main_v234 : Ref sig .tc := ⟨.hbm, 309, rfl⟩
abbrev main_v235 : Ref sig .tc := ⟨.hbm, 310, rfl⟩
abbrev main_c_72 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_c_73 : Ref sig .tc := ⟨.hbm, 315, rfl⟩
abbrev main_v239 : Ref sig .tc := ⟨.hbm, 316, rfl⟩
abbrev main_v240 : Ref sig .tc := ⟨.hbm, 317, rfl⟩
abbrev main_c_74 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_c_75 : Ref sig .tc := ⟨.hbm, 324, rfl⟩
abbrev main_v246 : Ref sig .tc := ⟨.hbm, 325, rfl⟩
abbrev main_v247 : Ref sig .tc := ⟨.hbm, 326, rfl⟩
abbrev main_c_76 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_c_77 : Ref sig .tc := ⟨.hbm, 333, rfl⟩
abbrev main_v253 : Ref sig .tc := ⟨.hbm, 334, rfl⟩
abbrev main_v254 : Ref sig .tc := ⟨.hbm, 335, rfl⟩
abbrev main_c_78 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_c_79 : Ref sig .tc := ⟨.hbm, 342, rfl⟩
abbrev main_v260 : Ref sig .tc := ⟨.hbm, 343, rfl⟩
abbrev main_v261 : Ref sig .tc := ⟨.hbm, 344, rfl⟩
abbrev main_c_80 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_c_81 : Ref sig .tc := ⟨.hbm, 350, rfl⟩
abbrev main_v266 : Ref sig .tc := ⟨.hbm, 351, rfl⟩
abbrev main_v267 : Ref sig .tc := ⟨.hbm, 352, rfl⟩
abbrev main_c_82 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_c_83 : Ref sig .tc := ⟨.hbm, 357, rfl⟩
abbrev main_v271 : Ref sig .tc := ⟨.hbm, 358, rfl⟩
abbrev main_v272 : Ref sig .tc := ⟨.hbm, 359, rfl⟩
abbrev main_c_84 : Ref sig .tc := ⟨.hbm, 360, rfl⟩
abbrev main_v273 : Ref sig .tc := ⟨.hbm, 361, rfl⟩
abbrev main_v274 : Ref sig .tc := ⟨.hbm, 362, rfl⟩
abbrev main_v275 : Ref sig .tc := ⟨.hbm, 363, rfl⟩
abbrev main_v276 : Ref sig .tc := ⟨.hbm, 364, rfl⟩
abbrev main_v277 : Ref sig .tc := ⟨.hbm, 365, rfl⟩
abbrev main_c_85 : Ref sig .tc := ⟨.hbm, 366, rfl⟩
abbrev main_v278 : Ref sig .tc := ⟨.hbm, 367, rfl⟩
abbrev main_v279 : Ref sig .tc := ⟨.hbm, 368, rfl⟩
abbrev main_c_86 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_c_87 : Ref sig .tc := ⟨.hbm, 375, rfl⟩
abbrev main_v285 : Ref sig .tc := ⟨.hbm, 376, rfl⟩
abbrev main_v286 : Ref sig .tc := ⟨.hbm, 377, rfl⟩
abbrev main_c_88 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_c_89 : Ref sig .tc := ⟨.hbm, 384, rfl⟩
abbrev main_v292 : Ref sig .tc := ⟨.hbm, 385, rfl⟩
abbrev main_v293 : Ref sig .tc := ⟨.hbm, 386, rfl⟩
abbrev main_c_90 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_c_91 : Ref sig .tc := ⟨.hbm, 392, rfl⟩
abbrev main_v298 : Ref sig .tc := ⟨.hbm, 393, rfl⟩
abbrev main_v299 : Ref sig .tc := ⟨.hbm, 394, rfl⟩
abbrev main_c_92 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_c_93 : Ref sig .tc := ⟨.hbm, 399, rfl⟩
abbrev main_v303 : Ref sig .tc := ⟨.hbm, 400, rfl⟩
abbrev main_v304 : Ref sig .tc := ⟨.hbm, 401, rfl⟩
abbrev main_c_94 : Ref sig .tc := ⟨.hbm, 402, rfl⟩
abbrev main_v305 : Ref sig .tc := ⟨.hbm, 403, rfl⟩
abbrev main_v306 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_c_95 : Ref sig .tc := ⟨.hbm, 408, rfl⟩
abbrev main_v310 : Ref sig .tc := ⟨.hbm, 409, rfl⟩
abbrev main_v311 : Ref sig .tc := ⟨.hbm, 410, rfl⟩
abbrev main_c_96 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_v315 : Ref sig .tc := ⟨.hbm, 415, rfl⟩
abbrev main_v316 : Ref sig .tc := ⟨.hbm, 416, rfl⟩
abbrev main_c_97 : Ref sig .tc := ⟨.hbm, 417, rfl⟩
abbrev main_v317 : Ref sig .tc := ⟨.hbm, 418, rfl⟩
abbrev main_v318 : Ref sig .tc := ⟨.hbm, 419, rfl⟩
abbrev main_c_98 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_v322 : Ref sig .tc := ⟨.hbm, 424, rfl⟩
abbrev main_v323 : Ref sig .tc := ⟨.hbm, 425, rfl⟩
abbrev main_c_99 : Ref sig .tc := ⟨.hbm, 426, rfl⟩
abbrev main_v324 : Ref sig .tc := ⟨.hbm, 427, rfl⟩
abbrev main_v325 : Ref sig .tc := ⟨.hbm, 428, rfl⟩
abbrev main_c_100 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_v329 : Ref sig .tc := ⟨.hbm, 433, rfl⟩
abbrev main_c_101 : Ref sig .tc := ⟨.hbm, 434, rfl⟩
abbrev main_v330 : Ref sig .tc := ⟨.hbm, 435, rfl⟩
abbrev main_v331 : Ref sig .tc := ⟨.hbm, 436, rfl⟩
abbrev main_c_102 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_c_103 : Ref sig .tc := ⟨.hbm, 441, rfl⟩
abbrev main_v335 : Ref sig .tc := ⟨.hbm, 442, rfl⟩
abbrev main_v336 : Ref sig .tc := ⟨.hbm, 443, rfl⟩
abbrev main_c_104 : Ref sig .tc := ⟨.hbm, 444, rfl⟩
abbrev main_v337 : Ref sig .tc := ⟨.hbm, 445, rfl⟩
abbrev main_v338 : Ref sig .tc := ⟨.hbm, 446, rfl⟩
abbrev main_v339 : Ref sig .tc := ⟨.hbm, 447, rfl⟩
abbrev main_v340 : Ref sig .tc := ⟨.hbm, 448, rfl⟩
abbrev main_v341 : Ref sig .tc := ⟨.hbm, 449, rfl⟩
abbrev main_c_105 : Ref sig .tc := ⟨.hbm, 450, rfl⟩
abbrev main_v342 : Ref sig .tc := ⟨.hbm, 451, rfl⟩
abbrev main_v343 : Ref sig .tc := ⟨.hbm, 452, rfl⟩
abbrev main_c_106 : Ref sig .tc := ⟨.hbm, 453, rfl⟩
abbrev main_v344 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_v348 : Ref sig .tc := ⟨.hbm, 458, rfl⟩
abbrev main_c_107 : Ref sig .tc := ⟨.hbm, 459, rfl⟩
abbrev main_v349 : Ref sig .tc := ⟨.hbm, 460, rfl⟩
abbrev main_v350 : Ref sig .tc := ⟨.hbm, 461, rfl⟩
abbrev main_c_108 : Ref sig .tc := ⟨.hbm, 462, rfl⟩
abbrev main_v351 : Ref sig .tc := ⟨.hbm, 463, rfl⟩
abbrev main_v352 : Ref sig .tc := ⟨.hbm, 464, rfl⟩
abbrev main_v353 : Ref sig .tc := ⟨.hbm, 465, rfl⟩
abbrev main_v354 : Ref sig .tc := ⟨.hbm, 466, rfl⟩
abbrev main_v355 : Ref sig .tc := ⟨.hbm, 467, rfl⟩
abbrev main_c_109 : Ref sig .tc := ⟨.hbm, 468, rfl⟩
abbrev main_v356 : Ref sig .tc := ⟨.hbm, 469, rfl⟩
abbrev main_v357 : Ref sig .tc := ⟨.hbm, 470, rfl⟩
abbrev main_c_110 : Ref sig .tc := ⟨.hbm, 471, rfl⟩
abbrev main_v358 : Ref sig .tc := ⟨.hbm, 472, rfl⟩
abbrev main_v359 : Ref sig .tc := ⟨.hbm, 473, rfl⟩
abbrev main_v360 : Ref sig .tc := ⟨.hbm, 474, rfl⟩
abbrev main_v361 : Ref sig .tc := ⟨.hbm, 475, rfl⟩
abbrev main_c_111 : Ref sig .tc := ⟨.hbm, 476, rfl⟩
abbrev main_v362 : Ref sig .tc := ⟨.hbm, 477, rfl⟩
abbrev main_v363 : Ref sig .tc := ⟨.hbm, 478, rfl⟩
abbrev main_c_112 : Ref sig .tc := ⟨.hbm, 479, rfl⟩
abbrev main_v364 : Ref sig .tc := ⟨.hbm, 480, rfl⟩
abbrev main_v365 : Ref sig .tc := ⟨.hbm, 481, rfl⟩
abbrev main_v366 : Ref sig .tc := ⟨.hbm, 482, rfl⟩
abbrev main_c_113 : Ref sig .tc := ⟨.hbm, 483, rfl⟩
abbrev main_v367 : Ref sig .tc := ⟨.hbm, 484, rfl⟩
abbrev main_v368 : Ref sig .tc := ⟨.hbm, 485, rfl⟩
abbrev main_c_114 : Ref sig .tc := ⟨.hbm, 486, rfl⟩
abbrev main_v369 : Ref sig .tc := ⟨.hbm, 487, rfl⟩
abbrev main_v370 : Ref sig .tc := ⟨.hbm, 488, rfl⟩
abbrev main_v371 : Ref sig .tc := ⟨.hbm, 489, rfl⟩
abbrev main_cst_115 : Ref sig .tc := ⟨.hbm, 490, rfl⟩
abbrev main_v372 : Ref sig .tc := ⟨.hbm, 491, rfl⟩
abbrev main_v373 : Ref sig .tc := ⟨.hbm, 492, rfl⟩
abbrev main_cst_116 : Ref sig .tc := ⟨.hbm, 493, rfl⟩
abbrev main_v374 : Ref sig .tc := ⟨.hbm, 494, rfl⟩
abbrev main_v375 : Ref sig .tc := ⟨.hbm, 495, rfl⟩
abbrev main_v376 : Ref sig .tc := ⟨.hbm, 496, rfl⟩
abbrev main_v377 : Ref sig .tc := ⟨.hbm, 497, rfl⟩
abbrev main_v378 : Ref sig .tc := ⟨.hbm, 498, rfl⟩
abbrev main_v379 : Ref sig .tc := ⟨.hbm, 499, rfl⟩
abbrev main_cst_117 : Ref sig .tc := ⟨.hbm, 500, rfl⟩
abbrev main_v380 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_v384 : Ref sig .tc := ⟨.hbm, 505, rfl⟩
abbrev main_c_118 : Ref sig .tc := ⟨.hbm, 506, rfl⟩
abbrev main_call0_v0 : Ref sig .tc := ⟨.hbm, 507, rfl⟩
abbrev main_call0_v1 : Ref sig .tc := ⟨.hbm, 508, rfl⟩
abbrev main_v385 : Ref sig .tc := ⟨.hbm, 509, rfl⟩
abbrev main_c_119 : Ref sig .tc := ⟨.hbm, 510, rfl⟩
abbrev main_v386 : Ref sig .tc := ⟨.hbm, 511, rfl⟩
abbrev main_v387 : Ref sig .tc := ⟨.hbm, 512, rfl⟩
abbrev main_call1_c : Ref sig .tc := ⟨.hbm, 513, rfl⟩
abbrev main_call1_v0 : Ref sig .tc := ⟨.hbm, 514, rfl⟩
abbrev main_call1_v1 : Ref sig .tc := ⟨.hbm, 515, rfl⟩
abbrev main_call1_c_0 : Ref sig .tc := ⟨.hbm, 516, rfl⟩
abbrev main_call1_v2 : Ref sig .tc := ⟨.hbm, 517, rfl⟩
abbrev main_call1_v3 : Ref sig .tc := ⟨.hbm, 518, rfl⟩
abbrev main_call1_v4 : Ref sig .tc := ⟨.hbm, 519, rfl⟩
abbrev main_call1_v5 : Ref sig .tc := ⟨.hbm, 520, rfl⟩
abbrev main_call1_c_1 : Ref sig .tc := ⟨.hbm, 521, rfl⟩
abbrev main_call1_c_2 : Ref sig .tc := ⟨.hbm, 522, rfl⟩
abbrev main_call1_v6 : Ref sig .tc := ⟨.hbm, 523, rfl⟩
abbrev main_call1_v7 : Ref sig .tc := ⟨.hbm, 524, rfl⟩
abbrev main_call1_v8 : Ref sig .tc := ⟨.hbm, 525, rfl⟩
abbrev main_call1_v9 : Ref sig .tc := ⟨.hbm, 526, rfl⟩
abbrev main_call1_v10 : Ref sig .tc := ⟨.hbm, 527, rfl⟩
abbrev main_call1_v11 : Ref sig .tc := ⟨.hbm, 528, rfl⟩
abbrev main_call1_c_3 : Ref sig .tc := ⟨.hbm, 529, rfl⟩
abbrev main_call1_v12 : Ref sig .tc := ⟨.hbm, 530, rfl⟩
abbrev main_call1_v13 : Ref sig .tc := ⟨.hbm, 531, rfl⟩
abbrev main_call1_cst : Ref sig .tc := ⟨.hbm, 532, rfl⟩
abbrev main_call1_v14 : Ref sig .tc := ⟨.hbm, 533, rfl⟩
abbrev main_v388 : Ref sig .tc := ⟨.hbm, 534, rfl⟩
abbrev main_v389 : Ref sig .tc := ⟨.hbm, 535, rfl⟩
abbrev main_v390 : Ref sig .tc := ⟨.hbm, 536, rfl⟩
abbrev main_v391 : Ref sig .tc := ⟨.hbm, 537, rfl⟩
abbrev main_cst_120 : Ref sig .tc := ⟨.hbm, 538, rfl⟩
abbrev main_v392 : Ref sig .tc := ⟨.hbm, 539, rfl⟩
abbrev main_v393 : Ref sig .tc := ⟨.hbm, 540, rfl⟩
abbrev main_v394 : Ref sig .tc := ⟨.hbm, 541, rfl⟩

abbrev nD : Nat := 1
abbrev τ : Topo := Topo.v7x

variable {F : FTy → Type} [FloatOps F]
-- ==== Proof.BitsFrame.lean ====
/-
  The kernel at bit level leaves its argument as it was and every counter at zero. Nothing is named here of what it
  computes: that is said of the idealized kernel.
-/
module

public import proofs.«01_k».proof.Proof.Gen.Kernel.Frame.Runs
public import Idealize.ShloMosaic.Lib.Claim

@[expose] public section

set_option maxRecDepth 16384

noncomputable section

namespace Cert.Gumbel.BitsFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A block owned at contents nothing is said of. -/
abbrev some' {s : Shape} (c : Dev nD) (b : Memref sig .tc .vmem s .f32) : sProp 𝕄 :=
  iprop(∃ d, owns (c : Thread nD τ) b fullShare d)

-- (the run walks the whole body: eighteen parts and two loops)
set_option maxHeartbeats 4000000 in
/-- One grid step keeps its input block and ends with its three result blocks in hand. -/
theorem step (c : Dev nD) (i : grid0.Coords) (b1 : Memref sig .tc .vmem S8x100000 .f32) (w1 : b1.IsWhole) (b2 : Memref sig .tc .vmem S8x100000 .f32) (w2 : b2.IsWhole) (b3 : Memref sig .tc .vmem S8x100000 .f32) (w3 : b3.IsWhole) (b4 : Memref sig .tc .vmem S1x8x1 .f32) (w4 : b4.IsWhole)
    (x : Vec F S8x100000 .f32) (E : Set ℕ) (K : PUnit → sProp 𝕄) :
    iprop(owns (c : Thread nD τ) b1 fullShare x ∗ some' (F := F) c b2 ∗ some' (F := F) c b3 ∗ some' (F := F) c b4
        ∗ (iprop(owns (c : Thread nD τ) b1 fullShare x ∗ some' (F := F) c b2 ∗ some' (F := F) c b3 ∗ some' (F := F) c b4) -∗ K ⟨⟩))
      ⊢ wp frame (wpE (defs₀ (F := F)) Variants.none c none) E (cc0__stgs_body i b1 w1 b2 w2 b3 w3 b4 w4) K := by
  simp only [cc0__stgs_body_eq_skeleton]
  unfold cc0__stgs_body_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold some' owns
  iintro ⟨⟨%f0, %hf0, H0⟩, ⟨%d1, %f1, -, H1⟩, ⟨%d2, %f2, -, H2⟩, ⟨%d3, %f3, -, H3⟩, Hk⟩
  obtain rfl := w1.eq_unread hf0
  sl_exec
  sl_step
  iapply Hk
  isplitl [H0]
  · iexists _; isplitr
    swap; · iexact H0
    ipureintro; exact w1.read_unread _
  isplitl [H1]
  · iexists _, _; isplitr
    swap; · iexact H1
    ipureintro; rfl
  isplitl [H2]
  · iexists _, _; isplitr
    swap; · iexact H2
    ipureintro; rfl
  iexists _, _; isplitr
  swap; · iexact H3
  ipureintro; rfl

variable (m : (ℓ : Loc nD τ sig) → Buf (Elt F) ℓ) (ρ : Dev nD → PrngReg)

/-- The windows of which nothing is said: the three results'. -/
def mute : Fin 4 → Bool := fun w => w.val != 0

/-- The launch's proof data: the arrays as found, the input's block named, the results' not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by
  dsimp only [dats]

theorem before0 (c : Dev nD) (t : Fin cfg0.N) (d) : (dats m 0 c).before 0 t d = iblk m c 0 t :=
  before0_0_of m (dats m 0 c) (A_eq m c 0) (after0 m c) t d

/-- What a step starts from. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ some' (F := F) c (ms0_1 t) ∗ some' (F := F) c (ms0_2 t) ∗ some' (F := F) c (ms0_3 t))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ some' (F := F) c (ms0_1 t) ∗ some' (F := F) c (ms0_2 t) ∗ some' (F := F) c (ms0_3 t))

theorem sound (c : Dev nD) (t : Fin cfg0.N) :
    pre m c t ⊢ wp frame (wpE (defs₀ (F := F)) Variants.none c none) Set.univ (bodyAt0 t) (fun _ => post m c t) := by
  unfold pre post bodyAt0
  simp only [before0]
  rw [show (dats m 0 c).Φ t.succ = (dats m 0 c).Φ t.castSucc from rfl,
    show (dats m 0 c).owesAt () t.succ = (dats m 0 c).owesAt () t.castSucc from rfl, after0]
  iintro ⟨HΦ, Ho, ⟨%d0, H0⟩, H1, H2, H3⟩
  iapply ((step c (grid0.coords t) _ _ _ _ _ _ _ _ (iblk m c 0 t)) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem body (c : Dev nD) : BodyObligation (dats (F := F) m 0 c) (defs₀ (F := F)) Variants.none () Set.univ mute := fun t => by
  rw [bigSep_W0, bigSep_W0, row]
  exact triple_restated (sound m c t) rfl .rfl fun _ => .rfl

/-- The buffers the lines after the launch write. -/
def late : Finset (Ref sig .tc) := {main_cst, main_v2, main_v3, main_v4, main_v5}

theorem late_writes : ∀ ops ∈ ([hostOps1] : List (List (HloOp τ sig (Elt F)))), ∀ op ∈ ops,
    ∀ b : Ref sig .tc, Proc.devRef .tc b ∈ op.writes → b ∈ late := by
  intro ops hops op hop
  rw [List.mem_singleton] at hops
  subst hops
  simp only [hostOps1, List.mem_cons, List.mem_nil_iff, or_false] at hop
  rcases hop with rfl | rfl | rfl | rfl | rfl
  all_goals
    intro b hb
    simp only [StableHlo.nullary_writes, StableHlo.unary_writes, StableHlo.reshape_writes, Finset.mem_singleton] at hb
    cases Proc.devRef_injective _ hb
    decide

set_option backward.isDefEq.respectTransparency.types false in
set_option maxHeartbeats 800000 in
theorem run : θ_run defs (onTc (τ := τ) (main (F := F))) (s₀ m ρ)
    (fun r => (Pipeline.RDat.FramePostR (cfgs 0) (fun c => (dats m 0 c).toRForget mute) late (V m)) r ∧ r.2.sem = fun _ => 0) :=
  Pipeline.θ_run_frame_around_T_forget (Q' := _) cfgs (dats m) (0 : Fin 1) launch0 defs₀ Variants.none mute late m ρ main
    (hbody := fun c => (body m c).loose) (hshare := fun c => (dats m 0 c).share_full fun _ => rfl)
    (howed := fun _ _ => rfl) (V₀ := V0 m) (opss := [hostOps1]) (hsub := sfx_sub) (hfresh := sfx_fresh) (hkeep := sfx_keeps) (hT := late_writes)
    (hmain := hmain m Variants.none) (hA := A_eq m) (hΦ := fun _ _ => rfl)

/-- The argument ends as it was, and every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Finset.mem_sdiff.mpr
    ⟨Pipeline.mem_restRefs_of main_arg0 (by decide) (by decide), by decide⟩)).trans (V_main_arg0 m c), h.2⟩) (run m ρ)

end Cert.Gumbel.BitsFrame

end
-- ==== Proof.BodyRun.lean ====
/-
  One grid step of the kernel, run from named buffer contents: what the three result blocks hold afterwards, as
  functions of the input block and of what the buffers held before. The second loop reads back what the first one
  stored, so a loop's stores depend on the contents it finds, and the run keeps these as arguments; that the values
  do not depend on them is proved in `Proof/BodyValue.lean`.
-/
module

public import proofs.«01_k».proof.Proof.Gen.KernelIdeal.Frame.Runs

@[expose] public section

set_option maxRecDepth 16384

noncomputable section

namespace Cert.Gumbel.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

-- (the run walks the whole body: eighteen parts and two loops)
set_option maxHeartbeats 4000000 in
/-- The step's run: the first two components are what the unnormalised-then-normalised block and its copy end as,
    the third is the block of sampled positions. -/
def stepRun (c : Dev nD) (i : grid0.Coords) (b1 : Memref sig .tc .vmem S8x100000 .f32) (w1 : b1.IsWhole) (b2 : Memref sig .tc .vmem S8x100000 .f32) (w2 : b2.IsWhole) (b3 : Memref sig .tc .vmem S8x100000 .f32) (w3 : b3.IsWhole) (b4 : Memref sig .tc .vmem S1x8x1 .f32) (w4 : b4.IsWhole)
    (x : Vec F S8x100000 .f32) :
    Σ' (G2 : BufTy.Contents (Elt F) b2.view.ty → BufTy.Contents (Elt F) b3.view.ty → BufTy.Contents (Elt F) b4.view.ty → BufTy.Contents (Elt F) b2.view.ty),
    Σ' (G3 : BufTy.Contents (Elt F) b2.view.ty → BufTy.Contents (Elt F) b3.view.ty → BufTy.Contents (Elt F) b4.view.ty → BufTy.Contents (Elt F) b3.view.ty),
    { G4 : BufTy.Contents (Elt F) b2.view.ty → BufTy.Contents (Elt F) b3.view.ty → BufTy.Contents (Elt F) b4.view.ty → BufTy.Contents (Elt F) b4.view.ty //
      ∀ (E : Set ℕ) (K : PUnit → sProp 𝕄) (f2 : BufTy.Contents (Elt F) b2.view.ty) (f3 : BufTy.Contents (Elt F) b3.view.ty) (f4 : BufTy.Contents (Elt F) b4.view.ty),
        iprop((b1.view.loc (c : Thread nD τ) ↦[b1.view.set]{fullShare} w1.unread x) ∗ (b2.view.loc (c : Thread nD τ) ↦[b2.view.set]{fullShare} f2) ∗ (b3.view.loc (c : Thread nD τ) ↦[b3.view.set]{fullShare} f3) ∗ (b4.view.loc (c : Thread nD τ) ↦[b4.view.set]{fullShare} f4)
            ∗ (iprop((b1.view.loc (c : Thread nD τ) ↦[b1.view.set]{fullShare} w1.unread x) ∗ (b2.view.loc (c : Thread nD τ) ↦[b2.view.set]{fullShare} G2 f2 f3 f4) ∗ (b3.view.loc (c : Thread nD τ) ↦[b3.view.set]{fullShare} G3 f2 f3 f4) ∗ (b4.view.loc (c : Thread nD τ) ↦[b4.view.set]{fullShare} G4 f2 f3 f4)) -∗ K ⟨⟩))
          ⊢ wp frame (wpE (defs₀ (F := F)) Variants.none c none) E (cc0__stgs_body i b1 w1 b2 w2 b3 w3 b4 w4) K } := by
  refine ⟨?_, ?_, ?_, fun E K f2 f3 f4 => ?run⟩
  case run =>
    simp only [cc0__stgs_body_eq_skeleton]
    unfold cc0__stgs_body_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    iintro ⟨H1, H2, H3, H4, Hk⟩
    sl_exec
    sl_step
    iapply Hk
    isplitl [H1]; · iexact H1
    isplitl [H2]; · iexact H2
    isplitl [H3]; · iexact H3
    iexact H4

end Cert.Gumbel.Kernel

end
-- ==== Proof.Threefry.lean ====
/-
  Threefry-2x32 as a sequence of states: the pair of 32-bit words after each of its twenty rounds and five key
  injections, and the words and unit-interval draws both programs make of it. `word*_*` lemmas read one integer
  operation on its operands' values; `st_*` lemmas read one state from the state before it.
-/
module

public import Idealize.ShloMosaic.PureOps.Ideal.Laws

@[expose] public section

noncomputable section

namespace Cert.Gumbel

open Idealize.ShloMosaic

/-- One round at rotation amount `r`: the high word gains the low one, the low one is rotated and mixed in. -/
abbrev round (r : ℕ) (s : BitVec 32 × BitVec 32) : BitVec 32 × BitVec 32 :=
  (s.1 + s.2, (s.2 <<< r ||| s.2 >>> (32 - r)) ^^^ (s.1 + s.2))

/-- One key injection: key words `a` and `b`, and the injection's number. -/
abbrev inject (a b c : BitVec 32) (s : BitVec 32 × BitVec 32) : BitVec 32 × BitVec 32 := (s.1 + a, s.2 + b + c)

/-- Step `j` of the twenty-five, at key words `a`, `b` and their parity word `c`. -/
def step (a b c : BitVec 32) : ℕ → BitVec 32 × BitVec 32 → BitVec 32 × BitVec 32
  | 0, s => round 13 s
  | 1, s => round 15 s
  | 2, s => round 26 s
  | 3, s => round 6 s
  | 4, s => inject b c 1#32 s
  | 5, s => round 17 s
  | 6, s => round 29 s
  | 7, s => round 16 s
  | 8, s => round 24 s
  | 9, s => inject c a 2#32 s
  | 10, s => round 13 s
  | 11, s => round 15 s
  | 12, s => round 26 s
  | 13, s => round 6 s
  | 14, s => inject a b 3#32 s
  | 15, s => round 17 s
  | 16, s => round 29 s
  | 17, s => round 16 s
  | 18, s => round 24 s
  | 19, s => inject b c 4#32 s
  | 20, s => round 13 s
  | 21, s => round 15 s
  | 22, s => round 26 s
  | 23, s => round 6 s
  | 24, s => inject c a 5#32 s
  | _, s => s

/-- The state after `j` steps, enciphering the counter whose high word is zero and low word is `n`. -/
def st (a b c n : BitVec 32) : ℕ → BitVec 32 × BitVec 32
  | 0 => (a, n + b)
  | j + 1 => step a b c j (st a b c n j)

section
variable (a b c n : BitVec 32)
theorem st_1_0 : (st a b c n 0).1 = a := rfl
theorem st_2_0 : (st a b c n 0).2 = n + b := rfl
theorem st_1_1 : (st a b c n 1).1 = (st a b c n 0).1 + (st a b c n 0).2 := rfl
theorem st_2_1 : (st a b c n 1).2 = ((st a b c n 0).2 <<< 13 ||| (st a b c n 0).2 >>> 19) ^^^ (st a b c n 1).1 := rfl
theorem st_1_2 : (st a b c n 2).1 = (st a b c n 1).1 + (st a b c n 1).2 := rfl
theorem st_2_2 : (st a b c n 2).2 = ((st a b c n 1).2 <<< 15 ||| (st a b c n 1).2 >>> 17) ^^^ (st a b c n 2).1 := rfl
theorem st_1_3 : (st a b c n 3).1 = (st a b c n 2).1 + (st a b c n 2).2 := rfl
theorem st_2_3 : (st a b c n 3).2 = ((st a b c n 2).2 <<< 26 ||| (st a b c n 2).2 >>> 6) ^^^ (st a b c n 3).1 := rfl
theorem st_1_4 : (st a b c n 4).1 = (st a b c n 3).1 + (st a b c n 3).2 := rfl
theorem st_2_4 : (st a b c n 4).2 = ((st a b c n 3).2 <<< 6 ||| (st a b c n 3).2 >>> 26) ^^^ (st a b c n 4).1 := rfl
theorem st_1_5 : (st a b c n 5).1 = (st a b c n 4).1 + b := rfl
theorem st_2_5 : (st a b c n 5).2 = (st a b c n 4).2 + c + 1#32 := rfl
theorem st_1_6 : (st a b c n 6).1 = (st a b c n 5).1 + (st a b c n 5).2 := rfl
theorem st_2_6 : (st a b c n 6).2 = ((st a b c n 5).2 <<< 17 ||| (st a b c n 5).2 >>> 15) ^^^ (st a b c n 6).1 := rfl
theorem st_1_7 : (st a b c n 7).1 = (st a b c n 6).1 + (st a b c n 6).2 := rfl
theorem st_2_7 : (st a b c n 7).2 = ((st a b c n 6).2 <<< 29 ||| (st a b c n 6).2 >>> 3) ^^^ (st a b c n 7).1 := rfl
theorem st_1_8 : (st a b c n 8).1 = (st a b c n 7).1 + (st a b c n 7).2 := rfl
theorem st_2_8 : (st a b c n 8).2 = ((st a b c n 7).2 <<< 16 ||| (st a b c n 7).2 >>> 16) ^^^ (st a b c n 8).1 := rfl
theorem st_1_9 : (st a b c n 9).1 = (st a b c n 8).1 + (st a b c n 8).2 := rfl
theorem st_2_9 : (st a b c n 9).2 = ((st a b c n 8).2 <<< 24 ||| (st a b c n 8).2 >>> 8) ^^^ (st a b c n 9).1 := rfl
theorem st_1_10 : (st a b c n 10).1 = (st a b c n 9).1 + c := rfl
theorem st_2_10 : (st a b c n 10).2 = (st a b c n 9).2 + a + 2#32 := rfl
theorem st_1_11 : (st a b c n 11).1 = (st a b c n 10).1 + (st a b c n 10).2 := rfl
theorem st_2_11 : (st a b c n 11).2 = ((st a b c n 10).2 <<< 13 ||| (st a b c n 10).2 >>> 19) ^^^ (st a b c n 11).1 := rfl
theorem st_1_12 : (st a b c n 12).1 = (st a b c n 11).1 + (st a b c n 11).2 := rfl
theorem st_2_12 : (st a b c n 12).2 = ((st a b c n 11).2 <<< 15 ||| (st a b c n 11).2 >>> 17) ^^^ (st a b c n 12).1 := rfl
theorem st_1_13 : (st a b c n 13).1 = (st a b c n 12).1 + (st a b c n 12).2 := rfl
theorem st_2_13 : (st a b c n 13).2 = ((st a b c n 12).2 <<< 26 ||| (st a b c n 12).2 >>> 6) ^^^ (st a b c n 13).1 := rfl
theorem st_1_14 : (st a b c n 14).1 = (st a b c n 13).1 + (st a b c n 13).2 := rfl
theorem st_2_14 : (st a b c n 14).2 = ((st a b c n 13).2 <<< 6 ||| (st a b c n 13).2 >>> 26) ^^^ (st a b c n 14).1 := rfl
theorem st_1_15 : (st a b c n 15).1 = (st a b c n 14).1 + a := rfl
theorem st_2_15 : (st a b c n 15).2 = (st a b c n 14).2 + b + 3#32 := rfl
theorem st_1_16 : (st a b c n 16).1 = (st a b c n 15).1 + (st a b c n 15).2 := rfl
theorem st_2_16 : (st a b c n 16).2 = ((st a b c n 15).2 <<< 17 ||| (st a b c n 15).2 >>> 15) ^^^ (st a b c n 16).1 := rfl
theorem st_1_17 : (st a b c n 17).1 = (st a b c n 16).1 + (st a b c n 16).2 := rfl
theorem st_2_17 : (st a b c n 17).2 = ((st a b c n 16).2 <<< 29 ||| (st a b c n 16).2 >>> 3) ^^^ (st a b c n 17).1 := rfl
theorem st_1_18 : (st a b c n 18).1 = (st a b c n 17).1 + (st a b c n 17).2 := rfl
theorem st_2_18 : (st a b c n 18).2 = ((st a b c n 17).2 <<< 16 ||| (st a b c n 17).2 >>> 16) ^^^ (st a b c n 18).1 := rfl
theorem st_1_19 : (st a b c n 19).1 = (st a b c n 18).1 + (st a b c n 18).2 := rfl
theorem st_2_19 : (st a b c n 19).2 = ((st a b c n 18).2 <<< 24 ||| (st a b c n 18).2 >>> 8) ^^^ (st a b c n 19).1 := rfl
theorem st_1_20 : (st a b c n 20).1 = (st a b c n 19).1 + b := rfl
theorem st_2_20 : (st a b c n 20).2 = (st a b c n 19).2 + c + 4#32 := rfl
theorem st_1_21 : (st a b c n 21).1 = (st a b c n 20).1 + (st a b c n 20).2 := rfl
theorem st_2_21 : (st a b c n 21).2 = ((st a b c n 20).2 <<< 13 ||| (st a b c n 20).2 >>> 19) ^^^ (st a b c n 21).1 := rfl
theorem st_1_22 : (st a b c n 22).1 = (st a b c n 21).1 + (st a b c n 21).2 := rfl
theorem st_2_22 : (st a b c n 22).2 = ((st a b c n 21).2 <<< 15 ||| (st a b c n 21).2 >>> 17) ^^^ (st a b c n 22).1 := rfl
theorem st_1_23 : (st a b c n 23).1 = (st a b c n 22).1 + (st a b c n 22).2 := rfl
theorem st_2_23 : (st a b c n 23).2 = ((st a b c n 22).2 <<< 26 ||| (st a b c n 22).2 >>> 6) ^^^ (st a b c n 23).1 := rfl
theorem st_1_24 : (st a b c n 24).1 = (st a b c n 23).1 + (st a b c n 23).2 := rfl
theorem st_2_24 : (st a b c n 24).2 = ((st a b c n 23).2 <<< 6 ||| (st a b c n 23).2 >>> 26) ^^^ (st a b c n 24).1 := rfl
theorem st_1_25 : (st a b c n 25).1 = (st a b c n 24).1 + c := rfl
theorem st_2_25 : (st a b c n 25).2 = (st a b c n 24).2 + a + 5#32 := rfl
end

theorem foldU_5 (n : BitVec 32) : (st 1832780943#32 270669613#32 1724713080#32 n 4).2 + 1724713081#32 = (st 1832780943#32 270669613#32 1724713080#32 n 5).2 := by
  rw [st_2_5, BitVec.add_assoc]; rfl
theorem foldU_10 (n : BitVec 32) : (st 1832780943#32 270669613#32 1724713080#32 n 9).2 + 1832780945#32 = (st 1832780943#32 270669613#32 1724713080#32 n 10).2 := by
  rw [st_2_10, BitVec.add_assoc]; rfl
theorem foldU_15 (n : BitVec 32) : (st 1832780943#32 270669613#32 1724713080#32 n 14).2 + 270669616#32 = (st 1832780943#32 270669613#32 1724713080#32 n 15).2 := by
  rw [st_2_15, BitVec.add_assoc]; rfl
theorem foldU_20 (n : BitVec 32) : (st 1832780943#32 270669613#32 1724713080#32 n 19).2 + 1724713084#32 = (st 1832780943#32 270669613#32 1724713080#32 n 20).2 := by
  rw [st_2_20, BitVec.add_assoc]; rfl
theorem foldU_25 (n : BitVec 32) : (st 1832780943#32 270669613#32 1724713080#32 n 24).2 + 1832780948#32 = (st 1832780943#32 270669613#32 1724713080#32 n 25).2 := by
  rw [st_2_25, BitVec.add_assoc]; rfl
theorem foldS_5 (n : BitVec 32) : (st 64467757#32 2916123636#32 3050711811#32 n 4).2 + 3050711812#32 = (st 64467757#32 2916123636#32 3050711811#32 n 5).2 := by
  rw [st_2_5, BitVec.add_assoc]; rfl
theorem foldS_10 (n : BitVec 32) : (st 64467757#32 2916123636#32 3050711811#32 n 9).2 + 64467759#32 = (st 64467757#32 2916123636#32 3050711811#32 n 10).2 := by
  rw [st_2_10, BitVec.add_assoc]; rfl
theorem foldS_15 (n : BitVec 32) : (st 64467757#32 2916123636#32 3050711811#32 n 14).2 + 2916123639#32 = (st 64467757#32 2916123636#32 3050711811#32 n 15).2 := by
  rw [st_2_15, BitVec.add_assoc]; rfl
theorem foldS_20 (n : BitVec 32) : (st 64467757#32 2916123636#32 3050711811#32 n 19).2 + 3050711815#32 = (st 64467757#32 2916123636#32 3050711811#32 n 20).2 := by
  rw [st_2_20, BitVec.add_assoc]; rfl
theorem foldS_25 (n : BitVec 32) : (st 64467757#32 2916123636#32 3050711811#32 n 24).2 + 64467762#32 = (st 64467757#32 2916123636#32 3050711811#32 n 25).2 := by
  rw [st_2_25, BitVec.add_assoc]; rfl

attribute [irreducible] st

section
variable {x y A B : BitVec 32}
theorem word_add (hx : x = A) (hy : y = B) : IntOp.addi x y = A + B := congrArg₂ (· + ·) hx hy
theorem word_or (hx : x = A) (hy : y = B) : IntOp.ori x y = A ||| B := congrArg₂ (· ||| ·) hx hy
theorem word_xor (hx : x = A) (hy : y = B) : IntOp.xori x y = A ^^^ B := congrArg₂ (· ^^^ ·) hx hy
theorem word_xor_swap (hx : x = A) (hy : y = B) : IntOp.xori x y = B ^^^ A := by subst hx hy; exact BitVec.xor_comm x y
theorem shlv3 (hx : x = A) : IntOp.shli .vector x 3#32 = A <<< 3 := by subst hx; rfl
theorem shrv3 (hx : x = A) : IntOp.shrui .vector x 3#32 = A >>> 3 := by subst hx; rfl
theorem shlh3 (hx : x = A) : IntOp.shli .host x 3#32 = A <<< 3 := by subst hx; rfl
theorem shrh3 (hx : x = A) : IntOp.shrui .host x 3#32 = A >>> 3 := by subst hx; rfl
theorem shlv6 (hx : x = A) : IntOp.shli .vector x 6#32 = A <<< 6 := by subst hx; rfl
theorem shrv6 (hx : x = A) : IntOp.shrui .vector x 6#32 = A >>> 6 := by subst hx; rfl
theorem shlh6 (hx : x = A) : IntOp.shli .host x 6#32 = A <<< 6 := by subst hx; rfl
theorem shrh6 (hx : x = A) : IntOp.shrui .host x 6#32 = A >>> 6 := by subst hx; rfl
theorem shlv8 (hx : x = A) : IntOp.shli .vector x 8#32 = A <<< 8 := by subst hx; rfl
theorem shrv8 (hx : x = A) : IntOp.shrui .vector x 8#32 = A >>> 8 := by subst hx; rfl
theorem shlh8 (hx : x = A) : IntOp.shli .host x 8#32 = A <<< 8 := by subst hx; rfl
theorem shrh8 (hx : x = A) : IntOp.shrui .host x 8#32 = A >>> 8 := by subst hx; rfl
theorem shlv9 (hx : x = A) : IntOp.shli .vector x 9#32 = A <<< 9 := by subst hx; rfl
theorem shrv9 (hx : x = A) : IntOp.shrui .vector x 9#32 = A >>> 9 := by subst hx; rfl
theorem shlh9 (hx : x = A) : IntOp.shli .host x 9#32 = A <<< 9 := by subst hx; rfl
theorem shrh9 (hx : x = A) : IntOp.shrui .host x 9#32 = A >>> 9 := by subst hx; rfl
theorem shlv13 (hx : x = A) : IntOp.shli .vector x 13#32 = A <<< 13 := by subst hx; rfl
theorem shrv13 (hx : x = A) : IntOp.shrui .vector x 13#32 = A >>> 13 := by subst hx; rfl
theorem shlh13 (hx : x = A) : IntOp.shli .host x 13#32 = A <<< 13 := by subst hx; rfl
theorem shrh13 (hx : x = A) : IntOp.shrui .host x 13#32 = A >>> 13 := by subst hx; rfl
theorem shlv15 (hx : x = A) : IntOp.shli .vector x 15#32 = A <<< 15 := by subst hx; rfl
theorem shrv15 (hx : x = A) : IntOp.shrui .vector x 15#32 = A >>> 15 := by subst hx; rfl
theorem shlh15 (hx : x = A) : IntOp.shli .host x 15#32 = A <<< 15 := by subst hx; rfl
theorem shrh15 (hx : x = A) : IntOp.shrui .host x 15#32 = A >>> 15 := by subst hx; rfl
theorem shlv16 (hx : x = A) : IntOp.shli .vector x 16#32 = A <<< 16 := by subst hx; rfl
theorem shrv16 (hx : x = A) : IntOp.shrui .vector x 16#32 = A >>> 16 := by subst hx; rfl
theorem shlh16 (hx : x = A) : IntOp.shli .host x 16#32 = A <<< 16 := by subst hx; rfl
theorem shrh16 (hx : x = A) : IntOp.shrui .host x 16#32 = A >>> 16 := by subst hx; rfl
theorem shlv17 (hx : x = A) : IntOp.shli .vector x 17#32 = A <<< 17 := by subst hx; rfl
theorem shrv17 (hx : x = A) : IntOp.shrui .vector x 17#32 = A >>> 17 := by subst hx; rfl
theorem shlh17 (hx : x = A) : IntOp.shli .host x 17#32 = A <<< 17 := by subst hx; rfl
theorem shrh17 (hx : x = A) : IntOp.shrui .host x 17#32 = A >>> 17 := by subst hx; rfl
theorem shlv19 (hx : x = A) : IntOp.shli .vector x 19#32 = A <<< 19 := by subst hx; rfl
theorem shrv19 (hx : x = A) : IntOp.shrui .vector x 19#32 = A >>> 19 := by subst hx; rfl
theorem shlh19 (hx : x = A) : IntOp.shli .host x 19#32 = A <<< 19 := by subst hx; rfl
theorem shrh19 (hx : x = A) : IntOp.shrui .host x 19#32 = A >>> 19 := by subst hx; rfl
theorem shlv24 (hx : x = A) : IntOp.shli .vector x 24#32 = A <<< 24 := by subst hx; rfl
theorem shrv24 (hx : x = A) : IntOp.shrui .vector x 24#32 = A >>> 24 := by subst hx; rfl
theorem shlh24 (hx : x = A) : IntOp.shli .host x 24#32 = A <<< 24 := by subst hx; rfl
theorem shrh24 (hx : x = A) : IntOp.shrui .host x 24#32 = A >>> 24 := by subst hx; rfl
theorem shlv26 (hx : x = A) : IntOp.shli .vector x 26#32 = A <<< 26 := by subst hx; rfl
theorem shrv26 (hx : x = A) : IntOp.shrui .vector x 26#32 = A >>> 26 := by subst hx; rfl
theorem shlh26 (hx : x = A) : IntOp.shli .host x 26#32 = A <<< 26 := by subst hx; rfl
theorem shrh26 (hx : x = A) : IntOp.shrui .host x 26#32 = A >>> 26 := by subst hx; rfl
theorem shlv29 (hx : x = A) : IntOp.shli .vector x 29#32 = A <<< 29 := by subst hx; rfl
theorem shrv29 (hx : x = A) : IntOp.shrui .vector x 29#32 = A >>> 29 := by subst hx; rfl
theorem shlh29 (hx : x = A) : IntOp.shli .host x 29#32 = A <<< 29 := by subst hx; rfl
theorem shrh29 (hx : x = A) : IntOp.shrui .host x 29#32 = A >>> 29 := by subst hx; rfl
end

/-- The random word of counter `n` under the first key (the Gumbel noise of the relaxation). -/
def bitsU (n : BitVec 32) : BitVec 32 := (st 1832780943#32 270669613#32 1724713080#32 n 25).1 ^^^ (st 1832780943#32 270669613#32 1724713080#32 n 25).2

/-- The random word of counter `n` under the second key (the draw the sample is taken by). -/
def bitsS (n : BitVec 32) : BitVec 32 := (st 64467757#32 2916123636#32 3050711811#32 n 25).1 ^^^ (st 64467757#32 2916123636#32 3050711811#32 n 25).2

end Cert.Gumbel

end
-- ==== Proof.Spec.lean ====
/-
  The scalar values both programs compute: the uniform draw of a random word, and the two denominators made of the
  draws of a counter `n`. They are written with the element operations of the printed programs, at any float values,
  so that the programs' lines read as these by definition.
-/
module

public import proofs.«01_k».proof.Proof.Threefry

@[expose] public section

noncomputable section

namespace Cert.Gumbel

open Idealize.ShloMosaic

variable {F : FTy → Type} [FloatOps F]

/-- A 32-bit float constant by its bits. -/
abbrev fbits (w : BitVec 32) : F .f32 := FloatOps.ofBits .f32 w

variable (F) in
/-- A random word as a draw of `[0, 1)`: its top 23 bits as the mantissa of a number of `[1, 2)`, less one. -/
def unit01 (w : BitVec 32) : F .f32 := FloatOps.subf (fbits (w >>> 9 ||| 1065353216#32)) (fbits 0x3F800000#32)

variable (F) in
/-- `-log u` of the first draw `u`: what the weight `exp x` is divided by. -/
def gumbelDen (n : BitVec 32) : F .f32 :=
  FloatOps.subf (fbits 0x00000000#32) (FloatOps.log
    (FloatOps.addf (FloatOps.mulf (unit01 F (bitsU n)) (fbits 0x3F7FBE77#32)) (fbits 0x2B8CBCCC#32)))

variable (F) in
/-- `-log u` of the second draw `u`, which is kept off zero. -/
def drawDen (n : BitVec 32) : F .f32 :=
  FloatOps.subf (fbits 0x00000000#32) (FloatOps.log (FloatOps.maximumf (fbits 0x00800000#32) (unit01 F (bitsS n))))

end Cert.Gumbel

end
-- ==== Proof.KernelBits.lean ====
/-
  The kernel's integer payloads, read at one lane: every group of straight-line operations of the generator's two
  key streams, over the 512-lane chunks and over the 160-lane tail, carries the Threefry states of `Proof/Threefry.lean`
  of the lane's counter `n`. Each theorem takes the values its group is handed and gives those it hands on.
-/
module

public import proofs.«01_k».proof.Proof.Spec
public import proofs.«01_k».proof.Proof.Gen.KernelIdeal.Skeleton

@[expose] public section

set_option maxRecDepth 16384

noncomputable section

namespace Cert.Gumbel.Kernel

open Idealize.ShloMosaic Cert.KernelIdeal Cert.KernelIdeal.Gen

variable {F : FTy → Type} [FloatOps F]

/-- First key, the chunk: rounds one to four. -/
theorem chunkU1 (v6 : IVec S8x1 32) (k0_t1 : Fin k0_t1_loop.trips) (j : S8x512.Idx) (n : BitVec 32) (hn : k0_pay4 v6 0#32 1#32 k0_t1 j = n) :
    k0_pay13 v6 0#32 1#32 k0_t1 j = (st 1832780943#32 270669613#32 1724713080#32 n 5).1 ∧ k0_pay14 v6 0#32 1#32 k0_t1 j = (st 1832780943#32 270669613#32 1724713080#32 n 4).2 + 1724713080#32 := by
  have q453 := (word_add hn (rfl : 270669613#32 = 270669613#32)).trans (st_2_0 1832780943#32 270669613#32 1724713080#32 n).symm
  have p5 : k0_pay5 v6 0#32 1#32 k0_t1 j = (st 1832780943#32 270669613#32 1724713080#32 n 0).2 := q453
  have q454 := (word_add (st_1_0 1832780943#32 270669613#32 1724713080#32 n).symm p5).trans (st_1_1 1832780943#32 270669613#32 1724713080#32 n).symm
  have p6 : k0_pay6 v6 0#32 1#32 k0_t1 j = (st 1832780943#32 270669613#32 1724713080#32 n 1).1 := q454
  have q460 := (word_xor (word_or (shlv13 p5) (shrv19 p5)) p6).trans (st_2_1 1832780943#32 270669613#32 1724713080#32 n).symm
  have p7 : k0_pay7 v6 0#32 1#32 k0_t1 j = (st 1832780943#32 270669613#32 1724713080#32 n 1).2 := q460
  have q461 := (word_add p6 p7).trans (st_1_2 1832780943#32 270669613#32 1724713080#32 n).symm
  have p8 : k0_pay8 v6 0#32 1#32 k0_t1 j = (st 1832780943#32 270669613#32 1724713080#32 n 2).1 := q461
  have q467 := (word_xor (word_or (shlv15 p7) (shrv17 p7)) p8).trans (st_2_2 1832780943#32 270669613#32 1724713080#32 n).symm
  have p9 : k0_pay9 v6 0#32 1#32 k0_t1 j = (st 1832780943#32 270669613#32 1724713080#32 n 2).2 := q467
  have q468 := (word_add p8 p9).trans (st_1_3 1832780943#32 270669613#32 1724713080#32 n).symm
  have p10 : k0_pay10 v6 0#32 1#32 k0_t1 j = (st 1832780943#32 270669613#32 1724713080#32 n 3).1 := q468
  have q474 := (word_xor (word_or (shlv26 p9) (shrv6 p9)) p10).trans (st_2_3 1832780943#32 270669613#32 1724713080#32 n).symm
  have p11 : k0_pay11 v6 0#32 1#32 k0_t1 j = (st 1832780943#32 270669613#32 1724713080#32 n 3).2 := q474
  have q475 := (word_add p10 p11).trans (st_1_4 1832780943#32 270669613#32 1724713080#32 n).symm
  have p12 : k0_pay12 v6 0#32 1#32 k0_t1 j = (st 1832780943#32 270669613#32 1724713080#32 n 4).1 := q475
  have q483 := (word_add p12 (rfl : 270669613#32 = 270669613#32)).trans (st_1_5 1832780943#32 270669613#32 1724713080#32 n).symm
  have p13 : k0_pay13 v6 0#32 1#32 k0_t1 j = (st 1832780943#32 270669613#32 1724713080#32 n 5).1 := q483
  have q481 := (word_xor (word_or (shlv6 p11) (shrv26 p11)) p12).trans (st_2_4 1832780943#32 270669613#32 1724713080#32 n).symm
  have p14 : k0_pay14 v6 0#32 1#32 k0_t1 j = (st 1832780943#32 270669613#32 1724713080#32 n 4).2 + 1724713080#32 := (word_add q481 (rfl : 1724713080#32 = 1724713080#32))
  exact ⟨p13, p14⟩

/-- First key, the chunk: the second group. -/
theorem chunkU2 (v483 v485 : IVec S8x512 32) (j : S8x512.Idx) (n : BitVec 32) (h483 : v483 j = (st 1832780943#32 270669613#32 1724713080#32 n 5).1) (h485 : v485 j = (st 1832780943#32 270669613#32 1724713080#32 n 4).2 + 1724713080#32) :
    k0_pay25 v483 v485 1#32 j = (st 1832780943#32 270669613#32 1724713080#32 n 11).2 ∧ k0_pay26 v483 v485 1#32 j = (st 1832780943#32 270669613#32 1724713080#32 n 12).1 ∧ k0_pay27 v483 v485 1#32 j = (st 1832780943#32 270669613#32 1724713080#32 n 11).2 <<< 15 := by
  have q487 := (word_add h485 (rfl : 1#32 = 1#32)).trans (st_2_5 1832780943#32 270669613#32 1724713080#32 n).symm
  have p15 : k0_pay15 v485 1#32 j = (st 1832780943#32 270669613#32 1724713080#32 n 5).2 := q487
  have q488 := (word_add h483 p15).trans (st_1_6 1832780943#32 270669613#32 1724713080#32 n).symm
  have p16 : k0_pay16 v483 v485 1#32 j = (st 1832780943#32 270669613#32 1724713080#32 n 6).1 := q488
  have q494 := (word_xor (word_or (shlv17 p15) (shrv15 p15)) p16).trans (st_2_6 1832780943#32 270669613#32 1724713080#32 n).symm
  have p17 : k0_pay17 v483 v485 1#32 j = (st 1832780943#32 270669613#32 1724713080#32 n 6).2 := q494
  have q495 := (word_add p16 p17).trans (st_1_7 1832780943#32 270669613#32 1724713080#32 n).symm
  have p18 : k0_pay18 v483 v485 1#32 j = (st 1832780943#32 270669613#32 1724713080#32 n 7).1 := q495
  have q501 := (word_xor (word_or (shlv29 p17) (shrv3 p17)) p18).trans (st_2_7 1832780943#32 270669613#32 1724713080#32 n).symm
  have p19 : k0_pay19 v483 v485 1#32 j = (st 1832780943#32 270669613#32 1724713080#32 n 7).2 := q501
  have q502 := (word_add p18 p19).trans (st_1_8 1832780943#32 270669613#32 1724713080#32 n).symm
  have p20 : k0_pay20 v483 v485 1#32 j = (st 1832780943#32 270669613#32 1724713080#32 n 8).1 := q502
  have q508 := (word_xor (word_or (shlv16 p19) (shrv16 p19)) p20).trans (st_2_8 1832780943#32 270669613#32 1724713080#32 n).symm
  have p21 : k0_pay21 v483 v485 1#32 j = (st 1832780943#32 270669613#32 1724713080#32 n 8).2 := q508
  have q509 := (word_add p20 p21).trans (st_1_9 1832780943#32 270669613#32 1724713080#32 n).symm
  have p22 : k0_pay22 v483 v485 1#32 j = (st 1832780943#32 270669613#32 1724713080#32 n 9).1 := q509
  have q515 := (word_xor (word_or (shlv24 p21) (shrv8 p21)) p22).trans (st_2_9 1832780943#32 270669613#32 1724713080#32 n).symm
  have q521 := (word_add (word_add q515 (rfl : 1832780943#32 = 1832780943#32)) (rfl : 2#32 = 2#32)).trans (st_2_10 1832780943#32 270669613#32 1724713080#32 n).symm
  have p23 : k0_pay23 v483 v485 1#32 j = (st 1832780943#32 270669613#32 1724713080#32 n 10).2 := q521
  have q517 := (word_add p22 (rfl : 1724713080#32 = 1724713080#32)).trans (st_1_10 1832780943#32 270669613#32 1724713080#32 n).symm
  have q522 := (word_add q517 p23).trans (st_1_11 1832780943#32 270669613#32 1724713080#32 n).symm
  have p24 : k0_pay24 v483 v485 1#32 j = (st 1832780943#32 270669613#32 1724713080#32 n 11).1 := q522
  have q528 := (word_xor (word_or (shlv13 p23) (shrv19 p23)) p24).trans (st_2_11 1832780943#32 270669613#32 1724713080#32 n).symm
  have p25 : k0_pay25 v483 v485 1#32 j = (st 1832780943#32 270669613#32 1724713080#32 n 11).2 := q528
  have q529 := (word_add p24 p25).trans (st_1_12 1832780943#32 270669613#32 1724713080#32 n).symm
  have p26 : k0_pay26 v483 v485 1#32 j = (st 1832780943#32 270669613#32 1724713080#32 n 12).1 := q529
  have p27 : k0_pay27 v483 v485 1#32 j = (st 1832780943#32 270669613#32 1724713080#32 n 11).2 <<< 15 := (shlv15 p25)
  exact ⟨p25, p26, p27⟩

/-- First key, the chunk: the third group. -/
theorem chunkU3 (v528 v529 v531 : IVec S8x512 32) (j : S8x512.Idx) (n : BitVec 32) (h528 : v528 j = (st 1832780943#32 270669613#32 1724713080#32 n 11).2) (h529 : v529 j = (st 1832780943#32 270669613#32 1724713080#32 n 12).1) (h531 : v531 j = (st 1832780943#32 270669613#32 1724713080#32 n 11).2 <<< 15) :
    k0_pay38 v528 v529 v531 j = (st 1832780943#32 270669613#32 1724713080#32 n 18).2 ∧ k0_pay39 v528 v529 v531 j = (st 1832780943#32 270669613#32 1724713080#32 n 19).1 := by
  have q535 := (word_xor (word_or h531 (shrv17 h528)) h529).trans (st_2_12 1832780943#32 270669613#32 1724713080#32 n).symm
  have p28 : k0_pay28 v528 v529 v531 j = (st 1832780943#32 270669613#32 1724713080#32 n 12).2 := q535
  have q536 := (word_add h529 p28).trans (st_1_13 1832780943#32 270669613#32 1724713080#32 n).symm
  have p29 : k0_pay29 v528 v529 v531 j = (st 1832780943#32 270669613#32 1724713080#32 n 13).1 := q536
  have q542 := (word_xor (word_or (shlv26 p28) (shrv6 p28)) p29).trans (st_2_13 1832780943#32 270669613#32 1724713080#32 n).symm
  have p30 : k0_pay30 v528 v529 v531 j = (st 1832780943#32 270669613#32 1724713080#32 n 13).2 := q542
  have q543 := (word_add p29 p30).trans (st_1_14 1832780943#32 270669613#32 1724713080#32 n).symm
  have p31 : k0_pay31 v528 v529 v531 j = (st 1832780943#32 270669613#32 1724713080#32 n 14).1 := q543
  have q549 := (word_xor (word_or (shlv6 p30) (shrv26 p30)) p31).trans (st_2_14 1832780943#32 270669613#32 1724713080#32 n).symm
  have q555 := (word_add (word_add q549 (rfl : 270669613#32 = 270669613#32)) (rfl : 3#32 = 3#32)).trans (st_2_15 1832780943#32 270669613#32 1724713080#32 n).symm
  have p32 : k0_pay32 v528 v529 v531 j = (st 1832780943#32 270669613#32 1724713080#32 n 15).2 := q555
  have q551 := (word_add p31 (rfl : 1832780943#32 = 1832780943#32)).trans (st_1_15 1832780943#32 270669613#32 1724713080#32 n).symm
  have q556 := (word_add q551 p32).trans (st_1_16 1832780943#32 270669613#32 1724713080#32 n).symm
  have p33 : k0_pay33 v528 v529 v531 j = (st 1832780943#32 270669613#32 1724713080#32 n 16).1 := q556
  have q562 := (word_xor (word_or (shlv17 p32) (shrv15 p32)) p33).trans (st_2_16 1832780943#32 270669613#32 1724713080#32 n).symm
  have p34 : k0_pay34 v528 v529 v531 j = (st 1832780943#32 270669613#32 1724713080#32 n 16).2 := q562
  have q563 := (word_add p33 p34).trans (st_1_17 1832780943#32 270669613#32 1724713080#32 n).symm
  have p35 : k0_pay35 v528 v529 v531 j = (st 1832780943#32 270669613#32 1724713080#32 n 17).1 := q563
  have q569 := (word_xor (word_or (shlv29 p34) (shrv3 p34)) p35).trans (st_2_17 1832780943#32 270669613#32 1724713080#32 n).symm
  have p36 : k0_pay36 v528 v529 v531 j = (st 1832780943#32 270669613#32 1724713080#32 n 17).2 := q569
  have q570 := (word_add p35 p36).trans (st_1_18 1832780943#32 270669613#32 1724713080#32 n).symm
  have p37 : k0_pay37 v528 v529 v531 j = (st 1832780943#32 270669613#32 1724713080#32 n 18).1 := q570
  have q576 := (word_xor (word_or (shlv16 p36) (shrv16 p36)) p37).trans (st_2_18 1832780943#32 270669613#32 1724713080#32 n).symm
  have p38 : k0_pay38 v528 v529 v531 j = (st 1832780943#32 270669613#32 1724713080#32 n 18).2 := q576
  have q577 := (word_add p37 p38).trans (st_1_19 1832780943#32 270669613#32 1724713080#32 n).symm
  have p39 : k0_pay39 v528 v529 v531 j = (st 1832780943#32 270669613#32 1724713080#32 n 19).1 := q577
  exact ⟨p38, p39⟩

/-- First key, the chunk: the fourth group. -/
theorem chunkU4 (v576 v577 : IVec S8x512 32) (j : S8x512.Idx) (n : BitVec 32) (h576 : v576 j = (st 1832780943#32 270669613#32 1724713080#32 n 18).2) (h577 : v577 j = (st 1832780943#32 270669613#32 1724713080#32 n 19).1) :
    k0_pay48 v576 v577 j = (st 1832780943#32 270669613#32 1724713080#32 n 25).1 ∧ k0_pay49 v576 v577 j = (st 1832780943#32 270669613#32 1724713080#32 n 24).2 + 1832780943#32 := by
  have q583 := (word_xor (word_or (shlv24 h576) (shrv8 h576)) h577).trans (st_2_19 1832780943#32 270669613#32 1724713080#32 n).symm
  have q589 := (word_add (word_add q583 (rfl : 1724713080#32 = 1724713080#32)) (rfl : 4#32 = 4#32)).trans (st_2_20 1832780943#32 270669613#32 1724713080#32 n).symm
  have p40 : k0_pay40 v576 v577 j = (st 1832780943#32 270669613#32 1724713080#32 n 20).2 := q589
  have q585 := (word_add h577 (rfl : 270669613#32 = 270669613#32)).trans (st_1_20 1832780943#32 270669613#32 1724713080#32 n).symm
  have q590 := (word_add q585 p40).trans (st_1_21 1832780943#32 270669613#32 1724713080#32 n).symm
  have p41 : k0_pay41 v576 v577 j = (st 1832780943#32 270669613#32 1724713080#32 n 21).1 := q590
  have q596 := (word_xor (word_or (shlv13 p40) (shrv19 p40)) p41).trans (st_2_21 1832780943#32 270669613#32 1724713080#32 n).symm
  have p42 : k0_pay42 v576 v577 j = (st 1832780943#32 270669613#32 1724713080#32 n 21).2 := q596
  have q597 := (word_add p41 p42).trans (st_1_22 1832780943#32 270669613#32 1724713080#32 n).symm
  have p43 : k0_pay43 v576 v577 j = (st 1832780943#32 270669613#32 1724713080#32 n 22).1 := q597
  have q603 := (word_xor (word_or (shlv15 p42) (shrv17 p42)) p43).trans (st_2_22 1832780943#32 270669613#32 1724713080#32 n).symm
  have p44 : k0_pay44 v576 v577 j = (st 1832780943#32 270669613#32 1724713080#32 n 22).2 := q603
  have q604 := (word_add p43 p44).trans (st_1_23 1832780943#32 270669613#32 1724713080#32 n).symm
  have p45 : k0_pay45 v576 v577 j = (st 1832780943#32 270669613#32 1724713080#32 n 23).1 := q604
  have q610 := (word_xor (word_or (shlv26 p44) (shrv6 p44)) p45).trans (st_2_23 1832780943#32 270669613#32 1724713080#32 n).symm
  have p46 : k0_pay46 v576 v577 j = (st 1832780943#32 270669613#32 1724713080#32 n 23).2 := q610
  have q611 := (word_add p45 p46).trans (st_1_24 1832780943#32 270669613#32 1724713080#32 n).symm
  have p47 : k0_pay47 v576 v577 j = (st 1832780943#32 270669613#32 1724713080#32 n 24).1 := q611
  have q619 := (word_add p47 (rfl : 1724713080#32 = 1724713080#32)).trans (st_1_25 1832780943#32 270669613#32 1724713080#32 n).symm
  have p48 : k0_pay48 v576 v577 j = (st 1832780943#32 270669613#32 1724713080#32 n 25).1 := q619
  have q617 := (word_xor (word_or (shlv6 p46) (shrv26 p46)) p47).trans (st_2_24 1832780943#32 270669613#32 1724713080#32 n).symm
  have p49 : k0_pay49 v576 v577 j = (st 1832780943#32 270669613#32 1724713080#32 n 24).2 + 1832780943#32 := (word_add q617 (rfl : 1832780943#32 = 1832780943#32))
  exact ⟨p48, p49⟩

/-- The chunk of unnormalised weights: `exp (x - m)` over the noise term. -/
theorem chunkE (v12 : FVec F S8x1 .f32) (v445 : FVec F S8x512 .f32) (v619 v621 : IVec S8x512 32) (j : S8x512.Idx) (n : BitVec 32) (h619 : v619 j = (st 1832780943#32 270669613#32 1724713080#32 n 25).1) (h621 : v621 j = (st 1832780943#32 270669613#32 1724713080#32 n 24).2 + 1832780943#32) :
    k0_pay50 v12 v445 v619 v621 5#32 j = FloatOps.divf (FloatOps.exp (FloatOps.subf (v445 j) (broadcastTo S8x512 v12 broadcasts_S8x1_S8x512 j))) (gumbelDen F n) := by
  have q623 := (word_add h621 (rfl : 5#32 = 5#32)).trans (st_2_25 1832780943#32 270669613#32 1724713080#32 n).symm
  have q624 := (word_xor h619 q623)
  have qw := word_or (shrv9 q624) (rfl : 1065353216#32 = 1065353216#32)
  exact congrArg (fun w : BitVec 32 => FloatOps.divf (FloatOps.exp (FloatOps.subf (v445 j) (broadcastTo S8x512 v12 broadcasts_S8x1_S8x512 j))) (FloatOps.subf (fbits 0x00000000#32) (FloatOps.log (FloatOps.addf (FloatOps.mulf (FloatOps.subf (fbits (F := F) w) (fbits 0x3F800000#32)) (fbits 0x3F7FBE77#32)) (fbits 0x2B8CBCCC#32))))) qw

/-- Second key, the chunk: the first group. -/
theorem chunkS1 (v450 : IVec S8x512 32) (j : S8x512.Idx) (n : BitVec 32) (h450 : v450 j = n) :
    k0_pay57 v450 j = (st 64467757#32 2916123636#32 3050711811#32 n 3).2 ∧ k0_pay58 v450 j = (st 64467757#32 2916123636#32 3050711811#32 n 4).1 := by
  have q645 := (word_add h450 (rfl : 2916123636#32 = 2916123636#32)).trans (st_2_0 64467757#32 2916123636#32 3050711811#32 n).symm
  have p51 : k0_pay51 v450 j = (st 64467757#32 2916123636#32 3050711811#32 n 0).2 := q645
  have q646 := (word_add (st_1_0 64467757#32 2916123636#32 3050711811#32 n).symm p51).trans (st_1_1 64467757#32 2916123636#32 3050711811#32 n).symm
  have p52 : k0_pay52 v450 j = (st 64467757#32 2916123636#32 3050711811#32 n 1).1 := q646
  have q652 := (word_xor (word_or (shlv13 p51) (shrv19 p51)) p52).trans (st_2_1 64467757#32 2916123636#32 3050711811#32 n).symm
  have p53 : k0_pay53 v450 j = (st 64467757#32 2916123636#32 3050711811#32 n 1).2 := q652
  have q653 := (word_add p52 p53).trans (st_1_2 64467757#32 2916123636#32 3050711811#32 n).symm
  have p54 : k0_pay54 v450 j = (st 64467757#32 2916123636#32 3050711811#32 n 2).1 := q653
  have q659 := (word_xor (word_or (shlv15 p53) (shrv17 p53)) p54).trans (st_2_2 64467757#32 2916123636#32 3050711811#32 n).symm
  have p55 : k0_pay55 v450 j = (st 64467757#32 2916123636#32 3050711811#32 n 2).2 := q659
  have q660 := (word_add p54 p55).trans (st_1_3 64467757#32 2916123636#32 3050711811#32 n).symm
  have p56 : k0_pay56 v450 j = (st 64467757#32 2916123636#32 3050711811#32 n 3).1 := q660
  have q666 := (word_xor (word_or (shlv26 p55) (shrv6 p55)) p56).trans (st_2_3 64467757#32 2916123636#32 3050711811#32 n).symm
  have p57 : k0_pay57 v450 j = (st 64467757#32 2916123636#32 3050711811#32 n 3).2 := q666
  have q667 := (word_add p56 p57).trans (st_1_4 64467757#32 2916123636#32 3050711811#32 n).symm
  have p58 : k0_pay58 v450 j = (st 64467757#32 2916123636#32 3050711811#32 n 4).1 := q667
  exact ⟨p57, p58⟩

/-- Second key, the chunk: the second group. -/
theorem chunkS2 (v666 v667 : IVec S8x512 32) (j : S8x512.Idx) (n : BitVec 32) (h666 : v666 j = (st 64467757#32 2916123636#32 3050711811#32 n 3).2) (h667 : v667 j = (st 64467757#32 2916123636#32 3050711811#32 n 4).1) :
    k0_pay67 v666 v667 j = (st 64467757#32 2916123636#32 3050711811#32 n 10).1 ∧ k0_pay68 v666 v667 j = (st 64467757#32 2916123636#32 3050711811#32 n 9).2 + 64467757#32 := by
  have q673 := (word_xor (word_or (shlv6 h666) (shrv26 h666)) h667).trans (st_2_4 64467757#32 2916123636#32 3050711811#32 n).symm
  have q679 := (word_add (word_add q673 (rfl : 3050711811#32 = 3050711811#32)) (rfl : 1#32 = 1#32)).trans (st_2_5 64467757#32 2916123636#32 3050711811#32 n).symm
  have p59 : k0_pay59 v666 v667 j = (st 64467757#32 2916123636#32 3050711811#32 n 5).2 := q679
  have q675 := (word_add h667 (rfl : 2916123636#32 = 2916123636#32)).trans (st_1_5 64467757#32 2916123636#32 3050711811#32 n).symm
  have q680 := (word_add q675 p59).trans (st_1_6 64467757#32 2916123636#32 3050711811#32 n).symm
  have p60 : k0_pay60 v666 v667 j = (st 64467757#32 2916123636#32 3050711811#32 n 6).1 := q680
  have q686 := (word_xor (word_or (shlv17 p59) (shrv15 p59)) p60).trans (st_2_6 64467757#32 2916123636#32 3050711811#32 n).symm
  have p61 : k0_pay61 v666 v667 j = (st 64467757#32 2916123636#32 3050711811#32 n 6).2 := q686
  have q687 := (word_add p60 p61).trans (st_1_7 64467757#32 2916123636#32 3050711811#32 n).symm
  have p62 : k0_pay62 v666 v667 j = (st 64467757#32 2916123636#32 3050711811#32 n 7).1 := q687
  have q693 := (word_xor (word_or (shlv29 p61) (shrv3 p61)) p62).trans (st_2_7 64467757#32 2916123636#32 3050711811#32 n).symm
  have p63 : k0_pay63 v666 v667 j = (st 64467757#32 2916123636#32 3050711811#32 n 7).2 := q693
  have q694 := (word_add p62 p63).trans (st_1_8 64467757#32 2916123636#32 3050711811#32 n).symm
  have p64 : k0_pay64 v666 v667 j = (st 64467757#32 2916123636#32 3050711811#32 n 8).1 := q694
  have q700 := (word_xor (word_or (shlv16 p63) (shrv16 p63)) p64).trans (st_2_8 64467757#32 2916123636#32 3050711811#32 n).symm
  have p65 : k0_pay65 v666 v667 j = (st 64467757#32 2916123636#32 3050711811#32 n 8).2 := q700
  have q701 := (word_add p64 p65).trans (st_1_9 64467757#32 2916123636#32 3050711811#32 n).symm
  have p66 : k0_pay66 v666 v667 j = (st 64467757#32 2916123636#32 3050711811#32 n 9).1 := q701
  have q709 := (word_add p66 (rfl : 3050711811#32 = 3050711811#32)).trans (st_1_10 64467757#32 2916123636#32 3050711811#32 n).symm
  have p67 : k0_pay67 v666 v667 j = (st 64467757#32 2916123636#32 3050711811#32 n 10).1 := q709
  have q707 := (word_xor (word_or (shlv24 p65) (shrv8 p65)) p66).trans (st_2_9 64467757#32 2916123636#32 3050711811#32 n).symm
  have p68 : k0_pay68 v666 v667 j = (st 64467757#32 2916123636#32 3050711811#32 n 9).2 + 64467757#32 := (word_add q707 (rfl : 64467757#32 = 64467757#32))
  exact ⟨p67, p68⟩

/-- Second key, the chunk: the third group. -/
theorem chunkS3 (v709 v711 : IVec S8x512 32) (j : S8x512.Idx) (n : BitVec 32) (h709 : v709 j = (st 64467757#32 2916123636#32 3050711811#32 n 10).1) (h711 : v711 j = (st 64467757#32 2916123636#32 3050711811#32 n 9).2 + 64467757#32) :
    k0_pay79 v709 v711 2#32 j = (st 64467757#32 2916123636#32 3050711811#32 n 16).2 ∧ k0_pay80 v709 v711 2#32 j = (st 64467757#32 2916123636#32 3050711811#32 n 17).1 ∧ k0_pay81 v709 v711 2#32 j = (st 64467757#32 2916123636#32 3050711811#32 n 16).2 <<< 29 := by
  have q713 := (word_add h711 (rfl : 2#32 = 2#32)).trans (st_2_10 64467757#32 2916123636#32 3050711811#32 n).symm
  have p69 : k0_pay69 v711 2#32 j = (st 64467757#32 2916123636#32 3050711811#32 n 10).2 := q713
  have q714 := (word_add h709 p69).trans (st_1_11 64467757#32 2916123636#32 3050711811#32 n).symm
  have p70 : k0_pay70 v709 v711 2#32 j = (st 64467757#32 2916123636#32 3050711811#32 n 11).1 := q714
  have q720 := (word_xor (word_or (shlv13 p69) (shrv19 p69)) p70).trans (st_2_11 64467757#32 2916123636#32 3050711811#32 n).symm
  have p71 : k0_pay71 v709 v711 2#32 j = (st 64467757#32 2916123636#32 3050711811#32 n 11).2 := q720
  have q721 := (word_add p70 p71).trans (st_1_12 64467757#32 2916123636#32 3050711811#32 n).symm
  have p72 : k0_pay72 v709 v711 2#32 j = (st 64467757#32 2916123636#32 3050711811#32 n 12).1 := q721
  have q727 := (word_xor (word_or (shlv15 p71) (shrv17 p71)) p72).trans (st_2_12 64467757#32 2916123636#32 3050711811#32 n).symm
  have p73 : k0_pay73 v709 v711 2#32 j = (st 64467757#32 2916123636#32 3050711811#32 n 12).2 := q727
  have q728 := (word_add p72 p73).trans (st_1_13 64467757#32 2916123636#32 3050711811#32 n).symm
  have p74 : k0_pay74 v709 v711 2#32 j = (st 64467757#32 2916123636#32 3050711811#32 n 13).1 := q728
  have q734 := (word_xor (word_or (shlv26 p73) (shrv6 p73)) p74).trans (st_2_13 64467757#32 2916123636#32 3050711811#32 n).symm
  have p75 : k0_pay75 v709 v711 2#32 j = (st 64467757#32 2916123636#32 3050711811#32 n 13).2 := q734
  have q735 := (word_add p74 p75).trans (st_1_14 64467757#32 2916123636#32 3050711811#32 n).symm
  have p76 : k0_pay76 v709 v711 2#32 j = (st 64467757#32 2916123636#32 3050711811#32 n 14).1 := q735
  have q741 := (word_xor (word_or (shlv6 p75) (shrv26 p75)) p76).trans (st_2_14 64467757#32 2916123636#32 3050711811#32 n).symm
  have q747 := (word_add (word_add q741 (rfl : 2916123636#32 = 2916123636#32)) (rfl : 3#32 = 3#32)).trans (st_2_15 64467757#32 2916123636#32 3050711811#32 n).symm
  have p77 : k0_pay77 v709 v711 2#32 j = (st 64467757#32 2916123636#32 3050711811#32 n 15).2 := q747
  have q743 := (word_add p76 (rfl : 64467757#32 = 64467757#32)).trans (st_1_15 64467757#32 2916123636#32 3050711811#32 n).symm
  have q748 := (word_add q743 p77).trans (st_1_16 64467757#32 2916123636#32 3050711811#32 n).symm
  have p78 : k0_pay78 v709 v711 2#32 j = (st 64467757#32 2916123636#32 3050711811#32 n 16).1 := q748
  have q754 := (word_xor (word_or (shlv17 p77) (shrv15 p77)) p78).trans (st_2_16 64467757#32 2916123636#32 3050711811#32 n).symm
  have p79 : k0_pay79 v709 v711 2#32 j = (st 64467757#32 2916123636#32 3050711811#32 n 16).2 := q754
  have q755 := (word_add p78 p79).trans (st_1_17 64467757#32 2916123636#32 3050711811#32 n).symm
  have p80 : k0_pay80 v709 v711 2#32 j = (st 64467757#32 2916123636#32 3050711811#32 n 17).1 := q755
  have p81 : k0_pay81 v709 v711 2#32 j = (st 64467757#32 2916123636#32 3050711811#32 n 16).2 <<< 29 := (shlv29 p79)
  exact ⟨p79, p80, p81⟩

/-- Second key, the chunk: the fourth group. -/
theorem chunkS4 (v754 v755 v757 : IVec S8x512 32) (j : S8x512.Idx) (n : BitVec 32) (h754 : v754 j = (st 64467757#32 2916123636#32 3050711811#32 n 16).2) (h755 : v755 j = (st 64467757#32 2916123636#32 3050711811#32 n 17).1) (h757 : v757 j = (st 64467757#32 2916123636#32 3050711811#32 n 16).2 <<< 29) :
    k0_pay92 v754 v755 v757 j = (st 64467757#32 2916123636#32 3050711811#32 n 23).2 ∧ k0_pay93 v754 v755 v757 j = (st 64467757#32 2916123636#32 3050711811#32 n 24).1 := by
  have q761 := (word_xor (word_or h757 (shrv3 h754)) h755).trans (st_2_17 64467757#32 2916123636#32 3050711811#32 n).symm
  have p82 : k0_pay82 v754 v755 v757 j = (st 64467757#32 2916123636#32 3050711811#32 n 17).2 := q761
  have q762 := (word_add h755 p82).trans (st_1_18 64467757#32 2916123636#32 3050711811#32 n).symm
  have p83 : k0_pay83 v754 v755 v757 j = (st 64467757#32 2916123636#32 3050711811#32 n 18).1 := q762
  have q768 := (word_xor (word_or (shlv16 p82) (shrv16 p82)) p83).trans (st_2_18 64467757#32 2916123636#32 3050711811#32 n).symm
  have p84 : k0_pay84 v754 v755 v757 j = (st 64467757#32 2916123636#32 3050711811#32 n 18).2 := q768
  have q769 := (word_add p83 p84).trans (st_1_19 64467757#32 2916123636#32 3050711811#32 n).symm
  have p85 : k0_pay85 v754 v755 v757 j = (st 64467757#32 2916123636#32 3050711811#32 n 19).1 := q769
  have q775 := (word_xor (word_or (shlv24 p84) (shrv8 p84)) p85).trans (st_2_19 64467757#32 2916123636#32 3050711811#32 n).symm
  have q781 := (word_add (word_add q775 (rfl : 3050711811#32 = 3050711811#32)) (rfl : 4#32 = 4#32)).trans (st_2_20 64467757#32 2916123636#32 3050711811#32 n).symm
  have p86 : k0_pay86 v754 v755 v757 j = (st 64467757#32 2916123636#32 3050711811#32 n 20).2 := q781
  have q777 := (word_add p85 (rfl : 2916123636#32 = 2916123636#32)).trans (st_1_20 64467757#32 2916123636#32 3050711811#32 n).symm
  have q782 := (word_add q777 p86).trans (st_1_21 64467757#32 2916123636#32 3050711811#32 n).symm
  have p87 : k0_pay87 v754 v755 v757 j = (st 64467757#32 2916123636#32 3050711811#32 n 21).1 := q782
  have q788 := (word_xor (word_or (shlv13 p86) (shrv19 p86)) p87).trans (st_2_21 64467757#32 2916123636#32 3050711811#32 n).symm
  have p88 : k0_pay88 v754 v755 v757 j = (st 64467757#32 2916123636#32 3050711811#32 n 21).2 := q788
  have q789 := (word_add p87 p88).trans (st_1_22 64467757#32 2916123636#32 3050711811#32 n).symm
  have p89 : k0_pay89 v754 v755 v757 j = (st 64467757#32 2916123636#32 3050711811#32 n 22).1 := q789
  have q795 := (word_xor (word_or (shlv15 p88) (shrv17 p88)) p89).trans (st_2_22 64467757#32 2916123636#32 3050711811#32 n).symm
  have p90 : k0_pay90 v754 v755 v757 j = (st 64467757#32 2916123636#32 3050711811#32 n 22).2 := q795
  have q796 := (word_add p89 p90).trans (st_1_23 64467757#32 2916123636#32 3050711811#32 n).symm
  have p91 : k0_pay91 v754 v755 v757 j = (st 64467757#32 2916123636#32 3050711811#32 n 23).1 := q796
  have q802 := (word_xor (word_or (shlv26 p90) (shrv6 p90)) p91).trans (st_2_23 64467757#32 2916123636#32 3050711811#32 n).symm
  have p92 : k0_pay92 v754 v755 v757 j = (st 64467757#32 2916123636#32 3050711811#32 n 23).2 := q802
  have q803 := (word_add p91 p92).trans (st_1_24 64467757#32 2916123636#32 3050711811#32 n).symm
  have p93 : k0_pay93 v754 v755 v757 j = (st 64467757#32 2916123636#32 3050711811#32 n 24).1 := q803
  exact ⟨p92, p93⟩

/-- The chunk of sampling weights: the unnormalised weight over the draw term. -/
theorem chunkV (v642 : FVec F S8x512 .f32) (v802 v803 : IVec S8x512 32) (j : S8x512.Idx) (n : BitVec 32) (h802 : v802 j = (st 64467757#32 2916123636#32 3050711811#32 n 23).2) (h803 : v803 j = (st 64467757#32 2916123636#32 3050711811#32 n 24).1) :
    k0_pay99 v642 v802 v803 j = FloatOps.divf (v642 j) (drawDen F n) := by
  have q809 := (word_xor (word_or (shlv6 h802) (shrv26 h802)) h803).trans (st_2_24 64467757#32 2916123636#32 3050711811#32 n).symm
  have q811 := (word_add h803 (rfl : 3050711811#32 = 3050711811#32)).trans (st_1_25 64467757#32 2916123636#32 3050711811#32 n).symm
  have q815 := (word_add (word_add q809 (rfl : 64467757#32 = 64467757#32)) (rfl : 5#32 = 5#32)).trans (st_2_25 64467757#32 2916123636#32 3050711811#32 n).symm
  have q816 := (word_xor q811 q815)
  have qw := word_or (shrv9 q816) (rfl : 1065353216#32 = 1065353216#32)
  exact congrArg (fun w : BitVec 32 => FloatOps.divf (v642 j) (FloatOps.subf (fbits 0x00000000#32) (FloatOps.log (FloatOps.maximumf (fbits 0x00800000#32) (FloatOps.subf (fbits (F := F) w) (fbits 0x3F800000#32)))))) qw

/-- First key, the tail: the first rounds. -/
theorem tailU1 (i : grid0.Coords) (j : S8x160.Idx) (n : BitVec 32) (hn : k0_pay105 i j = n) :
    k0_pay108 i j = (st 1832780943#32 270669613#32 1724713080#32 n 1).2 ∧ k0_pay109 i j = (st 1832780943#32 270669613#32 1724713080#32 n 2).1 := by
  have q28 := (word_add hn (rfl : 270669613#32 = 270669613#32)).trans (st_2_0 1832780943#32 270669613#32 1724713080#32 n).symm
  have p106 : k0_pay106 i j = (st 1832780943#32 270669613#32 1724713080#32 n 0).2 := q28
  have q29 := (word_add (st_1_0 1832780943#32 270669613#32 1724713080#32 n).symm p106).trans (st_1_1 1832780943#32 270669613#32 1724713080#32 n).symm
  have p107 : k0_pay107 i j = (st 1832780943#32 270669613#32 1724713080#32 n 1).1 := q29
  have q35 := (word_xor (word_or (shlv13 p106) (shrv19 p106)) p107).trans (st_2_1 1832780943#32 270669613#32 1724713080#32 n).symm
  have p108 : k0_pay108 i j = (st 1832780943#32 270669613#32 1724713080#32 n 1).2 := q35
  have q36 := (word_add p107 p108).trans (st_1_2 1832780943#32 270669613#32 1724713080#32 n).symm
  have p109 : k0_pay109 i j = (st 1832780943#32 270669613#32 1724713080#32 n 2).1 := q36
  exact ⟨p108, p109⟩

/-- First key, the tail: the second group. -/
theorem tailU2 (v35 v36 : IVec S8x160 32) (j : S8x160.Idx) (n : BitVec 32) (h35 : v35 j = (st 1832780943#32 270669613#32 1724713080#32 n 1).2) (h36 : v36 j = (st 1832780943#32 270669613#32 1724713080#32 n 2).1) :
    k0_pay119 v35 v36 15#32 j = (st 1832780943#32 270669613#32 1724713080#32 n 8).1 ∧ k0_pay120 v35 v36 15#32 j = ((st 1832780943#32 270669613#32 1724713080#32 n 7).2 <<< 16 ||| (st 1832780943#32 270669613#32 1724713080#32 n 7).2 >>> 16) := by
  have q42 := (word_xor (word_or (shlv15 h35) (shrv17 h35)) h36).trans (st_2_2 1832780943#32 270669613#32 1724713080#32 n).symm
  have p110 : k0_pay110 v35 v36 15#32 j = (st 1832780943#32 270669613#32 1724713080#32 n 2).2 := q42
  have q43 := (word_add h36 p110).trans (st_1_3 1832780943#32 270669613#32 1724713080#32 n).symm
  have p111 : k0_pay111 v35 v36 15#32 j = (st 1832780943#32 270669613#32 1724713080#32 n 3).1 := q43
  have q49 := (word_xor (word_or (shlv26 p110) (shrv6 p110)) p111).trans (st_2_3 1832780943#32 270669613#32 1724713080#32 n).symm
  have p112 : k0_pay112 v35 v36 15#32 j = (st 1832780943#32 270669613#32 1724713080#32 n 3).2 := q49
  have q50 := (word_add p111 p112).trans (st_1_4 1832780943#32 270669613#32 1724713080#32 n).symm
  have p113 : k0_pay113 v35 v36 15#32 j = (st 1832780943#32 270669613#32 1724713080#32 n 4).1 := q50
  have q56 := (word_xor (word_or (shlv6 p112) (shrv26 p112)) p113).trans (st_2_4 1832780943#32 270669613#32 1724713080#32 n).symm
  have q62 := (word_add (word_add q56 (rfl : 1724713080#32 = 1724713080#32)) (rfl : 1#32 = 1#32)).trans (st_2_5 1832780943#32 270669613#32 1724713080#32 n).symm
  have p114 : k0_pay114 v35 v36 15#32 j = (st 1832780943#32 270669613#32 1724713080#32 n 5).2 := q62
  have q58 := (word_add p113 (rfl : 270669613#32 = 270669613#32)).trans (st_1_5 1832780943#32 270669613#32 1724713080#32 n).symm
  have q63 := (word_add q58 p114).trans (st_1_6 1832780943#32 270669613#32 1724713080#32 n).symm
  have p115 : k0_pay115 v35 v36 15#32 j = (st 1832780943#32 270669613#32 1724713080#32 n 6).1 := q63
  have q69 := (word_xor (word_or (shlv17 p114) (shrv15 p114)) p115).trans (st_2_6 1832780943#32 270669613#32 1724713080#32 n).symm
  have p116 : k0_pay116 v35 v36 15#32 j = (st 1832780943#32 270669613#32 1724713080#32 n 6).2 := q69
  have q70 := (word_add p115 p116).trans (st_1_7 1832780943#32 270669613#32 1724713080#32 n).symm
  have p117 : k0_pay117 v35 v36 15#32 j = (st 1832780943#32 270669613#32 1724713080#32 n 7).1 := q70
  have q76 := (word_xor (word_or (shlv29 p116) (shrv3 p116)) p117).trans (st_2_7 1832780943#32 270669613#32 1724713080#32 n).symm
  have p118 : k0_pay118 v35 v36 15#32 j = (st 1832780943#32 270669613#32 1724713080#32 n 7).2 := q76
  have q77 := (word_add p117 p118).trans (st_1_8 1832780943#32 270669613#32 1724713080#32 n).symm
  have p119 : k0_pay119 v35 v36 15#32 j = (st 1832780943#32 270669613#32 1724713080#32 n 8).1 := q77
  have p120 : k0_pay120 v35 v36 15#32 j = ((st 1832780943#32 270669613#32 1724713080#32 n 7).2 <<< 16 ||| (st 1832780943#32 270669613#32 1724713080#32 n 7).2 >>> 16) := (word_or (shlv16 p118) (shrv16 p118))
  exact ⟨p119, p120⟩

/-- First key, the tail: the third group. -/
theorem tailU3 (v77 v82 : IVec S8x160 32) (j : S8x160.Idx) (n : BitVec 32) (h77 : v77 j = (st 1832780943#32 270669613#32 1724713080#32 n 8).1) (h82 : v82 j = ((st 1832780943#32 270669613#32 1724713080#32 n 7).2 <<< 16 ||| (st 1832780943#32 270669613#32 1724713080#32 n 7).2 >>> 16)) :
    k0_pay131 v77 v82 j = (st 1832780943#32 270669613#32 1724713080#32 n 14).2 ∧ k0_pay132 v77 v82 j = (st 1832780943#32 270669613#32 1724713080#32 n 15).1 ∧ k0_pay133 j = 270669613#32 := by
  have q83 := (word_xor h82 h77).trans (st_2_8 1832780943#32 270669613#32 1724713080#32 n).symm
  have p121 : k0_pay121 v77 v82 j = (st 1832780943#32 270669613#32 1724713080#32 n 8).2 := q83
  have q84 := (word_add h77 p121).trans (st_1_9 1832780943#32 270669613#32 1724713080#32 n).symm
  have p122 : k0_pay122 v77 v82 j = (st 1832780943#32 270669613#32 1724713080#32 n 9).1 := q84
  have q90 := (word_xor (word_or (shlv24 p121) (shrv8 p121)) p122).trans (st_2_9 1832780943#32 270669613#32 1724713080#32 n).symm
  have q96 := (word_add (word_add q90 (rfl : 1832780943#32 = 1832780943#32)) (rfl : 2#32 = 2#32)).trans (st_2_10 1832780943#32 270669613#32 1724713080#32 n).symm
  have p123 : k0_pay123 v77 v82 j = (st 1832780943#32 270669613#32 1724713080#32 n 10).2 := q96
  have q92 := (word_add p122 (rfl : 1724713080#32 = 1724713080#32)).trans (st_1_10 1832780943#32 270669613#32 1724713080#32 n).symm
  have q97 := (word_add q92 p123).trans (st_1_11 1832780943#32 270669613#32 1724713080#32 n).symm
  have p124 : k0_pay124 v77 v82 j = (st 1832780943#32 270669613#32 1724713080#32 n 11).1 := q97
  have q103 := (word_xor (word_or (shlv13 p123) (shrv19 p123)) p124).trans (st_2_11 1832780943#32 270669613#32 1724713080#32 n).symm
  have p125 : k0_pay125 v77 v82 j = (st 1832780943#32 270669613#32 1724713080#32 n 11).2 := q103
  have q104 := (word_add p124 p125).trans (st_1_12 1832780943#32 270669613#32 1724713080#32 n).symm
  have p126 : k0_pay126 v77 v82 j = (st 1832780943#32 270669613#32 1724713080#32 n 12).1 := q104
  have q110 := (word_xor (word_or (shlv15 p125) (shrv17 p125)) p126).trans (st_2_12 1832780943#32 270669613#32 1724713080#32 n).symm
  have p127 : k0_pay127 v77 v82 j = (st 1832780943#32 270669613#32 1724713080#32 n 12).2 := q110
  have q111 := (word_add p126 p127).trans (st_1_13 1832780943#32 270669613#32 1724713080#32 n).symm
  have p128 : k0_pay128 v77 v82 j = (st 1832780943#32 270669613#32 1724713080#32 n 13).1 := q111
  have q117 := (word_xor (word_or (shlv26 p127) (shrv6 p127)) p128).trans (st_2_13 1832780943#32 270669613#32 1724713080#32 n).symm
  have p129 : k0_pay129 v77 v82 j = (st 1832780943#32 270669613#32 1724713080#32 n 13).2 := q117
  have q118 := (word_add p128 p129).trans (st_1_14 1832780943#32 270669613#32 1724713080#32 n).symm
  have p130 : k0_pay130 v77 v82 j = (st 1832780943#32 270669613#32 1724713080#32 n 14).1 := q118
  have q124 := (word_xor (word_or (shlv6 p129) (shrv26 p129)) p130).trans (st_2_14 1832780943#32 270669613#32 1724713080#32 n).symm
  have p131 : k0_pay131 v77 v82 j = (st 1832780943#32 270669613#32 1724713080#32 n 14).2 := q124
  have q126 := (word_add p130 (rfl : 1832780943#32 = 1832780943#32)).trans (st_1_15 1832780943#32 270669613#32 1724713080#32 n).symm
  have p132 : k0_pay132 v77 v82 j = (st 1832780943#32 270669613#32 1724713080#32 n 15).1 := q126
  have p133 : k0_pay133 j = 270669613#32 := (rfl : 270669613#32 = 270669613#32)
  exact ⟨p131, p132, p133⟩

/-- First key, the tail: the fourth group. -/
theorem tailU4 (v124 v126 v127 : IVec S8x160 32) (j : S8x160.Idx) (n : BitVec 32) (h124 : v124 j = (st 1832780943#32 270669613#32 1724713080#32 n 14).2) (h126 : v126 j = (st 1832780943#32 270669613#32 1724713080#32 n 15).1) (h127 : v127 j = 270669613#32) :
    k0_pay144 v124 v126 v127 j = (st 1832780943#32 270669613#32 1724713080#32 n 21).2 ∧ k0_pay145 v124 v126 v127 j = (st 1832780943#32 270669613#32 1724713080#32 n 22).1 := by
  have q130 := (word_add (word_add h124 h127) (rfl : 3#32 = 3#32)).trans (st_2_15 1832780943#32 270669613#32 1724713080#32 n).symm
  have p134 : k0_pay134 v124 v127 j = (st 1832780943#32 270669613#32 1724713080#32 n 15).2 := q130
  have q131 := (word_add h126 p134).trans (st_1_16 1832780943#32 270669613#32 1724713080#32 n).symm
  have p135 : k0_pay135 v124 v126 v127 j = (st 1832780943#32 270669613#32 1724713080#32 n 16).1 := q131
  have q137 := (word_xor (word_or (shlv17 p134) (shrv15 p134)) p135).trans (st_2_16 1832780943#32 270669613#32 1724713080#32 n).symm
  have p136 : k0_pay136 v124 v126 v127 j = (st 1832780943#32 270669613#32 1724713080#32 n 16).2 := q137
  have q138 := (word_add p135 p136).trans (st_1_17 1832780943#32 270669613#32 1724713080#32 n).symm
  have p137 : k0_pay137 v124 v126 v127 j = (st 1832780943#32 270669613#32 1724713080#32 n 17).1 := q138
  have q144 := (word_xor (word_or (shlv29 p136) (shrv3 p136)) p137).trans (st_2_17 1832780943#32 270669613#32 1724713080#32 n).symm
  have p138 : k0_pay138 v124 v126 v127 j = (st 1832780943#32 270669613#32 1724713080#32 n 17).2 := q144
  have q145 := (word_add p137 p138).trans (st_1_18 1832780943#32 270669613#32 1724713080#32 n).symm
  have p139 : k0_pay139 v124 v126 v127 j = (st 1832780943#32 270669613#32 1724713080#32 n 18).1 := q145
  have q151 := (word_xor (word_or (shlv16 p138) (shrv16 p138)) p139).trans (st_2_18 1832780943#32 270669613#32 1724713080#32 n).symm
  have p140 : k0_pay140 v124 v126 v127 j = (st 1832780943#32 270669613#32 1724713080#32 n 18).2 := q151
  have q152 := (word_add p139 p140).trans (st_1_19 1832780943#32 270669613#32 1724713080#32 n).symm
  have p141 : k0_pay141 v124 v126 v127 j = (st 1832780943#32 270669613#32 1724713080#32 n 19).1 := q152
  have q158 := (word_xor (word_or (shlv24 p140) (shrv8 p140)) p141).trans (st_2_19 1832780943#32 270669613#32 1724713080#32 n).symm
  have q164 := (word_add (word_add q158 (rfl : 1724713080#32 = 1724713080#32)) (rfl : 4#32 = 4#32)).trans (st_2_20 1832780943#32 270669613#32 1724713080#32 n).symm
  have p142 : k0_pay142 v124 v126 v127 j = (st 1832780943#32 270669613#32 1724713080#32 n 20).2 := q164
  have q160 := (word_add p141 (rfl : 270669613#32 = 270669613#32)).trans (st_1_20 1832780943#32 270669613#32 1724713080#32 n).symm
  have q165 := (word_add q160 p142).trans (st_1_21 1832780943#32 270669613#32 1724713080#32 n).symm
  have p143 : k0_pay143 v124 v126 v127 j = (st 1832780943#32 270669613#32 1724713080#32 n 21).1 := q165
  have q171 := (word_xor (word_or (shlv13 p142) (shrv19 p142)) p143).trans (st_2_21 1832780943#32 270669613#32 1724713080#32 n).symm
  have p144 : k0_pay144 v124 v126 v127 j = (st 1832780943#32 270669613#32 1724713080#32 n 21).2 := q171
  have q172 := (word_add p143 p144).trans (st_1_22 1832780943#32 270669613#32 1724713080#32 n).symm
  have p145 : k0_pay145 v124 v126 v127 j = (st 1832780943#32 270669613#32 1724713080#32 n 22).1 := q172
  exact ⟨p144, p145⟩

/-- The tail of unnormalised weights. -/
theorem tailE (v12 : FVec F S8x1 .f32) (v20 : FVec F S8x160 .f32) (v171 v172 : IVec S8x160 32) (j : S8x160.Idx) (n : BitVec 32) (h171 : v171 j = (st 1832780943#32 270669613#32 1724713080#32 n 21).2) (h172 : v172 j = (st 1832780943#32 270669613#32 1724713080#32 n 22).1) :
    k0_pay146 v12 v20 v171 v172 15#32 j = FloatOps.divf (FloatOps.exp (FloatOps.subf (v20 j) (broadcastTo S8x160 v12 broadcasts_S8x1_S8x160 j))) (gumbelDen F n) := by
  have q178 := (word_xor (word_or (shlv15 h171) (shrv17 h171)) h172).trans (st_2_22 1832780943#32 270669613#32 1724713080#32 n).symm
  have q179 := (word_add h172 q178).trans (st_1_23 1832780943#32 270669613#32 1724713080#32 n).symm
  have q185 := (word_xor (word_or (shlv26 q178) (shrv6 q178)) q179).trans (st_2_23 1832780943#32 270669613#32 1724713080#32 n).symm
  have q186 := (word_add q179 q185).trans (st_1_24 1832780943#32 270669613#32 1724713080#32 n).symm
  have q192 := (word_xor (word_or (shlv6 q185) (shrv26 q185)) q186).trans (st_2_24 1832780943#32 270669613#32 1724713080#32 n).symm
  have q194 := (word_add q186 (rfl : 1724713080#32 = 1724713080#32)).trans (st_1_25 1832780943#32 270669613#32 1724713080#32 n).symm
  have q198 := (word_add (word_add q192 (rfl : 1832780943#32 = 1832780943#32)) (rfl : 5#32 = 5#32)).trans (st_2_25 1832780943#32 270669613#32 1724713080#32 n).symm
  have q199 := (word_xor q194 q198)
  have qw := word_or (shrv9 q199) (rfl : 1065353216#32 = 1065353216#32)
  exact congrArg (fun w : BitVec 32 => FloatOps.divf (FloatOps.exp (FloatOps.subf (v20 j) (broadcastTo S8x160 v12 broadcasts_S8x1_S8x160 j))) (FloatOps.subf (fbits 0x00000000#32) (FloatOps.log (FloatOps.addf (FloatOps.mulf (FloatOps.subf (fbits (F := F) w) (fbits 0x3F800000#32)) (fbits 0x3F7FBE77#32)) (fbits 0x2B8CBCCC#32))))) qw

/-- Second key, the tail: the first group. -/
theorem tailS1 (v25 : IVec S8x160 32) (j : S8x160.Idx) (n : BitVec 32) (h25 : v25 j = n) :
    k0_pay157 v25 64467757#32 j = (st 64467757#32 2916123636#32 3050711811#32 n 6).2 ∧ k0_pay158 v25 64467757#32 j = (st 64467757#32 2916123636#32 3050711811#32 n 7).1 := by
  have q220 := (word_add h25 (rfl : 2916123636#32 = 2916123636#32)).trans (st_2_0 64467757#32 2916123636#32 3050711811#32 n).symm
  have p147 : k0_pay147 v25 j = (st 64467757#32 2916123636#32 3050711811#32 n 0).2 := q220
  have q221 := (word_add (st_1_0 64467757#32 2916123636#32 3050711811#32 n).symm p147).trans (st_1_1 64467757#32 2916123636#32 3050711811#32 n).symm
  have p148 : k0_pay148 v25 64467757#32 j = (st 64467757#32 2916123636#32 3050711811#32 n 1).1 := q221
  have q227 := (word_xor (word_or (shlv13 p147) (shrv19 p147)) p148).trans (st_2_1 64467757#32 2916123636#32 3050711811#32 n).symm
  have p149 : k0_pay149 v25 64467757#32 j = (st 64467757#32 2916123636#32 3050711811#32 n 1).2 := q227
  have q228 := (word_add p148 p149).trans (st_1_2 64467757#32 2916123636#32 3050711811#32 n).symm
  have p150 : k0_pay150 v25 64467757#32 j = (st 64467757#32 2916123636#32 3050711811#32 n 2).1 := q228
  have q234 := (word_xor (word_or (shlv15 p149) (shrv17 p149)) p150).trans (st_2_2 64467757#32 2916123636#32 3050711811#32 n).symm
  have p151 : k0_pay151 v25 64467757#32 j = (st 64467757#32 2916123636#32 3050711811#32 n 2).2 := q234
  have q235 := (word_add p150 p151).trans (st_1_3 64467757#32 2916123636#32 3050711811#32 n).symm
  have p152 : k0_pay152 v25 64467757#32 j = (st 64467757#32 2916123636#32 3050711811#32 n 3).1 := q235
  have q241 := (word_xor (word_or (shlv26 p151) (shrv6 p151)) p152).trans (st_2_3 64467757#32 2916123636#32 3050711811#32 n).symm
  have p153 : k0_pay153 v25 64467757#32 j = (st 64467757#32 2916123636#32 3050711811#32 n 3).2 := q241
  have q242 := (word_add p152 p153).trans (st_1_4 64467757#32 2916123636#32 3050711811#32 n).symm
  have p154 : k0_pay154 v25 64467757#32 j = (st 64467757#32 2916123636#32 3050711811#32 n 4).1 := q242
  have q248 := (word_xor (word_or (shlv6 p153) (shrv26 p153)) p154).trans (st_2_4 64467757#32 2916123636#32 3050711811#32 n).symm
  have q254 := (word_add (word_add q248 (rfl : 3050711811#32 = 3050711811#32)) (rfl : 1#32 = 1#32)).trans (st_2_5 64467757#32 2916123636#32 3050711811#32 n).symm
  have p155 : k0_pay155 v25 64467757#32 j = (st 64467757#32 2916123636#32 3050711811#32 n 5).2 := q254
  have q250 := (word_add p154 (rfl : 2916123636#32 = 2916123636#32)).trans (st_1_5 64467757#32 2916123636#32 3050711811#32 n).symm
  have q255 := (word_add q250 p155).trans (st_1_6 64467757#32 2916123636#32 3050711811#32 n).symm
  have p156 : k0_pay156 v25 64467757#32 j = (st 64467757#32 2916123636#32 3050711811#32 n 6).1 := q255
  have q261 := (word_xor (word_or (shlv17 p155) (shrv15 p155)) p156).trans (st_2_6 64467757#32 2916123636#32 3050711811#32 n).symm
  have p157 : k0_pay157 v25 64467757#32 j = (st 64467757#32 2916123636#32 3050711811#32 n 6).2 := q261
  have q262 := (word_add p156 p157).trans (st_1_7 64467757#32 2916123636#32 3050711811#32 n).symm
  have p158 : k0_pay158 v25 64467757#32 j = (st 64467757#32 2916123636#32 3050711811#32 n 7).1 := q262
  exact ⟨p157, p158⟩

/-- Second key, the tail: the second group. -/
theorem tailS2 (v261 v262 : IVec S8x160 32) (j : S8x160.Idx) (n : BitVec 32) (h261 : v261 j = (st 64467757#32 2916123636#32 3050711811#32 n 6).2) (h262 : v262 j = (st 64467757#32 2916123636#32 3050711811#32 n 7).1) :
    k0_pay168 v261 v262 29#32 j = (st 64467757#32 2916123636#32 3050711811#32 n 13).1 ∧ k0_pay169 v261 v262 29#32 j = ((st 64467757#32 2916123636#32 3050711811#32 n 12).2 <<< 26 ||| (st 64467757#32 2916123636#32 3050711811#32 n 12).2 >>> 6) := by
  have q268 := (word_xor (word_or (shlv29 h261) (shrv3 h261)) h262).trans (st_2_7 64467757#32 2916123636#32 3050711811#32 n).symm
  have p159 : k0_pay159 v261 v262 29#32 j = (st 64467757#32 2916123636#32 3050711811#32 n 7).2 := q268
  have q269 := (word_add h262 p159).trans (st_1_8 64467757#32 2916123636#32 3050711811#32 n).symm
  have p160 : k0_pay160 v261 v262 29#32 j = (st 64467757#32 2916123636#32 3050711811#32 n 8).1 := q269
  have q275 := (word_xor (word_or (shlv16 p159) (shrv16 p159)) p160).trans (st_2_8 64467757#32 2916123636#32 3050711811#32 n).symm
  have p161 : k0_pay161 v261 v262 29#32 j = (st 64467757#32 2916123636#32 3050711811#32 n 8).2 := q275
  have q276 := (word_add p160 p161).trans (st_1_9 64467757#32 2916123636#32 3050711811#32 n).symm
  have p162 : k0_pay162 v261 v262 29#32 j = (st 64467757#32 2916123636#32 3050711811#32 n 9).1 := q276
  have q282 := (word_xor (word_or (shlv24 p161) (shrv8 p161)) p162).trans (st_2_9 64467757#32 2916123636#32 3050711811#32 n).symm
  have q288 := (word_add (word_add q282 (rfl : 64467757#32 = 64467757#32)) (rfl : 2#32 = 2#32)).trans (st_2_10 64467757#32 2916123636#32 3050711811#32 n).symm
  have p163 : k0_pay163 v261 v262 29#32 j = (st 64467757#32 2916123636#32 3050711811#32 n 10).2 := q288
  have q284 := (word_add p162 (rfl : 3050711811#32 = 3050711811#32)).trans (st_1_10 64467757#32 2916123636#32 3050711811#32 n).symm
  have q289 := (word_add q284 p163).trans (st_1_11 64467757#32 2916123636#32 3050711811#32 n).symm
  have p164 : k0_pay164 v261 v262 29#32 j = (st 64467757#32 2916123636#32 3050711811#32 n 11).1 := q289
  have q295 := (word_xor (word_or (shlv13 p163) (shrv19 p163)) p164).trans (st_2_11 64467757#32 2916123636#32 3050711811#32 n).symm
  have p165 : k0_pay165 v261 v262 29#32 j = (st 64467757#32 2916123636#32 3050711811#32 n 11).2 := q295
  have q296 := (word_add p164 p165).trans (st_1_12 64467757#32 2916123636#32 3050711811#32 n).symm
  have p166 : k0_pay166 v261 v262 29#32 j = (st 64467757#32 2916123636#32 3050711811#32 n 12).1 := q296
  have q302 := (word_xor (word_or (shlv15 p165) (shrv17 p165)) p166).trans (st_2_12 64467757#32 2916123636#32 3050711811#32 n).symm
  have p167 : k0_pay167 v261 v262 29#32 j = (st 64467757#32 2916123636#32 3050711811#32 n 12).2 := q302
  have q303 := (word_add p166 p167).trans (st_1_13 64467757#32 2916123636#32 3050711811#32 n).symm
  have p168 : k0_pay168 v261 v262 29#32 j = (st 64467757#32 2916123636#32 3050711811#32 n 13).1 := q303
  have p169 : k0_pay169 v261 v262 29#32 j = ((st 64467757#32 2916123636#32 3050711811#32 n 12).2 <<< 26 ||| (st 64467757#32 2916123636#32 3050711811#32 n 12).2 >>> 6) := (word_or (shlv26 p167) (shrv6 p167))
  exact ⟨p168, p169⟩

/-- Second key, the tail: the third group. -/
theorem tailS3 (v303 v308 : IVec S8x160 32) (j : S8x160.Idx) (n : BitVec 32) (h303 : v303 j = (st 64467757#32 2916123636#32 3050711811#32 n 13).1) (h308 : v308 j = ((st 64467757#32 2916123636#32 3050711811#32 n 12).2 <<< 26 ||| (st 64467757#32 2916123636#32 3050711811#32 n 12).2 >>> 6)) :
    k0_pay180 v303 v308 j = (st 64467757#32 2916123636#32 3050711811#32 n 19).2 ∧ k0_pay181 v303 v308 j = (st 64467757#32 2916123636#32 3050711811#32 n 20).1 ∧ k0_pay182 j = 3050711811#32 := by
  have q309 := (word_xor h308 h303).trans (st_2_13 64467757#32 2916123636#32 3050711811#32 n).symm
  have p170 : k0_pay170 v303 v308 j = (st 64467757#32 2916123636#32 3050711811#32 n 13).2 := q309
  have q310 := (word_add h303 p170).trans (st_1_14 64467757#32 2916123636#32 3050711811#32 n).symm
  have p171 : k0_pay171 v303 v308 j = (st 64467757#32 2916123636#32 3050711811#32 n 14).1 := q310
  have q316 := (word_xor (word_or (shlv6 p170) (shrv26 p170)) p171).trans (st_2_14 64467757#32 2916123636#32 3050711811#32 n).symm
  have q322 := (word_add (word_add q316 (rfl : 2916123636#32 = 2916123636#32)) (rfl : 3#32 = 3#32)).trans (st_2_15 64467757#32 2916123636#32 3050711811#32 n).symm
  have p172 : k0_pay172 v303 v308 j = (st 64467757#32 2916123636#32 3050711811#32 n 15).2 := q322
  have q318 := (word_add p171 (rfl : 64467757#32 = 64467757#32)).trans (st_1_15 64467757#32 2916123636#32 3050711811#32 n).symm
  have q323 := (word_add q318 p172).trans (st_1_16 64467757#32 2916123636#32 3050711811#32 n).symm
  have p173 : k0_pay173 v303 v308 j = (st 64467757#32 2916123636#32 3050711811#32 n 16).1 := q323
  have q329 := (word_xor (word_or (shlv17 p172) (shrv15 p172)) p173).trans (st_2_16 64467757#32 2916123636#32 3050711811#32 n).symm
  have p174 : k0_pay174 v303 v308 j = (st 64467757#32 2916123636#32 3050711811#32 n 16).2 := q329
  have q330 := (word_add p173 p174).trans (st_1_17 64467757#32 2916123636#32 3050711811#32 n).symm
  have p175 : k0_pay175 v303 v308 j = (st 64467757#32 2916123636#32 3050711811#32 n 17).1 := q330
  have q336 := (word_xor (word_or (shlv29 p174) (shrv3 p174)) p175).trans (st_2_17 64467757#32 2916123636#32 3050711811#32 n).symm
  have p176 : k0_pay176 v303 v308 j = (st 64467757#32 2916123636#32 3050711811#32 n 17).2 := q336
  have q337 := (word_add p175 p176).trans (st_1_18 64467757#32 2916123636#32 3050711811#32 n).symm
  have p177 : k0_pay177 v303 v308 j = (st 64467757#32 2916123636#32 3050711811#32 n 18).1 := q337
  have q343 := (word_xor (word_or (shlv16 p176) (shrv16 p176)) p177).trans (st_2_18 64467757#32 2916123636#32 3050711811#32 n).symm
  have p178 : k0_pay178 v303 v308 j = (st 64467757#32 2916123636#32 3050711811#32 n 18).2 := q343
  have q344 := (word_add p177 p178).trans (st_1_19 64467757#32 2916123636#32 3050711811#32 n).symm
  have p179 : k0_pay179 v303 v308 j = (st 64467757#32 2916123636#32 3050711811#32 n 19).1 := q344
  have q350 := (word_xor (word_or (shlv24 p178) (shrv8 p178)) p179).trans (st_2_19 64467757#32 2916123636#32 3050711811#32 n).symm
  have p180 : k0_pay180 v303 v308 j = (st 64467757#32 2916123636#32 3050711811#32 n 19).2 := q350
  have q352 := (word_add p179 (rfl : 2916123636#32 = 2916123636#32)).trans (st_1_20 64467757#32 2916123636#32 3050711811#32 n).symm
  have p181 : k0_pay181 v303 v308 j = (st 64467757#32 2916123636#32 3050711811#32 n 20).1 := q352
  have p182 : k0_pay182 j = 3050711811#32 := (rfl : 3050711811#32 = 3050711811#32)
  exact ⟨p180, p181, p182⟩

/-- Second key, the tail: the draws. -/
theorem tailS4 (v350 v352 v353 : IVec S8x160 32) (j : S8x160.Idx) (n : BitVec 32) (h350 : v350 j = (st 64467757#32 2916123636#32 3050711811#32 n 19).2) (h352 : v352 j = (st 64467757#32 2916123636#32 3050711811#32 n 20).1) (h353 : v353 j = 3050711811#32) :
    k0_pay183 v350 v352 v353 j = unit01 F (bitsS n) := by
  have q356 := (word_add (word_add h350 h353) (rfl : 4#32 = 4#32)).trans (st_2_20 64467757#32 2916123636#32 3050711811#32 n).symm
  have q357 := (word_add h352 q356).trans (st_1_21 64467757#32 2916123636#32 3050711811#32 n).symm
  have q363 := (word_xor (word_or (shlv13 q356) (shrv19 q356)) q357).trans (st_2_21 64467757#32 2916123636#32 3050711811#32 n).symm
  have q364 := (word_add q357 q363).trans (st_1_22 64467757#32 2916123636#32 3050711811#32 n).symm
  have q370 := (word_xor (word_or (shlv15 q363) (shrv17 q363)) q364).trans (st_2_22 64467757#32 2916123636#32 3050711811#32 n).symm
  have q371 := (word_add q364 q370).trans (st_1_23 64467757#32 2916123636#32 3050711811#32 n).symm
  have q377 := (word_xor (word_or (shlv26 q370) (shrv6 q370)) q371).trans (st_2_23 64467757#32 2916123636#32 3050711811#32 n).symm
  have q378 := (word_add q371 q377).trans (st_1_24 64467757#32 2916123636#32 3050711811#32 n).symm
  have q384 := (word_xor (word_or (shlv6 q377) (shrv26 q377)) q378).trans (st_2_24 64467757#32 2916123636#32 3050711811#32 n).symm
  have q386 := (word_add q378 (rfl : 3050711811#32 = 3050711811#32)).trans (st_1_25 64467757#32 2916123636#32 3050711811#32 n).symm
  have q390 := (word_add (word_add q384 (rfl : 64467757#32 = 64467757#32)) (rfl : 5#32 = 5#32)).trans (st_2_25 64467757#32 2916123636#32 3050711811#32 n).symm
  have q391 := (word_xor q386 q390)
  have qw := word_or (shrv9 q391) (rfl : 1065353216#32 = 1065353216#32)
  exact congrArg (fun w : BitVec 32 => FloatOps.subf (fbits (F := F) w) (fbits 0x3F800000#32)) qw

end Cert.Gumbel.Kernel

end
-- ==== Proof.Trip.lean ====
/-
  One trip of the kernel's first loop at an element: the weight it stores and the race value it compares, of the
  lane's counter.
-/
module

public import proofs.«01_k».proof.Proof.BodyRun
public import proofs.«01_k».proof.Proof.KernelBits
public import Idealize.ShloMosaic.Lib.ValueIdxCore
public import Idealize.ShloMosaic.Lib.ValueLayoutCasts
public import Idealize.ShloMosaic.Lib.VecWindow
public import Idealize.ShloMosaic.Lib.Pipeline.Value
public import Idealize.ShloMosaic.Lib.WritesUnit

@[expose] public section

set_option maxRecDepth 16384

noncomputable section

namespace Cert.Gumbel.Kernel

open Idealize.ShloMosaic Idealize.ShloMosaic.TcCoe Idealize.ShloMosaic.ValueIdx
open Cert.KernelIdeal Cert.KernelIdeal.Gen

variable {F : FTy → Type} [FloatOps F]

section words
variable (i : grid0.Coords) (k : Fin k0_t1_loop.trips) (j : S8x512.Idx) (n : BitVec 32)
  (hn : k0_pay4 (k0_pay94 i) 0#32 1#32 k j = n)
include hn

/-- The first key's last two words of a lane, as the trip hands them to the weight. -/
theorem tripU : trip_k0_t1.sl.v619 i k j = (st 1832780943#32 270669613#32 1724713080#32 n 25).1
    ∧ trip_k0_t1.sl.v621 i k j = (st 1832780943#32 270669613#32 1724713080#32 n 24).2 + 1832780943#32 := by
  have h1 : trip_k0_t1.sl.v483 i k j = _ ∧ trip_k0_t1.sl.v485 i k j = _ := chunkU1 (k0_pay94 i) k j n hn
  have h2 : trip_k0_t1.sl.v528 i k j = _ ∧ trip_k0_t1.sl.v529 i k j = _ ∧ trip_k0_t1.sl.v531 i k j = _ :=
    chunkU2 (trip_k0_t1.sl.v483 i k) (trip_k0_t1.sl.v485 i k) j n h1.1 h1.2
  have h3 : trip_k0_t1.sl.v576 i k j = _ ∧ trip_k0_t1.sl.v577 i k j = _ :=
    chunkU3 (trip_k0_t1.sl.v528 i k) (trip_k0_t1.sl.v529 i k) (trip_k0_t1.sl.v531 i k) j n h2.1 h2.2.1 h2.2.2
  exact chunkU4 (trip_k0_t1.sl.v576 i k) (trip_k0_t1.sl.v577 i k) j n h3.1 h3.2

/-- The second key's words of a lane, as the trip hands them to the race value. -/
theorem tripS : trip_k0_t1.sl.v802 i k j = (st 64467757#32 2916123636#32 3050711811#32 n 23).2
    ∧ trip_k0_t1.sl.v803 i k j = (st 64467757#32 2916123636#32 3050711811#32 n 24).1 := by
  have h1 := chunkS1 (k0_pay4 (k0_pay94 i) 0#32 1#32 k) j n hn
  have h2 := chunkS2 (k0_pay57 (k0_pay4 (k0_pay94 i) 0#32 1#32 k)) (k0_pay58 (k0_pay4 (k0_pay94 i) 0#32 1#32 k)) j n h1.1 h1.2
  have h3 : trip_k0_t1.sl.v754 i k j = _ ∧ trip_k0_t1.sl.v755 i k j = _ ∧ trip_k0_t1.sl.v757 i k j = _ :=
    chunkS3 _ _ j n h2.1 h2.2
  exact chunkS4 (trip_k0_t1.sl.v754 i k) (trip_k0_t1.sl.v755 i k) (trip_k0_t1.sl.v757 i k) j n h3.1 h3.2.1 h3.2.2

end words

/-! ## Positions -/

theorem trips1_le : k0_t1_loop.trips = 195 := by decide
theorem trips2_le : k0_t2_loop.trips = 195 := by decide

/-- The column of a trip's lane. -/
def col (k : ℕ) (hk : k < 195) (l : Fin 512) : Fin 100000 := ⟨512 * k + l.val, by omega⟩
/-- The column of a lane of the last, narrower stretch. -/
def tcol (l : Fin 160) : Fin 100000 := ⟨99840 + l.val, by omega⟩

theorem word_off (k : ℕ) (hk : k < 195) : (Scalar.indexCast (Scalar.muli (Scf.iv 0#32 1#32 k) 512#32)).toNat = 512 * k := by
  show ((0#32 + BitVec.ofNat 32 k * 1#32) * 512#32).toNat = 512 * k
  simp only [BitVec.toNat_mul, BitVec.toNat_add, BitVec.toNat_ofNat]
  omega

theorem off1_eq (k : Fin k0_t1_loop.trips) : k0_off1 k = ![0, 512 * k.val] := by
  show ![0, (Scalar.indexCast (Scalar.muli (Scf.iv 0#32 1#32 k.val) 512#32)).toNat] = _
  rw [word_off k.val (trips1_le ▸ k.isLt)]
theorem off2_eq (k : Fin k0_t2_loop.trips) : k0_off2 k = ![0, 512 * k.val] := by
  show ![0, (Scalar.indexCast (Scalar.muli (Scf.iv 0#32 1#32 k.val) 512#32)).toNat] = _
  rw [word_off k.val (trips2_le ▸ k.isLt)]

/-- The counter of an element: its number in the row-major order of the whole array. -/
def cnt (i : grid0.Coords) (r : Fin 8) (c : Fin 100000) : BitVec 32 :=
  BitVec.ofNat 32 (((i 0).val * 8 + r.val) * 100000 + c.val)

theorem chunk_cnt (i : grid0.Coords) (k : Fin k0_t1_loop.trips) (hk : k.val < 195) (r : Fin 8) (l : Fin 512) :
    k0_pay4 (k0_pay94 i) 0#32 1#32 k (ix2 r l) = cnt i r (col k.val hk l) := by
  have h0 : (i 0).val < 64 := (i 0).isLt
  show (BitVec.ofNat 32 (i 0).val * 8#32 * 100000#32 + BitVec.ofNat 32 (0 * 8 + r.val) * 100000#32)
    + (BitVec.ofNat 32 (0 * 512 + l.val) + (0#32 + BitVec.ofNat 32 k.val * 1#32) * 512#32)
    = BitVec.ofNat 32 (((i 0).val * 8 + r.val) * 100000 + (512 * k.val + l.val))
  generalize (i 0).val = a at *
  apply BitVec.eq_of_toNat_eq
  simp only [BitVec.toNat_mul, BitVec.toNat_add, BitVec.toNat_ofNat]
  omega

theorem tail_cnt (i : grid0.Coords) (r : Fin 8) (l : Fin 160) :
    k0_pay105 i (ix2 r l) = cnt i r (tcol l) := by
  have h0 : (i 0).val < 64 := (i 0).isLt
  show (BitVec.ofNat 32 (i 0).val * 8#32 * 100000#32 + BitVec.ofNat 32 (0 * 8 + r.val) * 100000#32)
    + (BitVec.ofNat 32 (0 * 160 + l.val) + 99840#32)
    = BitVec.ofNat 32 (((i 0).val * 8 + r.val) * 100000 + (99840 + l.val))
  generalize (i 0).val = a at *
  apply BitVec.eq_of_toNat_eq
  simp only [BitVec.toNat_mul, BitVec.toNat_add, BitVec.toNat_ofNat]
  omega

/-! ## The weight and the race value -/

/-- An element's weight: the exponential of its distance to the shifted row maximum, over the first draw's `-log`. -/
def wgt (i : grid0.Coords) (x : Vec F S8x100000 .f32) (r : Fin 8) (c : Fin 100000) : F .f32 :=
  FloatOps.divf (FloatOps.exp (FloatOps.subf (x (ix2 r c)) (k0_pay95 x (ix2 r 0)))) (gumbelDen F (cnt i r c))

/-- An element's race value: its weight over the second draw's `-log`. -/
def race (i : grid0.Coords) (x : Vec F S8x100000 .f32) (r : Fin 8) (c : Fin 100000) : F .f32 :=
  FloatOps.divf (wgt i x r c) (drawDen F (cnt i r c))

section values
variable (i : grid0.Coords) (b1 : Memref sig .tc .vmem S8x100000 .f32) (w1 : b1.IsWhole) (x : Vec F S8x100000 .f32)

theorem load_all : View.readAt (Elt F) b1.view (Rect.unit ![0, 0] S8x100000.size inb_S8x100000_S8x100000_0_0).toLoadRect (w1.unread x) = x := by
  rw [View.readAt_full]; exact w1.read_unread x

theorem read_at (v : View sig .tc .vmem S8x100000 .f32) (f : BufTy.Contents (Elt F) v.ty) {off : Fin 2 → ℕ} {w : ℕ}
    (inb : ∀ a, off a + (⟨2, ![8, w]⟩ : Shape).size a ≤ S8x100000.size a) (o : ℕ) (ho : off = ![0, o]) (r : Fin 8) (l : Fin w)
    (c : Fin 100000) (hc : c.val = o + l.val) :
    View.readAt (Elt F) v (Rect.unit (s := S8x100000) off (⟨2, ![8, w]⟩ : Shape).size inb).toLoadRect f (ix2 r l) = v.read (Elt F) f (ix2 r c) := by
  subst ho
  refine congrArg (v.read (Elt F) f) (funext fun a => Fin.ext ?_)
  match a with
  | ⟨0, _⟩ => show 0 + 1 * r.val = r.val; omega
  | ⟨1, _⟩ => show o + 1 * l.val = c.val; omega

/-- What a trip stores in a lane is the lane's weight. -/
theorem trip_wgt (k : Fin k0_t1_loop.trips) (hk : k.val < 195) (r : Fin 8) (l : Fin 512) :
    trip_k0_t1.sl.r (F := F) i b1 x (w1.unread x) k (ix2 r l) = wgt i x r (col k.val hk l) := by
  have hw := tripU i k (ix2 r l) _ (chunk_cnt i k hk r l)
  refine (chunkE (k0_pay95 x) (trip_k0_t1.sl.v445 b1 (w1.unread x) k) (trip_k0_t1.sl.v619 i k) (trip_k0_t1.sl.v621 i k)
    (ix2 r l) _ hw.1 hw.2).trans ?_
  have e1 : trip_k0_t1.sl.v445 (F := F) b1 (w1.unread x) k (ix2 r l) = x (ix2 r (col k.val hk l)) := by
    unfold trip_k0_t1.sl.v445
    rw [shapeCast_self]
    exact (read_at b1.view (w1.unread x) _ _ (off1_eq k) r l (col k.val hk l) rfl).trans (congrFun (w1.read_unread x) _)
  have e2 : broadcastTo S8x512 (k0_pay95 x) broadcasts_S8x1_S8x512 (ix2 r l) = k0_pay95 x (ix2 r 0) :=
    broadcastTo_apply _ _ _ _ (fun a => match a with | ⟨0, _⟩ => rfl | ⟨1, _⟩ => rfl)
  rw [e1, e2]; rfl

/-- The race value of a trip's lane. -/
theorem trip_race (k : Fin k0_t1_loop.trips) (hk : k.val < 195) (r : Fin 8) (l : Fin 512) :
    k0_pay99 (trip_k0_t1.sl.r (F := F) i b1 x (w1.unread x) k) (trip_k0_t1.sl.v802 i k) (trip_k0_t1.sl.v803 i k) (ix2 r l)
      = race i x r (col k.val hk l) := by
  have hw := tripS i k (ix2 r l) _ (chunk_cnt i k hk r l)
  refine (chunkV _ _ _ (ix2 r l) _ hw.1 hw.2).trans ?_
  rw [trip_wgt i b1 w1 x k hk r l]; rfl

/-- The last stretch's weights. -/
theorem tail_wgt (r : Fin 8) (l : Fin 160) : stepRun.sl.r_11 (F := F) i b1 w1 x (ix2 r l) = wgt i x r (tcol l) := by
  have h1 := tailU1 i (ix2 r l) _ (tail_cnt i r l)
  have h2 := tailU2 _ _ _ _ h1.1 h1.2
  have h3 := tailU3 _ _ _ _ h2.1 h2.2
  have h4 := tailU4 _ _ _ _ _ h3.1 h3.2.1 h3.2.2
  refine (tailE (stepRun.sl.r b1 w1 x) (stepRun.sl.r_4 b1 w1 x) _ _ (ix2 r l) _ h4.1 h4.2).trans ?_
  have e0 : stepRun.sl.r (F := F) b1 w1 x = k0_pay95 x := by unfold stepRun.sl.r; rw [load_all]
  have e1 : stepRun.sl.r_4 (F := F) b1 w1 x (ix2 r l) = x (ix2 r (tcol l)) := by
    unfold stepRun.sl.r_4 k0_pay104
    dsimp only
    rw [shapeCast_self]
    exact (read_at b1.view (w1.unread x) _ _ rfl r l (tcol l) rfl).trans (congrFun (w1.read_unread x) _)
  have e2 : broadcastTo S8x160 (k0_pay95 x) broadcasts_S8x1_S8x160 (ix2 r l) = k0_pay95 x (ix2 r 0) :=
    broadcastTo_apply _ _ _ _ (fun a => match a with | ⟨0, _⟩ => rfl | ⟨1, _⟩ => rfl)
  rw [e0, e1, e2]; rfl

/-- The last stretch's second draws. -/
theorem tail_draw (r : Fin 8) (l : Fin 160) : stepRun.sl.r_18 (F := F) i (ix2 r l) = unit01 F (bitsS (cnt i r (tcol l))) := by
  have h1 := tailS1 _ (ix2 r l) _ (tail_cnt i r l)
  have h2 := tailS2 _ _ _ _ h1.1 h1.2
  have h3 := tailS3 _ _ _ _ h2.1 h2.2
  exact tailS4 _ _ _ _ _ h3.1 h3.2.1 h3.2.2

end values

end Cert.Gumbel.Kernel

end
-- ==== Proof.Loops.lean ====
/-
  The kernel's two loops, from one trip to all of them: what the first leaves stored, its running sums and running
  race, and what the second leaves in the two blocks it writes.
-/
module

public import proofs.«01_k».proof.Proof.Trip

@[expose] public section

set_option maxRecDepth 16384

noncomputable section

namespace Cert.Gumbel.Kernel

open Idealize.ShloMosaic Idealize.ShloMosaic.TcCoe Idealize.ShloMosaic.ValueIdx
open Cert.KernelIdeal Cert.KernelIdeal.Gen

variable {F : FTy → Type} [FloatOps F]

section loops
variable (c : Dev nD) (i : grid0.Coords) (b1 : Memref sig .tc .vmem S8x100000 .f32) (w1 : b1.IsWhole) (b2 : Memref sig .tc .vmem S8x100000 .f32) (w2 : b2.IsWhole) (b3 : Memref sig .tc .vmem S8x100000 .f32) (w3 : b3.IsWhole) (b4 : Memref sig .tc .vmem S1x8x1 .f32) (w4 : b4.IsWhole)
  (x : Vec F S8x100000 .f32)

/-- The first loop's state after `k` trips. -/
abbrev state1 (k : ℕ) :=
  st_k0_t1 (F := F) Variants.none c none i b1 w1 b2 w2 b3 w3 b4 w4 x (w1.unread x) (k0_pay96, k0_pay97, k0_pay98) k

theorem stores1_eq (k : Fin k0_t1_loop.trips) (acc : FVec F S8x512 .f32 × FVec F S8x512 .f32 × IVec S8x512 32) :
    tripL_k0_t1 (F := F) Variants.none c none i b1 w1 b2 w2 b3 w3 b4 w4 x (w1.unread x) k acc
      = [⟨Rect.unit (k0_off1 k) S8x512.size (k0_off1_inb k), trip_k0_t1.sl.r i b1 x (w1.unread x) k⟩] := by
  unfold tripL_k0_t1 trip_k0_t1
  rfl

theorem carry1_eq (k : Fin k0_t1_loop.trips) (acc : FVec F S8x512 .f32 × FVec F S8x512 .f32 × IVec S8x512 32) :
    tripR_k0_t1 (F := F) Variants.none c none i b1 w1 b2 w2 b3 w3 b4 w4 x (w1.unread x) k acc
      = (k0_pay101 acc.1 (trip_k0_t1.sl.r i b1 x (w1.unread x) k),
         k0_pay102 acc.2.1 (trip_k0_t1.sl.r i b1 x (w1.unread x) k) (trip_k0_t1.sl.v802 i k) (trip_k0_t1.sl.v803 i k),
         k0_pay103 acc.2.1 acc.2.2 (Scalar.muli (Scf.iv 0#32 1#32 k) 512#32) (trip_k0_t1.sl.r i b1 x (w1.unread x) k) (trip_k0_t1.sl.v802 i k) (trip_k0_t1.sl.v803 i k)) := by
  unfold tripR_k0_t1 trip_k0_t1
  rfl

theorem state1_succ (k : ℕ) (hk : k < 195) :
    state1 c i b1 w1 b2 w2 b3 w3 b4 w4 x (k + 1)
      = ((k0_pay101 (state1 c i b1 w1 b2 w2 b3 w3 b4 w4 x k).1.1 (trip_k0_t1.sl.r i b1 x (w1.unread x) ⟨k, trips1_le ▸ hk⟩),
         k0_pay102 (state1 c i b1 w1 b2 w2 b3 w3 b4 w4 x k).1.2.1 (trip_k0_t1.sl.r i b1 x (w1.unread x) ⟨k, trips1_le ▸ hk⟩) (trip_k0_t1.sl.v802 i ⟨k, trips1_le ▸ hk⟩) (trip_k0_t1.sl.v803 i ⟨k, trips1_le ▸ hk⟩),
         k0_pay103 (state1 c i b1 w1 b2 w2 b3 w3 b4 w4 x k).1.2.1 (state1 c i b1 w1 b2 w2 b3 w3 b4 w4 x k).1.2.2 (Scalar.muli (Scf.iv 0#32 1#32 k) 512#32) (trip_k0_t1.sl.r i b1 x (w1.unread x) ⟨k, trips1_le ▸ hk⟩) (trip_k0_t1.sl.v802 i ⟨k, trips1_le ▸ hk⟩) (trip_k0_t1.sl.v803 i ⟨k, trips1_le ▸ hk⟩)),
        ⟨Rect.unit (k0_off1 ⟨k, trips1_le ▸ hk⟩) S8x512.size (k0_off1_inb ⟨k, trips1_le ▸ hk⟩), trip_k0_t1.sl.r i b1 x (w1.unread x) ⟨k, trips1_le ▸ hk⟩⟩
          :: (state1 c i b1 w1 b2 w2 b3 w3 b4 w4 x k).2) := by
  have h := st_k0_t1_succ (F := F) Variants.none c none i b1 w1 b2 w2 b3 w3 b4 w4 x (w1.unread x) (k0_pay96, k0_pay97, k0_pay98) ⟨k, trips1_le ▸ hk⟩
  rw [stores1_eq, carry1_eq] at h
  exact h

/-- After `k` trips the first `512 k` columns hold their weights. -/
theorem stored1 (f : BufTy.Contents (Elt F) b2.view.ty) (k : ℕ) (hk : k ≤ 195) (r : Fin 8) (q : Fin 100000) (hq : q.val < 512 * k) :
    b2.view.read (Elt F) (b2.view.writes (Elt F) f (state1 c i b1 w1 b2 w2 b3 w3 b4 w4 x k).2) (ix2 r q) = wgt i x r q := by
  induction k with
  | zero => omega
  | succ k ih =>
    have hk' : k < 195 := by omega
    rw [state1_succ c i b1 w1 b2 w2 b3 w3 b4 w4 x k hk']
    dsimp only
    by_cases h : q.val < 512 * k
    · refine (View.read_writes_cons_unit_of_not_mem b2.view f _ _ _ (ix2 r q) (off1_eq ⟨k, trips1_le ▸ hk'⟩) 1 (Or.inl h)).trans ?_
      exact ih (by omega) h
    · have hl : q.val - 512 * k < 512 := by omega
      have hx : ∀ a, ((ix2 r q : S8x100000.Idx) a).val = (![0, 512 * k] : Fin 2 → ℕ) a + ((ix2 r ⟨q.val - 512 * k, hl⟩ : S8x512.Idx) a).val := fun a => match a with
        | ⟨0, _⟩ => (Nat.zero_add _).symm
        | ⟨1, _⟩ => by show q.val = 512 * k + (q.val - 512 * k); omega
      refine (View.read_writes_cons_unit_of_mem b2.view f _ _ _ (ix2 r q) (ix2 r ⟨q.val - 512 * k, hl⟩) (off1_eq ⟨k, trips1_le ▸ hk'⟩) hx).trans ?_
      rw [trip_wgt i b1 w1 x ⟨k, trips1_le ▸ hk'⟩ hk']
      congr 1
      exact Fin.ext (by show 512 * k + (q.val - 512 * k) = q.val; omega)

/-- A trip's step of the running race, at a lane. -/
theorem race_step (k : ℕ) (hk : k < 195) (r : Fin 8) (l : Fin 512) :
    (state1 c i b1 w1 b2 w2 b3 w3 b4 w4 x (k + 1)).1.2.1 (ix2 r l)
        = Scalar.select (FloatOps.cmpf .ogt (race i x r (col k hk l)) ((state1 c i b1 w1 b2 w2 b3 w3 b4 w4 x k).1.2.1 (ix2 r l)))
            (race i x r (col k hk l)) ((state1 c i b1 w1 b2 w2 b3 w3 b4 w4 x k).1.2.1 (ix2 r l))
    ∧ (state1 c i b1 w1 b2 w2 b3 w3 b4 w4 x (k + 1)).1.2.2 (ix2 r l)
        = Scalar.select (FloatOps.cmpf .ogt (race i x r (col k hk l)) ((state1 c i b1 w1 b2 w2 b3 w3 b4 w4 x k).1.2.1 (ix2 r l)))
            (BitVec.ofNat 32 (512 * k + l.val)) ((state1 c i b1 w1 b2 w2 b3 w3 b4 w4 x k).1.2.2 (ix2 r l)) := by
  have hr := trip_race i b1 w1 x ⟨k, trips1_le ▸ hk⟩ hk r l
  have hi : (BitVec.ofNat 32 (0 * 512 + l.val) + (0#32 + BitVec.ofNat 32 k * 1#32) * 512#32) = BitVec.ofNat 32 (512 * k + l.val) := by
    apply BitVec.eq_of_toNat_eq
    simp only [BitVec.toNat_mul, BitVec.toNat_add, BitVec.toNat_ofNat]
    omega
  rw [state1_succ c i b1 w1 b2 w2 b3 w3 b4 w4 x k hk, ← hr, ← hi]
  exact ⟨rfl, rfl⟩

/-- A trip's step of the running sum, at a lane. -/
theorem sum_step (k : ℕ) (hk : k < 195) (r : Fin 8) (l : Fin 512) :
    (state1 c i b1 w1 b2 w2 b3 w3 b4 w4 x (k + 1)).1.1 (ix2 r l)
      = FloatOps.addf ((state1 c i b1 w1 b2 w2 b3 w3 b4 w4 x k).1.1 (ix2 r l)) (wgt i x r (col k hk l)) := by
  rw [state1_succ c i b1 w1 b2 w2 b3 w3 b4 w4 x k hk, ← trip_wgt i b1 w1 x ⟨k, trips1_le ▸ hk⟩ hk r l]
  rfl

section second
variable (s : FVec F S8x1 .f32) (g2 : BufTy.Contents (Elt F) b2.view.ty) (g3 : BufTy.Contents (Elt F) b3.view.ty)

/-- The second loop's stores of `k` trips. -/
abbrev pieces2 (k : ℕ) := pb_k0_t2 (F := F) Variants.none c none i b1 w1 b2 w2 b3 w3 b4 w4 s g2 g3 k

theorem stores2_eq (k : Fin k0_t2_loop.trips) (f2 : BufTy.Contents (Elt F) b2.view.ty) (f3 : BufTy.Contents (Elt F) b3.view.ty) :
    tripL_k0_t2 (F := F) Variants.none c none i b1 w1 b2 w2 b3 w3 b4 w4 s k f2 f3
      = ([⟨Rect.unit (k0_off2 k) S8x512.size (k0_off2_inb k), k0_pay1 s (View.readAt (Elt F) b2.view (Rect.unit (s := S8x100000) (k0_off2 k) S8x512.size (k0_off2_inb k)).toLoadRect f2)⟩],
         [⟨Rect.unit (k0_off2 k) S8x512.size (k0_off2_inb k), k0_pay1 s (View.readAt (Elt F) b2.view (Rect.unit (s := S8x100000) (k0_off2 k) S8x512.size (k0_off2_inb k)).toLoadRect f2)⟩]) := by
  unfold tripL_k0_t2 trip_k0_t2
  rfl

/-- The trip's payload at a lane: the element read back, times the row's factor. -/
theorem pay1_at (k : Fin k0_t2_loop.trips) (f2 : BufTy.Contents (Elt F) b2.view.ty) (r : Fin 8) (l : Fin 512) (q : Fin 100000)
    (hq : q.val = 512 * k.val + l.val) :
    k0_pay1 s (View.readAt (Elt F) b2.view (Rect.unit (s := S8x100000) (k0_off2 k) S8x512.size (k0_off2_inb k)).toLoadRect f2) (ix2 r l)
      = FloatOps.mulf (b2.view.read (Elt F) f2 (ix2 r q)) (s (ix2 r 0)) := by
  have e1 := read_at b2.view f2 (k0_off2_inb k) _ (off2_eq k) r l q hq
  have e2 : broadcastTo S8x512 s broadcasts_S8x1_S8x512 (ix2 r l) = s (ix2 r 0) :=
    broadcastTo_apply _ _ _ _ (fun a => match a with | ⟨0, _⟩ => rfl | ⟨1, _⟩ => rfl)
  unfold k0_pay1
  dsimp only
  rw [shapeCast_self, ← e1, ← e2]
  rfl

/-- After `k` trips of the second loop: the first `512 k` columns of both blocks hold the scaled weights, and the
    rest of the block read is as found. -/
theorem stored2 (k : ℕ) (hk : k ≤ 195) (r : Fin 8) (q : Fin 100000) :
    (q.val < 512 * k →
      b2.view.read (Elt F) (b2.view.writes (Elt F) g2 (pieces2 c i b1 w1 b2 w2 b3 w3 b4 w4 s g2 g3 k).1) (ix2 r q)
          = FloatOps.mulf (b2.view.read (Elt F) g2 (ix2 r q)) (s (ix2 r 0))
      ∧ b3.view.read (Elt F) (b3.view.writes (Elt F) g3 (pieces2 c i b1 w1 b2 w2 b3 w3 b4 w4 s g2 g3 k).2) (ix2 r q)
          = FloatOps.mulf (b2.view.read (Elt F) g2 (ix2 r q)) (s (ix2 r 0)))
    ∧ (512 * k ≤ q.val →
      b2.view.read (Elt F) (b2.view.writes (Elt F) g2 (pieces2 c i b1 w1 b2 w2 b3 w3 b4 w4 s g2 g3 k).1) (ix2 r q)
          = b2.view.read (Elt F) g2 (ix2 r q)) := by
  induction k with
  | zero => exact ⟨fun h => absurd h (by omega), fun _ => rfl⟩
  | succ k ih =>
    have hk' : k < 195 := by omega
    obtain ⟨ih1, ih2⟩ := ih (by omega)
    have h := pb_k0_t2_succ (F := F) Variants.none c none i b1 w1 b2 w2 b3 w3 b4 w4 s g2 g3 ⟨k, trips2_le ▸ hk'⟩
    rw [stores2_eq] at h
    have h' : pieces2 c i b1 w1 b2 w2 b3 w3 b4 w4 s g2 g3 (k + 1) = _ := h
    rw [h']
    dsimp only [List.cons_append, List.nil_append]
    by_cases hq : q.val < 512 * k
    · refine ⟨fun _ => ⟨?_, ?_⟩, fun h => absurd h (by omega)⟩
      · exact (View.read_writes_cons_unit_of_not_mem b2.view g2 _ _ _ (ix2 r q) (off2_eq ⟨k, trips2_le ▸ hk'⟩) 1 (Or.inl hq)).trans (ih1 hq).1
      · exact (View.read_writes_cons_unit_of_not_mem b3.view g3 _ _ _ (ix2 r q) (off2_eq ⟨k, trips2_le ▸ hk'⟩) 1 (Or.inl hq)).trans (ih1 hq).2
    · by_cases hq2 : q.val < 512 * (k + 1)
      · have hl : q.val - 512 * k < 512 := by omega
        have hx : ∀ a, ((ix2 r q : S8x100000.Idx) a).val = (![0, 512 * k] : Fin 2 → ℕ) a + ((ix2 r ⟨q.val - 512 * k, hl⟩ : S8x512.Idx) a).val := fun a => match a with
          | ⟨0, _⟩ => (Nat.zero_add _).symm
          | ⟨1, _⟩ => by show q.val = 512 * k + (q.val - 512 * k); omega
        have hp := (pay1_at b2 s ⟨k, trips2_le ▸ hk'⟩ (b2.view.writes (Elt F) g2 (pieces2 c i b1 w1 b2 w2 b3 w3 b4 w4 s g2 g3 k).1) r ⟨q.val - 512 * k, hl⟩ q (by show q.val = 512 * k + (q.val - 512 * k); omega)).trans
          (congrArg (fun e => FloatOps.mulf e (s (ix2 r 0))) (ih2 (by omega)))
        refine ⟨fun _ => ⟨?_, ?_⟩, fun h => absurd h (by omega)⟩
        · exact (View.read_writes_cons_unit_of_mem b2.view g2 _ _ _ (ix2 r q) (ix2 r ⟨q.val - 512 * k, hl⟩) (off2_eq ⟨k, trips2_le ▸ hk'⟩) hx).trans hp
        · exact (View.read_writes_cons_unit_of_mem b3.view g3 _ _ _ (ix2 r q) (ix2 r ⟨q.val - 512 * k, hl⟩) (off2_eq ⟨k, trips2_le ▸ hk'⟩) hx).trans hp
      · refine ⟨fun h => absurd h hq2, fun h => ?_⟩
        exact (View.read_writes_cons_unit_of_not_mem b2.view g2 _ _ _ (ix2 r q) (off2_eq ⟨k, trips2_le ▸ hk'⟩) 1
          (Or.inr (by show 512 * k + 512 ≤ q.val; omega))).trans (ih2 (by omega))

end second

end loops

end Cert.Gumbel.Kernel

end
-- ==== Proof.BodyValue.lean ====
/-
  What one grid step leaves in its three result blocks, read at an element: the scaled weights twice, and the sampled
  positions.
-/
module

public import proofs.«01_k».proof.Proof.Loops

@[expose] public section

set_option maxRecDepth 16384

noncomputable section

namespace Cert.Gumbel.Kernel

open Idealize.ShloMosaic Idealize.ShloMosaic.TcCoe Idealize.ShloMosaic.ValueIdx
open Cert.KernelIdeal Cert.KernelIdeal.Gen

variable {F : FTy → Type} [FloatOps F]

section step
variable (c : Dev nD) (i : grid0.Coords) (b1 : Memref sig .tc .vmem S8x100000 .f32) (w1 : b1.IsWhole) (b2 : Memref sig .tc .vmem S8x100000 .f32) (w2 : b2.IsWhole) (b3 : Memref sig .tc .vmem S8x100000 .f32) (w3 : b3.IsWhole) (b4 : Memref sig .tc .vmem S1x8x1 .f32) (w4 : b4.IsWhole)
  (x : Vec F S8x100000 .f32)
  (f2 : BufTy.Contents (Elt F) b2.view.ty) (f3 : BufTy.Contents (Elt F) b3.view.ty) (f4 : BufTy.Contents (Elt F) b4.view.ty)

/-- The rows' scale factors. -/
abbrev scale : FVec F S8x1 .f32 := k0_pay185 (state1 c i b1 w1 b2 w2 b3 w3 b4 w4 x 195).1.1 (stepRun.sl.r_11 i b1 w1 x)

/-- The last stretch's rectangle. -/
abbrev tailRect : Rect S8x100000 := Rect.unit ![0, 99840] S8x160.size inb_S8x100000_S8x160_0_99840

/-- The first result block before the second loop: every weight stored. -/
abbrev weights : BufTy.Contents (Elt F) b2.view.ty :=
  b2.view.writes (Elt F) f2 (⟨tailRect, stepRun.sl.r_11 i b1 w1 x⟩ :: (state1 c i b1 w1 b2 w2 b3 w3 b4 w4 x 195).2)

theorem trips_195 : Scf.trips k0_t1_loop.lb k0_t1_loop.ub k0_t1_loop.st = 195 := by decide

theorem scale_eq : stepRun.sl.r_19 (F := F) c i b1 w1 b2 w2 b3 w3 b4 w4 x = scale c i b1 w1 b2 w2 b3 w3 b4 w4 x := by
  unfold stepRun.sl.r_19 stepRun.sl.r_1
  rw [load_all]
  rfl

theorem end2 : (stepRun c i b1 w1 b2 w2 b3 w3 b4 w4 x).1 f2 f3 f4
    = b2.view.writes (Elt F) (weights c i b1 w1 b2 w2 b3 w3 b4 w4 x f2)
        (⟨tailRect, k0_pay2 (stepRun.sl.r_11 i b1 w1 x) (scale c i b1 w1 b2 w2 b3 w3 b4 w4 x)⟩
          :: (pieces2 c i b1 w1 b2 w2 b3 w3 b4 w4 (scale c i b1 w1 b2 w2 b3 w3 b4 w4 x) (weights c i b1 w1 b2 w2 b3 w3 b4 w4 x f2) f3 195).1) := by
  unfold stepRun
  dsimp only
  have hT : Scf.trips 0#32 (Scalar.addi 0#32 195#32) 1#32 = 195 := by decide
  rw [scale_eq, load_all, hT, ← List.cons_append, View.writes_append]

theorem end3 : (stepRun c i b1 w1 b2 w2 b3 w3 b4 w4 x).2.1 f2 f3 f4
    = b3.view.writes (Elt F) f3
        (⟨tailRect, k0_pay2 (stepRun.sl.r_11 i b1 w1 x) (scale c i b1 w1 b2 w2 b3 w3 b4 w4 x)⟩
          :: (pieces2 c i b1 w1 b2 w2 b3 w3 b4 w4 (scale c i b1 w1 b2 w2 b3 w3 b4 w4 x) (weights c i b1 w1 b2 w2 b3 w3 b4 w4 x f2) f3 195).2) := by
  unfold stepRun
  dsimp only
  have hT : Scf.trips 0#32 (Scalar.addi 0#32 195#32) 1#32 = 195 := by decide
  rw [scale_eq, load_all, hT]

/-- The last stretch's scaled weights. -/
theorem pay2_at (s : FVec F S8x1 .f32) (r : Fin 8) (l : Fin 160) :
    k0_pay2 (stepRun.sl.r_11 i b1 w1 x) s (ix2 r l) = FloatOps.mulf (wgt i x r (tcol l)) (s (ix2 r 0)) := by
  have e2 : broadcastTo S8x160 s broadcasts_S8x1_S8x160 (ix2 r l) = s (ix2 r 0) :=
    broadcastTo_apply _ _ _ _ (fun a => match a with | ⟨0, _⟩ => rfl | ⟨1, _⟩ => rfl)
  rw [← tail_wgt i b1 w1 x r l, ← e2]
  rfl

theorem tail_col (q : Fin 100000) (hq : ¬ q.val < 99840) : q.val = 99840 + (q.val - 99840) := by omega

theorem tail_idx (r : Fin 8) (q : Fin 100000) (hq : ¬ q.val < 99840) (hl : q.val - 99840 < 160) (a : Fin 2) :
    ((ix2 r q : S8x100000.Idx) a).val = (![0, 99840] : Fin 2 → ℕ) a + ((ix2 r ⟨q.val - 99840, hl⟩ : S8x160.Idx) a).val :=
  by
  fin_cases a
  · exact (Nat.zero_add _).symm
  · exact tail_col q hq

theorem tcol_of (q : Fin 100000) (hq : ¬ q.val < 99840) (hl : q.val - 99840 < 160) : tcol ⟨q.val - 99840, hl⟩ = q :=
  Fin.ext (tail_col q hq).symm

/-- Before the second loop an element of the first block below the last stretch is its weight. -/
theorem weights_at (r : Fin 8) (q : Fin 100000) (hq : q.val < 99840) :
    b2.view.read (Elt F) (weights c i b1 w1 b2 w2 b3 w3 b4 w4 x f2) (ix2 r q) = wgt i x r q :=
  (View.read_writes_cons_unit_of_not_mem b2.view f2 _ _ _ (ix2 r q) rfl 1 (Or.inl hq)).trans
    (stored1 c i b1 w1 b2 w2 b3 w3 b4 w4 x f2 195 le_rfl r q (by omega))

/-- The first block at the end of the step. -/
theorem read2 (r : Fin 8) (q : Fin 100000) :
    b2.view.read (Elt F) ((stepRun c i b1 w1 b2 w2 b3 w3 b4 w4 x).1 f2 f3 f4) (ix2 r q)
      = FloatOps.mulf (wgt i x r q) (scale c i b1 w1 b2 w2 b3 w3 b4 w4 x (ix2 r 0)) := by
  rw [end2]
  by_cases hq : q.val < 99840
  · refine (View.read_writes_cons_unit_of_not_mem b2.view _ _ _ _ (ix2 r q) rfl 1 (Or.inl hq)).trans ?_
    rw [((stored2 c i b1 w1 b2 w2 b3 w3 b4 w4 _ _ f3 195 le_rfl r q).1 (by omega)).1, weights_at c i b1 w1 b2 w2 b3 w3 b4 w4 x f2 r q hq]
  · have hl : q.val - 99840 < 160 := by have := q.isLt; omega
    refine (View.read_writes_cons_unit_of_mem b2.view _ _ _ _ (ix2 r q) (ix2 r ⟨q.val - 99840, hl⟩) rfl (tail_idx r q hq hl)).trans ?_
    rw [pay2_at i b1 w1 x, tcol_of q hq hl]

/-- The second block at the end of the step. -/
theorem read3 (r : Fin 8) (q : Fin 100000) :
    b3.view.read (Elt F) ((stepRun c i b1 w1 b2 w2 b3 w3 b4 w4 x).2.1 f2 f3 f4) (ix2 r q)
      = FloatOps.mulf (wgt i x r q) (scale c i b1 w1 b2 w2 b3 w3 b4 w4 x (ix2 r 0)) := by
  rw [end3]
  by_cases hq : q.val < 99840
  · refine (View.read_writes_cons_unit_of_not_mem b3.view _ _ _ _ (ix2 r q) rfl 1 (Or.inl hq)).trans ?_
    rw [((stored2 c i b1 w1 b2 w2 b3 w3 b4 w4 _ _ f3 195 le_rfl r q).1 (by omega)).2, weights_at c i b1 w1 b2 w2 b3 w3 b4 w4 x f2 r q hq]
  · have hl : q.val - 99840 < 160 := by have := q.isLt; omega
    refine (View.read_writes_cons_unit_of_mem b3.view _ _ _ _ (ix2 r q) (ix2 r ⟨q.val - 99840, hl⟩) rfl (tail_idx r q hq hl)).trans ?_
    rw [pay2_at i b1 w1 x, tcol_of q hq hl]

/-- The block of positions at the end of the step. -/
abbrev ids : FVec F S1x8x1 .f32 :=
  k0_pay184 (state1 c i b1 w1 b2 w2 b3 w3 b4 w4 x 195).1.2.1 (state1 c i b1 w1 b2 w2 b3 w3 b4 w4 x 195).1.2.2
    (stepRun.sl.r_11 i b1 w1 x) (stepRun.sl.r_18 i)

theorem read4 (j : S1x8x1.Idx) :
    b4.view.read (Elt F) ((stepRun c i b1 w1 b2 w2 b3 w3 b4 w4 x).2.2.1 f2 f3 f4) j = ids c i b1 w1 b2 w2 b3 w3 b4 w4 x j := by
  unfold stepRun
  dsimp only
  unfold stepRun.sl.H4_1 stepRun.sl.r_2 stepRun.sl.r_3
  rw [load_all, trips_195]
  exact View.read_writes_cons_unit_of_mem b4.view _ _ _ _ j j rfl (fun a => match a with
    | ⟨0, _⟩ => (Nat.zero_add _).symm | ⟨1, _⟩ => (Nat.zero_add _).symm | ⟨2, _⟩ => (Nat.zero_add _).symm)

end step

end Cert.Gumbel.Kernel

end
-- ==== Proof.Fold.lean ====
/-
  The kernel's carried sums, maxima and positions as plain recursions over the stretches, free of the buffers the step
  runs in; and the three blocks of a step in those terms.
-/
module

public import proofs.«01_k».proof.Proof.BodyValue

@[expose] public section

set_option maxRecDepth 16384

noncomputable section

namespace Cert.Gumbel.Kernel

open Idealize.ShloMosaic Idealize.ShloMosaic.TcCoe Idealize.ShloMosaic.ValueIdx
open Cert.KernelIdeal Cert.KernelIdeal.Gen

variable {F : FTy → Type} [FloatOps F]

section forms
variable (i : grid0.Coords) (x : Vec F S8x100000 .f32) (r : Fin 8) (l : Fin 512)

/-- A lane's sum of weights after `k` stretches. -/
def laneSum : ℕ → F .f32
  | 0 => fbits 0x00000000#32
  | k + 1 => if h : k < 195 then FloatOps.addf (laneSum k) (wgt i x r (col k h l)) else laneSum k

/-- A lane's greatest race value after `k` stretches, and where it first stood. -/
def laneBest : ℕ → F .f32 × BitVec 32
  | 0 => (fbits 0xFF800000#32, 0#32)
  | k + 1 => if h : k < 195 then
      (Scalar.select (FloatOps.cmpf .ogt (race i x r (col k h l)) (laneBest k).1) (race i x r (col k h l)) (laneBest k).1,
       Scalar.select (FloatOps.cmpf .ogt (race i x r (col k h l)) (laneBest k).1) (BitVec.ofNat 32 (512 * k + l.val)) (laneBest k).2)
      else laneBest k

/-- The weights of the last stretch. -/
def tailWgt : FVec F S8x160 .f32 := fun j => wgt i x (j 0) (tcol (j 1))

/-- The second draws of the last stretch. -/
def tailDraw : FVec F S8x160 .f32 := fun j => unit01 F (bitsS (cnt i (j 0) (tcol (j 1))))

/-- The rows' scale factors. -/
def scaleV : FVec F S8x1 .f32 := k0_pay185 (fun j => laneSum i x (j 0) (j 1) 195) (tailWgt i x)

/-- The block of scaled weights. -/
def softV : Vec F S8x100000 .f32 := fun j => FloatOps.mulf (wgt i x (j 0) (j 1)) (scaleV i x (ix2 (j 0) 0))

/-- The block of sampled positions. -/
def idsV : Vec F S1x8x1 .f32 :=
  k0_pay184 (fun j => (laneBest i x (j 0) (j 1) 195).1) (fun j => (laneBest i x (j 0) (j 1) 195).2) (tailWgt i x) (tailDraw i)

theorem laneSum_succ (k : ℕ) (h : k < 195) :
    laneSum i x r l (k + 1) = FloatOps.addf (laneSum i x r l k) (wgt i x r (col k h l)) := by
  rw [laneSum, dif_pos h]

theorem laneBest_succ (k : ℕ) (h : k < 195) : laneBest i x r l (k + 1) =
    (Scalar.select (FloatOps.cmpf .ogt (race i x r (col k h l)) (laneBest i x r l k).1) (race i x r (col k h l)) (laneBest i x r l k).1,
     Scalar.select (FloatOps.cmpf .ogt (race i x r (col k h l)) (laneBest i x r l k).1) (BitVec.ofNat 32 (512 * k + l.val)) (laneBest i x r l k).2) := by
  rw [laneBest, dif_pos h]

end forms

section step
variable (c : Dev nD) (i : grid0.Coords) (b1 : Memref sig .tc .vmem S8x100000 .f32) (w1 : b1.IsWhole) (b2 : Memref sig .tc .vmem S8x100000 .f32) (w2 : b2.IsWhole) (b3 : Memref sig .tc .vmem S8x100000 .f32) (w3 : b3.IsWhole) (b4 : Memref sig .tc .vmem S1x8x1 .f32) (w4 : b4.IsWhole)
  (x : Vec F S8x100000 .f32)

theorem carried_sum (k : ℕ) (hk : k ≤ 195) (r : Fin 8) (l : Fin 512) :
    (state1 c i b1 w1 b2 w2 b3 w3 b4 w4 x k).1.1 (ix2 r l) = laneSum i x r l k := by
  induction k with
  | zero => rfl
  | succ k ih =>
    rw [sum_step c i b1 w1 b2 w2 b3 w3 b4 w4 x k hk, ih (by omega)]
    exact (laneSum_succ i x r l k hk).symm

theorem carried_best (k : ℕ) (hk : k ≤ 195) (r : Fin 8) (l : Fin 512) :
    (state1 c i b1 w1 b2 w2 b3 w3 b4 w4 x k).1.2.1 (ix2 r l) = (laneBest i x r l k).1
    ∧ (state1 c i b1 w1 b2 w2 b3 w3 b4 w4 x k).1.2.2 (ix2 r l) = (laneBest i x r l k).2 := by
  induction k with
  | zero => exact ⟨rfl, rfl⟩
  | succ k ih =>
    have e := race_step c i b1 w1 b2 w2 b3 w3 b4 w4 x k hk r l
    rw [e.1, e.2, (ih (by omega)).1, (ih (by omega)).2]
    rw [laneBest_succ i x r l k hk]
    exact ⟨rfl, rfl⟩

theorem tailWgt_eq : stepRun.sl.r_11 i b1 w1 x = tailWgt i x := by
  funext j
  rw [eq_ix2 j]
  exact tail_wgt i b1 w1 x _ _

theorem tailDraw_eq : stepRun.sl.r_18 (F := F) i = tailDraw i := by
  funext j
  rw [eq_ix2 j]
  exact tail_draw i _ _

theorem scale_form : scale c i b1 w1 b2 w2 b3 w3 b4 w4 x = scaleV i x := by
  unfold scale scaleV
  rw [tailWgt_eq]
  congr 1
  funext j
  rw [eq_ix2 j]
  exact carried_sum c i b1 w1 b2 w2 b3 w3 b4 w4 x 195 le_rfl _ _

theorem ids_form : ids c i b1 w1 b2 w2 b3 w3 b4 w4 x = idsV i x := by
  unfold ids idsV
  rw [tailWgt_eq, tailDraw_eq]
  congr 1
  · funext j
    rw [eq_ix2 j]
    exact (carried_best c i b1 w1 b2 w2 b3 w3 b4 w4 x 195 le_rfl _ _).1
  · funext j
    rw [eq_ix2 j]
    exact (carried_best c i b1 w1 b2 w2 b3 w3 b4 w4 x 195 le_rfl _ _).2

variable (f2 : BufTy.Contents (Elt F) b2.view.ty) (f3 : BufTy.Contents (Elt F) b3.view.ty) (f4 : BufTy.Contents (Elt F) b4.view.ty)

theorem final2 : b2.view.read (Elt F) ((stepRun c i b1 w1 b2 w2 b3 w3 b4 w4 x).1 f2 f3 f4) = softV i x := by
  funext j
  obtain ⟨r, q, rfl⟩ : ∃ (r : Fin 8) (q : Fin 100000), j = ix2 r q := ⟨j 0, j 1, eq_ix2 j⟩
  rw [read2, scale_form]
  rfl

theorem final3 : b3.view.read (Elt F) ((stepRun c i b1 w1 b2 w2 b3 w3 b4 w4 x).2.1 f2 f3 f4) = softV i x := by
  funext j
  obtain ⟨r, q, rfl⟩ : ∃ (r : Fin 8) (q : Fin 100000), j = ix2 r q := ⟨j 0, j 1, eq_ix2 j⟩
  rw [read3, scale_form]
  rfl

theorem final4 : b4.view.read (Elt F) ((stepRun c i b1 w1 b2 w2 b3 w3 b4 w4 x).2.2.1 f2 f3 f4) = idsV i x := by
  funext j
  rw [read4, ids_form]

end step

end Cert.Gumbel.Kernel

end
-- ==== Proof.KernelFrame.lean ====
/-
  The launch of the idealized kernel: every final state holds the three result arrays block by block, the argument as
  it was, and every counter at zero.
-/
module

public import proofs.«01_k».proof.Proof.Fold
public import Idealize.ShloMosaic.Lib.Claim

@[expose] public section

set_option maxRecDepth 16384

noncomputable section

namespace Cert.Gumbel.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's proof data: the arrays as found, and after a step the input's block and the three results'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => softV (grid0.coords t) (iblk m c 0 t)
    | ⟨2, _⟩ => softV (grid0.coords t) (iblk m c 0 t)
    | ⟨3, _⟩ => idsV (grid0.coords t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = softV (grid0.coords t) (iblk m c 0 t) := by dsimp only [dats]
theorem after2 (c : Dev nD) (t : Fin cfg0.N) : (dats m 0 c).after 2 t = softV (grid0.coords t) (iblk m c 0 t) := by dsimp only [dats]
theorem after3 (c : Dev nD) (t : Fin cfg0.N) : (dats m 0 c).after 3 t = idsV (grid0.coords t) (iblk m c 0 t) := by dsimp only [dats]

theorem before0 (c : Dev nD) (t : Fin cfg0.N) (d) : (dats m 0 c).before 0 t d = iblk m c 0 t :=
  before0_0_of m (dats m 0 c) (A_eq m c 0) (after0 m c) t d

/-- What a step starts from. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it ends with. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound (c : Dev nD) (t : Fin cfg0.N) :
    pre m c t ⊢ wp frame (wpE (defs₀ (F := F)) Variants.none c none) Set.univ (bodyAt0 t) (fun _ => post m c t) := by
  unfold pre post bodyAt0
  simp only [before0]
  rw [show (dats m 0 c).Φ t.succ = (dats m 0 c).Φ t.castSucc from rfl,
    show (dats m 0 c).owesAt () t.succ = (dats m 0 c).owesAt () t.castSucc from rfl, after0, after1, after2, after3]
  unfold owns
  iintro ⟨HΦ, Ho, ⟨%d0, %f0, %hf0, H0⟩, ⟨%d1, %f1, -, H1⟩, ⟨%d2, %f2, -, H2⟩, ⟨%d3, %f3, -, H3⟩⟩
  obtain rfl := (hs0_0 t).eq_unread hf0
  iapply ((stepRun c (grid0.coords t) (ms0_0 t) (hs0_0 t) (ms0_1 t) (hs0_1 t) (ms0_2 t) (hs0_2 t) (ms0_3 t) (hs0_3 t) (iblk m c 0 t)).2.2.2 Set.univ _ f1 f2 f3)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr
    swap; · iexact H0
    ipureintro; exact (hs0_0 t).read_unread _
  isplitl [H1]
  · iexists _; isplitr
    swap; · iexact H1
    ipureintro; exact final2 c _ _ _ _ _ _ _ _ _ _ _ _ _
  isplitl [H2]
  · iexists _; isplitr
    swap; · iexact H2
    ipureintro; exact final3 c _ _ _ _ _ _ _ _ _ _ _ _ _
  iexists _; isplitr
  swap; · iexact H3
  ipureintro; exact final4 c _ _ _ _ _ _ _ _ _ _ _ _ _

theorem row (t : Fin cfg0.N) : defs₀ (F := F) .tc cfg0.body (cfg0.bodyArgs t (cfg0.slots t)) = bodyAt0 t := by
  unfold defs₀; rw [Defs.onTc_tc]

theorem body (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
set_option maxHeartbeats 800000 in
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument ends as it was, and every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun _ h => ⟨fun c => ((h.1 c).2 main_arg0
    (Pipeline.mem_restRefs_of main_arg0 (by decide) (by decide))).trans (W_main_arg0 m (dats m) c), h.2⟩) (run m ρ)

end Cert.Gumbel.Kernel

end
-- ==== Proof.KFinal.lean ====
/-
  The idealized kernel's results as functions of its argument: the batches' blocks gathered into whole arrays, then
  read through the lines that reshape them.
-/
module

public import proofs.«01_k».proof.Proof.KernelFrame

@[expose] public section

set_option maxRecDepth 16384

noncomputable section

namespace Cert.Gumbel.Kernel

open Idealize.ShloMosaic Idealize.ShloMosaic.TcCoe Idealize.ShloMosaic.ValueIdx
open Idealize.SL.Sem
open Idealize.ShloMosaic.Pipeline (Dat)
open Cert.KernelIdeal Cert.KernelIdeal.Gen

variable {F : FTy → Type} [FloatOps F]

/-- The grid step of a batch. -/
def pt (b : Fin 64) : Fin cfg0.N := b.cast rfl

/-- A batch's rows. -/
def rows (x : Vec F S64x8x100000 .f32) (b : Fin 64) : Vec F S8x100000 .f32 := fun j => x (ix3 b (j 0) (j 1))

/-- A batch's scaled weights, at an element. -/
def soft (x : Vec F S64x8x100000 .f32) (b : Fin 64) (r : Fin 8) (q : Fin 100000) : F .f32 :=
  softV (grid0.coords (pt b)) (rows x b) (ix2 r q)

/-- A batch's sampled positions, at a row. -/
def sampled (x : Vec F S64x8x100000 .f32) (b : Fin 64) (r : Fin 8) : F .f32 :=
  idsV (grid0.coords (pt b)) (rows x b) (ix3 0 r 0)

theorem batch_lt (R : Fin 512) : R.val / 8 < 64 := by omega
theorem row_lt (R : Fin 512) : R.val % 8 < 8 := by omega

/-- All scaled weights, by row of the flattened array. -/
def softA (x : Vec F S64x8x100000 .f32) : Vec F S512x100000 .f32 :=
  fun j => soft x ⟨(j 0).val / 8, batch_lt (j 0)⟩ ⟨(j 0).val % 8, row_lt (j 0)⟩ (j 1)

/-- All sampled positions. -/
def idsA (x : Vec F S64x8x100000 .f32) : Vec F S64x8x1 .f32 := fun j => sampled x (j 0) (j 1)

theorem index_facts : ∀ t : Fin cfg0.N, (grid0.coords t 0).val = t.val ∧ win0_0.index t 0 = t.val ∧ win0_0.index t 1 = 0
    ∧ win0_1.index t 0 = t.val ∧ win0_1.index t 1 = 0 ∧ win0_2.index t 0 = t.val ∧ win0_2.index t 1 = 0
    ∧ win0_3.index t 0 = t.val ∧ win0_3.index t 1 = 0 ∧ win0_3.index t 2 = 0 :=
  (by decide +kernel : ∀ t : Fin grid0.N, _)

theorem coords_val (b : Fin 64) : (grid0.coords (pt b) 0).val = b.val := (index_facts (pt b)).1

theorem flat_div (n : ℕ) (r : Fin 8) : (n * 8 + r.val) / 8 = n := by omega
theorem flat_mod (n : ℕ) (r : Fin 8) : (n * 8 + r.val) % 8 = r.val := by omega

variable (m : (ℓ : Loc nD τ sig) → Buf (Elt F) ℓ) (ρ : Dev nD → PrngReg)

/-- The argument at launch. -/
abbrev arg (c : Dev nD) : Vec F S64x8x100000 .f32 := m ((c : Thread nD τ).loc main_arg0)

theorem flat_arg (c : Dev nD) : V m c main_v0 = shapeCast S512x100000 (arg m c) shapeCasts_S64x8x100000_S512x100000 := by
  show StableHlo.after [StableHlo.reshape main_arg0 main_v0 rfl shapeCasts_S64x8x100000_S512x100000] (fun b => m (c, b)) (Proc.devRef .tc main_v0) = _
  after_results
  rfl

/-- The batch of a step. -/
def bat (t : Fin cfg0.N) : Fin 64 := t.cast rfl

theorem flat_row (t : Fin cfg0.N) (r : Fin 8) : t.val * 8 + r.val < 512 := by
  have : t.val < 64 := t.isLt
  omega

theorem block_arg (c : Dev nD) (t : Fin cfg0.N) : iblk m c 0 t = rows (arg m c) (bat t) := by
  funext j
  obtain ⟨r, q, rfl⟩ : ∃ (r : Fin 8) (q : Fin 100000), j = ix2 r q := ⟨j 0, j 1, eq_ix2 j⟩
  have e : iblk m c 0 t (ix2 r q) = V m c main_v0 (ix2 ⟨t.val * 8 + r.val, flat_row t r⟩ q) := by
    unfold iblk
    rw [View.read_apply]
    show V m c main_v0 _ = _
    congr 1
    funext a
    apply Fin.ext
    fin_cases a
    · show win0_0.index t 0 * 8 + 1 * r.val = t.val * 8 + r.val
      rw [(index_facts t).2.1, Nat.one_mul]
    · show win0_0.index t 1 * 100000 + 1 * q.val = q.val
      rw [(index_facts t).2.2.1, Nat.one_mul, Nat.zero_mul, Nat.zero_add]
  rw [e, flat_arg]
  exact shapeCast_apply _ _ _ (ix3 (bat t) r q) (by
    rw [Shape.rowMajor_val_two, Shape.rowMajor_val_three]
    rfl)

theorem pt_bat (t : Fin cfg0.N) : pt (bat t) = t := rfl

theorem flushed1 (c : Dev nD) (t : Fin cfg0.N) :
    (dats m 0 c).flushed 1 t = ((cfg0.win 1).blk t).view.read (Elt F) (softA (arg m c)) := by
  show (cfg0.win 1).cut (grid0.coords t) ((dats m 0 c).after 1 t) = _
  rw [after1, block_arg]
  funext j
  obtain ⟨r, q, rfl⟩ : ∃ (r : Fin 8) (q : Fin 100000), j = ix2 r q := ⟨j 0, j 1, eq_ix2 j⟩
  rw [View.read_apply]
  have e : ((cfg0.win 1).blk t).view.emb (ix2 r q) = (ix2 ⟨t.val * 8 + r.val, flat_row t r⟩ q : S512x100000.Idx) := by
    funext a
    apply Fin.ext
    fin_cases a
    · show win0_1.index t 0 * 8 + 1 * r.val = t.val * 8 + r.val
      rw [(index_facts t).2.2.2.1, Nat.one_mul]
    · show win0_1.index t 1 * 100000 + 1 * q.val = q.val
      rw [(index_facts t).2.2.2.2.1, Nat.one_mul, Nat.zero_mul, Nat.zero_add]
  rw [e]
  show soft (arg m c) (bat t) r q = softA (arg m c) (ix2 ⟨t.val * 8 + r.val, flat_row t r⟩ q)
  unfold softA
  congr 1
  · exact Fin.ext (flat_div t.val r).symm
  · exact Fin.ext (flat_mod t.val r).symm

theorem flushed2 (c : Dev nD) (t : Fin cfg0.N) :
    (dats m 0 c).flushed 2 t = ((cfg0.win 2).blk t).view.read (Elt F) (softA (arg m c)) := by
  show (cfg0.win 2).cut (grid0.coords t) ((dats m 0 c).after 2 t) = _
  rw [after2, block_arg]
  funext j
  obtain ⟨r, q, rfl⟩ : ∃ (r : Fin 8) (q : Fin 100000), j = ix2 r q := ⟨j 0, j 1, eq_ix2 j⟩
  rw [View.read_apply]
  have e : ((cfg0.win 2).blk t).view.emb (ix2 r q) = (ix2 ⟨t.val * 8 + r.val, flat_row t r⟩ q : S512x100000.Idx) := by
    funext a
    apply Fin.ext
    fin_cases a
    · show win0_2.index t 0 * 8 + 1 * r.val = t.val * 8 + r.val
      rw [(index_facts t).2.2.2.2.2.1, Nat.one_mul]
    · show win0_2.index t 1 * 100000 + 1 * q.val = q.val
      rw [(index_facts t).2.2.2.2.2.2.1, Nat.one_mul, Nat.zero_mul, Nat.zero_add]
  rw [e]
  show soft (arg m c) (bat t) r q = softA (arg m c) (ix2 ⟨t.val * 8 + r.val, flat_row t r⟩ q)
  unfold softA
  congr 1
  · exact Fin.ext (flat_div t.val r).symm
  · exact Fin.ext (flat_mod t.val r).symm

theorem flushed3 (c : Dev nD) (t : Fin cfg0.N) :
    (dats m 0 c).flushed 3 t = ((cfg0.win 3).blk t).view.read (Elt F) (idsA (arg m c)) := by
  show (cfg0.win 3).cut (grid0.coords t) ((dats m 0 c).after 3 t) = _
  rw [after3, block_arg]
  funext j
  obtain ⟨r, rfl⟩ : ∃ (r : Fin 8), j = ix3 (0 : Fin 1) r (0 : Fin 1) := ⟨j 1, funext fun a => by
    fin_cases a
    · exact Subsingleton.elim (α := Fin 1) _ _
    · rfl
    · exact Subsingleton.elim (α := Fin 1) _ _⟩
  rw [View.read_apply]
  have e : ((cfg0.win 3).blk t).view.emb (ix3 (0 : Fin 1) r (0 : Fin 1)) = (ix3 (bat t) r (0 : Fin 1) : S64x8x1.Idx) := by
    funext a
    apply Fin.ext
    fin_cases a
    · show win0_3.index t 0 * 1 + 1 * 0 = t.val
      rw [(index_facts t).2.2.2.2.2.2.2.1]
      omega
    · show win0_3.index t 1 * 8 + 1 * r.val = r.val
      rw [(index_facts t).2.2.2.2.2.2.2.2.1]
      omega
    · show win0_3.index t 2 * 1 + 1 * 0 = 0
      rw [(index_facts t).2.2.2.2.2.2.2.2.2]
  rw [e]
  rfl

theorem mem1 (t : Fin cfg0.N) (i : S512x100000.Idx) :
    i ∈ ((cfg0.win 1).blk t).view.set ↔ ∀ a, win0_1.index t a * S8x100000.size a ≤ (i a).val ∧ (i a).val < win0_1.index t a * S8x100000.size a + S8x100000.size a := by
  show i ∈ ((View.whole main_v1_0).slice (win0_1.rect t)).set ↔ _
  rw [View.set_slice_whole, Rect.mem_set_unit]

theorem mem2 (t : Fin cfg0.N) (i : S512x100000.Idx) :
    i ∈ ((cfg0.win 2).blk t).view.set ↔ ∀ a, win0_2.index t a * S8x100000.size a ≤ (i a).val ∧ (i a).val < win0_2.index t a * S8x100000.size a + S8x100000.size a := by
  show i ∈ ((View.whole main_v1_1).slice (win0_2.rect t)).set ↔ _
  rw [View.set_slice_whole, Rect.mem_set_unit]

theorem mem3 (t : Fin cfg0.N) (i : S64x8x1.Idx) :
    i ∈ ((cfg0.win 3).blk t).view.set ↔ ∀ a, win0_3.index t a * S1x8x1.size a ≤ (i a).val ∧ (i a).val < win0_3.index t a * S1x8x1.size a + S1x8x1.size a := by
  show i ∈ ((View.whole main_v1_2).slice (win0_3.rect t)).set ↔ _
  rw [View.set_slice_whole, Rect.mem_set_unit]

theorem cover1 (i : S512x100000.Idx) : ∃ t : Fin cfg0.N, (cfg0.win 1).flush t = true ∧ i ∈ ((cfg0.win 1).blk t).view.set := by
  have h0 : (i 0).val < 512 := (i 0).isLt
  have h1 : (i 1).val < 100000 := (i 1).isLt
  refine ⟨⟨(i 0).val / 8, batch_lt (i 0)⟩, flush0_1 _, ?_⟩
  rw [mem1]
  intro a
  fin_cases a
  · show win0_1.index _ 0 * 8 ≤ (i 0).val ∧ (i 0).val < win0_1.index _ 0 * 8 + 8
    rw [(index_facts _).2.2.2.1]
    dsimp only
    omega
  · show win0_1.index _ 1 * 100000 ≤ (i 1).val ∧ (i 1).val < win0_1.index _ 1 * 100000 + 100000
    rw [(index_facts _).2.2.2.2.1]
    omega

theorem cover2 (i : S512x100000.Idx) : ∃ t : Fin cfg0.N, (cfg0.win 2).flush t = true ∧ i ∈ ((cfg0.win 2).blk t).view.set := by
  have h0 : (i 0).val < 512 := (i 0).isLt
  have h1 : (i 1).val < 100000 := (i 1).isLt
  refine ⟨⟨(i 0).val / 8, batch_lt (i 0)⟩, flush0_2 _, ?_⟩
  rw [mem2]
  intro a
  fin_cases a
  · show win0_2.index _ 0 * 8 ≤ (i 0).val ∧ (i 0).val < win0_2.index _ 0 * 8 + 8
    rw [(index_facts _).2.2.2.2.2.1]
    dsimp only
    omega
  · show win0_2.index _ 1 * 100000 ≤ (i 1).val ∧ (i 1).val < win0_2.index _ 1 * 100000 + 100000
    rw [(index_facts _).2.2.2.2.2.2.1]
    omega

theorem cover3 (i : S64x8x1.Idx) : ∃ t : Fin cfg0.N, (cfg0.win 3).flush t = true ∧ i ∈ ((cfg0.win 3).blk t).view.set := by
  have h0 : (i 0).val < 64 := (i 0).isLt
  have h1 : (i 1).val < 8 := (i 1).isLt
  have h2 : (i 2).val < 1 := (i 2).isLt
  refine ⟨⟨(i 0).val, h0⟩, flush0_3 _, ?_⟩
  rw [mem3]
  intro a
  fin_cases a
  · show win0_3.index _ 0 * 1 ≤ (i 0).val ∧ (i 0).val < win0_3.index _ 0 * 1 + 1
    rw [(index_facts _).2.2.2.2.2.2.2.1]
    dsimp only
    omega
  · show win0_3.index _ 1 * 8 ≤ (i 1).val ∧ (i 1).val < win0_3.index _ 1 * 8 + 8
    rw [(index_facts _).2.2.2.2.2.2.2.2.1]
    omega
  · show win0_3.index _ 2 * 1 ≤ (i 2).val ∧ (i 2).val < win0_3.index _ 2 * 1 + 1
    rw [(index_facts _).2.2.2.2.2.2.2.2.2]
    omega

theorem final1 (c : Dev nD) : (dats m 0 c).arrAt 1 cfg0.N = softA (arg m c) :=
  (dats m 0 c).arrAt_eq_of_cover 1 (softA (arg m c)) (fun t _ => flushed1 m c t) cover1

theorem final2A (c : Dev nD) : (dats m 0 c).arrAt 2 cfg0.N = softA (arg m c) :=
  (dats m 0 c).arrAt_eq_of_cover 2 (softA (arg m c)) (fun t _ => flushed2 m c t) cover2

theorem final3A (c : Dev nD) : (dats m 0 c).arrAt 3 cfg0.N = idsA (arg m c) :=
  (dats m 0 c).arrAt_eq_of_cover 3 (idsA (arg m c)) (fun t _ => flushed3 m c t) cover3

theorem arr_inj : Function.Injective (Pipeline.arrRef spec0) := by decide

/-- The lines after the launch leave the reshaped arrays and the constant temperature. -/
theorem tail_results (c : Dev nD) :
    Pipeline.afterTail₀ cfgs (dats m) 0 (V0 m) [hostOps1] c main_v2 = (fun i => sampled (arg m c) (i 0) (i 1))
    ∧ Pipeline.afterTail₀ cfgs (dats m) 0 (V0 m) [hostOps1] c main_v3 = (fun i => soft (arg m c) (i 0) (i 1) (i 2))
    ∧ Pipeline.afterTail₀ cfgs (dats m) 0 (V0 m) [hostOps1] c main_v4 = (fun i => soft (arg m c) (i 0) (i 1) (i 2))
    ∧ Pipeline.afterTail₀ cfgs (dats m) 0 (V0 m) [hostOps1] c main_v5 = (fun _ => fbits 0x3F800000#32) := by
  have e1 := (Pipeline.withArrays_arr spec0 arr_inj c (V0 m c) (fun w => (dats m 0 c).arrAt w cfg0.N) 1).trans (final1 m c)
  have e2 := (Pipeline.withArrays_arr spec0 arr_inj c (V0 m c) (fun w => (dats m 0 c).arrAt w cfg0.N) 2).trans (final2A m c)
  have e3 := (Pipeline.withArrays_arr spec0 arr_inj c (V0 m c) (fun w => (dats m 0 c).arrAt w cfg0.N) 3).trans (final3A m c)
  unfold Pipeline.afterTail₀
  generalize Pipeline.withArrays _ c (V0 m c) _ = W at e1 e2 e3
  have s1 : ∀ i : S64x8x100000.Idx, shapeCast S64x8x100000 (softA (arg m c)) shapeCasts_S512x100000_S64x8x100000 i = soft (arg m c) (i 0) (i 1) (i 2) := by
    intro i
    refine (shapeCast_apply _ _ _ (ix2 ⟨(i 0).val * 8 + (i 1).val, flat_row (i 0) (i 1)⟩ (i 2)) (by
      rw [Shape.rowMajor_val_two, Shape.rowMajor_val_three]
      rfl)).trans ?_
    unfold softA
    congr 1
    · exact Fin.ext (flat_div (i 0).val (i 1))
    · exact Fin.ext (flat_mod (i 0).val (i 1))
  refine ⟨?_, ?_, ?_, ?_⟩
  · simp only [hostOps1, List.flatten_cons, List.flatten_nil, List.append_nil]
    after_results
    funext i
    show shapeCast S64x8 (W (Proc.tc.devRef (Pipeline.arrRef spec0 3))) shapeCasts_S64x8x1_S64x8 i = _
    rw [e3]
    exact shapeCast_apply _ _ _ (ix3 (i 0) (i 1) (0 : Fin 1)) (by
      rw [Shape.rowMajor_val_two, Shape.rowMajor_val_three]
      show ((i 0).val * 8 + (i 1).val) * 1 + 0 = (i 0).val * 8 + (i 1).val
      omega)
  · simp only [hostOps1, List.flatten_cons, List.flatten_nil, List.append_nil]
    after_results
    funext i
    show shapeCast S64x8x100000 (W (Proc.tc.devRef (Pipeline.arrRef spec0 1))) shapeCasts_S512x100000_S64x8x100000 i = _
    rw [e1, s1]
  · simp only [hostOps1, List.flatten_cons, List.flatten_nil, List.append_nil]
    after_results
    funext i
    show shapeCast S64x8x100000 (W (Proc.tc.devRef (Pipeline.arrRef spec0 2))) shapeCasts_S512x100000_S64x8x100000 i = _
    rw [e2, s1]
  · simp only [hostOps1, List.flatten_cons, List.flatten_nil, List.append_nil]
    after_results
    rfl

/-- The idealized kernel's results, of its argument. -/
theorem final_run : θ_run defs (onTc (τ := τ) (main (F := F))) ⟨m, fun _ => 0, ρ⟩ (fun r => ∀ c : Dev nD,
    r.2.mem ((c.tc : Thread nD τ).loc main_v2) = (fun i => sampled (arg m c) (i 0) (i 1))
    ∧ r.2.mem ((c.tc : Thread nD τ).loc main_v4) = (fun i => soft (arg m c) (i 0) (i 1) (i 2))
    ∧ r.2.mem ((c.tc : Thread nD τ).loc main_v5) = (fun _ => fbits 0x3F800000#32)
    ∧ r.2.mem ((c.tc : Thread nD τ).loc main_v3) = (fun i => soft (arg m c) (i 0) (i 1) (i 2))
    ∧ r.2.mem ((c.tc : Thread nD τ).loc main_arg0) = m ((c.tc : Thread nD τ).loc main_arg0)) :=
  (θ_run defs _ _).mono (fun _ h c => by
    have k (b : Ref sig .tc) hb := (h.1 c).2 b hb
    obtain ⟨t2, t3, t4, t5⟩ := tail_results m c
    exact ⟨(k main_v2 (Pipeline.mem_restRefs_of main_v2 (by decide) (by decide))).trans t2,
      (k main_v4 (Pipeline.mem_restRefs_of main_v4 (by decide) (by decide))).trans t4,
      (k main_v5 (Pipeline.mem_restRefs_of main_v5 (by decide) (by decide))).trans t5,
      (k main_v3 (Pipeline.mem_restRefs_of main_v3 (by decide) (by decide))).trans t3,
      (k main_arg0 (Pipeline.mem_restRefs_of main_arg0 (by decide) (by decide))).trans (W_main_arg0 m (dats m) c)⟩) (run m ρ)

end Cert.Gumbel.Kernel

end
-- ==== Proof.RowMath.lean ====
/-
  The mathematics of one row over the extended reals: the draws as reals, both softmax forms as one quotient, the race
  and the score as one order, and the least position of a greatest element.
-/
module

public import proofs.«01_k».proof.Proof.Spec
public import Idealize.ShloMosaic.PureOps.Ideal.Laws
public import Idealize.ShloMosaic.Lib.IdealHost

@[expose] public section

noncomputable section

namespace Cert.Gumbel.Row

open Idealize.ShloMosaic

/-! ## The draws -/

/-- A draw is a real of `[0, 1)`. -/
theorem unit01_real (w : BitVec 32) : ∃ f : ℝ, 0 ≤ f ∧ f < 1 ∧ unit01 Ideal w = ((f : ℝ) : EReal) := by
  have hm : (w >>> 9).toNat < 2 ^ 23 := by
    rw [BitVec.toNat_ushiftRight, Nat.shiftRight_eq_div_pow]
    have := w.isLt
    omega
  have hb : (w >>> 9 ||| 1065353216#32).toNat = 2 ^ 23 * 127 + (w >>> 9).toNat := by
    rw [BitVec.toNat_or, Nat.or_comm, Nat.two_pow_add_eq_or_of_lt hm 127]
    rfl
  show ∃ f : ℝ, 0 ≤ f ∧ f < 1 ∧
    Ideal.ieee 8 23 (w >>> 9 ||| 1065353216#32) - Ideal.ofBits .f32 0x3F800000#32 = ((f : ℝ) : EReal)
  generalize (w >>> 9 ||| 1065353216#32) = b at *
  generalize (w >>> 9).toNat = m at *
  have e1 : b.extractLsb' (8 + 23) 1 = 0#1 := by
    apply BitVec.eq_of_toNat_eq
    rw [BitVec.extractLsb'_toNat, hb, Nat.shiftRight_eq_div_pow]
    simp only [BitVec.toNat_ofNat]
    omega
  have e2 : (b.extractLsb' 23 8).toNat = 127 := by
    rw [BitVec.extractLsb'_toNat, hb, Nat.shiftRight_eq_div_pow]
    omega
  have e3 : (b.extractLsb' 0 23).toNat = m := by
    rw [BitVec.extractLsb'_toNat, hb, Nat.shiftRight_eq_div_pow]
    omega
  have hm' : (m : ℝ) < 2 ^ 23 := by exact_mod_cast hm
  refine ⟨(m : ℝ) / 2 ^ 23, by positivity, by rw [div_lt_one (by positivity)]; exact hm', ?_⟩
  rw [Ideal.ofBits_one_f32, show (1 : EReal) = ((1 : ℝ) : EReal) by norm_cast]
  simp only [Ideal.ieee, e1, e2, e3]
  rw [if_neg (by norm_num), if_neg (by norm_num), ← EReal.coe_sub]
  congr 1
  norm_num
  ring

theorem c999_real : ∃ c : ℝ, 0 < c ∧ c < 0.9995 ∧ Ideal.ofBits .f32 0x3F7FBE77#32 = ((c : ℝ) : EReal) := by
  refine ⟨16760439 / 2 ^ 24, by norm_num, by norm_num, ?_⟩
  simp [Ideal.ofBits, Ideal.ieee, -EReal.coe_mul]
  norm_num

theorem eps_real : ∃ c : ℝ, 0 < c ∧ c < 0.0001 ∧ Ideal.ofBits .f32 0x2B8CBCCC#32 = ((c : ℝ) : EReal) := by
  refine ⟨9223372 / 2 ^ 63, by norm_num, by norm_num, ?_⟩
  simp [Ideal.ofBits, Ideal.ieee, -EReal.coe_mul]
  norm_num

theorem tiny_real : ∃ c : ℝ, 0 < c ∧ c < 1 ∧ Ideal.ofBits .f32 0x00800000#32 = ((c : ℝ) : EReal) := by
  refine ⟨1 / 2 ^ 126, by norm_num, by norm_num, ?_⟩
  simp [Ideal.ofBits, Ideal.ieee, -EReal.coe_mul]
  norm_num

theorem shift_real : ∃ c : ℝ, Ideal.ofBits .f32 0x40DD1EB8#32 = ((c : ℝ) : EReal) := by
  refine ⟨14491320 / 2 ^ 21, ?_⟩
  simp [Ideal.ofBits, Ideal.ieee, -EReal.coe_mul]
  norm_num

theorem ofBits_bot : Ideal.ofBits .f32 0xFF800000#32 = (⊥ : EReal) := by simp [Ideal.ofBits, Ideal.ieee]
theorem ofBits_top : Ideal.ofBits .f32 0x7F800000#32 = (⊤ : EReal) := by simp [Ideal.ofBits, Ideal.ieee]

theorem log_pos {r : ℝ} (h : 0 < r) : Ideal.log ((r : ℝ) : EReal) = ((Real.log r : ℝ) : EReal) := if_neg (not_le.mpr h)
theorem log_zero : Ideal.log ((0 : ℝ) : EReal) = ⊥ := if_pos le_rfl

/-- `0 - log u` of a draw inside `(0, 1)` is a positive real. -/
theorem neg_log_real {u : ℝ} (h0 : 0 < u) (h1 : u < 1) : ∃ d : ℝ, 0 < d ∧ (0 : EReal) - Ideal.log ((u : ℝ) : EReal) = ((d : ℝ) : EReal) := by
  refine ⟨-Real.log u, by have := Real.log_neg h0 h1; linarith, ?_⟩
  rw [log_pos h0, sub_eq_add_neg, zero_add, EReal.coe_neg]

theorem gumbelDen_real (n : BitVec 32) : ∃ d : ℝ, 0 < d ∧ gumbelDen Ideal n = ((d : ℝ) : EReal) := by
  obtain ⟨f, f0, f1, hf⟩ := unit01_real (bitsU n)
  obtain ⟨a, a0, a1, ha⟩ := c999_real
  obtain ⟨b, b0, b1, hb⟩ := eps_real
  show ∃ d : ℝ, 0 < d ∧ Ideal.ofBits .f32 0x00000000#32 - Ideal.log
    (unit01 Ideal (bitsU n) * Ideal.ofBits .f32 0x3F7FBE77#32 + Ideal.ofBits .f32 0x2B8CBCCC#32) = ((d : ℝ) : EReal)
  rw [hf, ha, hb, Ideal.ofBits_zero_f32, ← EReal.coe_mul, ← EReal.coe_add]
  have hfa : f * a ≤ a := by nlinarith
  have hfa' : 0 ≤ f * a := by positivity
  exact neg_log_real (by linarith) (by norm_num at a1 b1; linarith)

theorem drawDen_real (n : BitVec 32) : ∃ d : ℝ, 0 < d ∧ drawDen Ideal n = ((d : ℝ) : EReal) := by
  obtain ⟨f, f0, f1, hf⟩ := unit01_real (bitsS n)
  obtain ⟨a, a0, a1, ha⟩ := tiny_real
  show ∃ d : ℝ, 0 < d ∧ Ideal.ofBits .f32 0x00000000#32 - Ideal.log
    (max (Ideal.ofBits .f32 0x00800000#32) (unit01 Ideal (bitsS n))) = ((d : ℝ) : EReal)
  rw [hf, ha, Ideal.ofBits_zero_f32, ← EReal.coe_strictMono.monotone.map_max]
  exact neg_log_real (lt_of_lt_of_le a0 (le_max_left _ _)) (max_lt a1 f1)

/-- The first draw's denominator as a real. -/
def denR (n : BitVec 32) : ℝ := (gumbelDen Ideal n).toReal
/-- The second draw's denominator as a real. -/
def drawR (n : BitVec 32) : ℝ := (drawDen Ideal n).toReal
theorem denR_spec (n : BitVec 32) : 0 < denR n ∧ gumbelDen Ideal n = ((denR n : ℝ) : EReal) := by
  obtain ⟨d, h0, h⟩ := gumbelDen_real n
  unfold denR
  rw [h, EReal.toReal_coe]
  exact ⟨h0, rfl⟩
theorem drawR_spec (n : BitVec 32) : 0 < drawR n ∧ drawDen Ideal n = ((drawR n : ℝ) : EReal) := by
  obtain ⟨d, h0, h⟩ := drawDen_real n
  unfold drawR
  rw [h, EReal.toReal_coe]
  exact ⟨h0, rfl⟩

/-- The counter of column `c` of row `a` of the array flattened to rows. -/
def num (a : ℕ) (c : Fin 100000) : BitVec 32 := BitVec.ofNat 32 (a * 100000 + c.val)

/-! ## Comparisons and greatest elements -/

theorem cmp_ogt {x y : EReal} : Ideal.cmp .ogt x y = 1#1 ↔ y < x := by
  by_cases h : y < x <;> simp [Ideal.cmp, h]
theorem cmp_olt {x y : EReal} : Ideal.cmp .olt x y = 1#1 ↔ x < y := by
  by_cases h : x < y <;> simp [Ideal.cmp, h]
theorem cmp_oeq {x y : EReal} : Ideal.cmp .oeq x y = 1#1 ↔ x = y := by
  by_cases h : x = y <;> simp [Ideal.cmp, h]

theorem select_pos {α : Type} {c : BitVec 1} {a b : α} (h : c = 1#1) : Scalar.select c a b = a := if_pos h
theorem select_neg {α : Type} {c : BitVec 1} {a b : α} (h : ¬ c = 1#1) : Scalar.select c a b = b := if_neg h

/-- `t` is the greatest of the values of `f`. -/
def IsTop {ι : Type} (f : ι → EReal) (t : EReal) : Prop := (∃ c, f c = t) ∧ ∀ c, f c ≤ t

theorem fold_max_top {ι : Type} [Fintype ι] [Nonempty ι] (f : ι → EReal) : IsTop f (Finset.univ.fold max ⊥ f) := by
  have h : Finset.univ.fold max ⊥ f = Finset.univ.sup f := rfl
  rw [h]
  obtain ⟨c, _, hc⟩ := Finset.exists_mem_eq_sup (Finset.univ : Finset ι) Finset.univ_nonempty f
  exact ⟨⟨c, hc.symm⟩, fun c => Finset.le_sup (Finset.mem_univ c)⟩

theorem IsTop.iff {ι : Type} {f : ι → EReal} {t : EReal} (h : IsTop f t) (c : ι) : f c = t ↔ ∀ c', f c' ≤ f c := by
  constructor
  · rintro e c'; rw [e]; exact h.2 c'
  · intro g; obtain ⟨c', e⟩ := h.1; exact le_antisymm (h.2 c) (e ▸ g c')

/-! ## Quotients of exponentials -/

/-- The exponential as a real, where the value is a real or `⊥`. -/
def er : EReal → ℝ
  | ⊥ => 0
  | ⊤ => 0
  | (r : ℝ) => Real.exp r

theorem er_coe (r : ℝ) : er ((r : ℝ) : EReal) = Real.exp r := rfl
theorem er_nonneg (x : EReal) : 0 ≤ er x := by
  induction x with
  | bot => exact le_rfl
  | top => exact le_rfl
  | coe r => exact (Real.exp_pos r).le

theorem exp_add_coe (x : EReal) (hx : x ≠ ⊤) (s : ℝ) : Ideal.exp (x + ((s : ℝ) : EReal)) = ((er x * Real.exp s : ℝ) : EReal) := by
  induction x with
  | bot =>
    rw [EReal.bot_add]
    show (0 : EReal) = ((0 * Real.exp s : ℝ) : EReal)
    rw [zero_mul, EReal.coe_zero]
  | top => exact absurd rfl hx
  | coe r =>
    rw [← EReal.coe_add, er_coe, ← Real.exp_add]
    rfl

theorem div_real (p q : ℝ) (hq : q ≠ 0) : Ideal.div ((p : ℝ) : EReal) ((q : ℝ) : EReal) = ((p / q : ℝ) : EReal) := by
  unfold Ideal.div
  rw [if_neg (by exact_mod_cast hq), ← EReal.coe_inv, ← EReal.coe_mul, div_eq_mul_inv]

theorem coe_sum {ι : Type} (s : Finset ι) (f : ι → ℝ) : ∑ c ∈ s, ((f c : ℝ) : EReal) = ((∑ c ∈ s, f c : ℝ) : EReal) := by
  classical
  induction s using Finset.induction_on with
  | empty => simp
  | insert a s ha ih => rw [Finset.sum_insert ha, Finset.sum_insert ha, ih, EReal.coe_add]

section row
variable {ι : Type} [Fintype ι] (x : ι → EReal) (d : ι → ℝ)

/-- The unscaled weight of an element, as a real. -/
def P (c : ι) : ℝ := er (x c) / d c
/-- The row's sum of unscaled weights. -/
def T : ℝ := ∑ c, P x d c

variable (hd : ∀ c, 0 < d c) (top : ℝ) (ht : IsTop x ((top : ℝ) : EReal))
include hd
theorem P_nonneg (c : ι) : 0 ≤ P x d c := div_nonneg (er_nonneg _) (hd c).le
include ht
theorem T_pos : 0 < T x d := by
  obtain ⟨c, hc⟩ := ht.1
  refine lt_of_lt_of_le ?_ (Finset.single_le_sum (fun c _ => P_nonneg x d hd c) (Finset.mem_univ c))
  unfold P
  rw [hc, er_coe]
  exact div_pos (Real.exp_pos _) (hd c)
theorem ne_top (c : ι) : x c ≠ ⊤ := fun e => by
  have := ht.2 c
  rw [e] at this
  exact absurd this (not_le.mpr (EReal.coe_lt_top _))

/-- A weight shifted by any real is the unscaled one times a positive real. -/
theorem shifted_weight (s : ℝ) (c : ι) :
    Ideal.div (Ideal.exp (x c - ((s : ℝ) : EReal))) ((d c : ℝ) : EReal) = ((P x d c * Real.exp (-s) : ℝ) : EReal) := by
  rw [sub_eq_add_neg, ← EReal.coe_neg, exp_add_coe _ (ne_top x d hd top ht c), div_real _ _ (hd c).ne']
  congr 1
  unfold P
  ring

/-- The weight times one over the row's sum of weights. -/
theorem soft_kernel (s : ℝ) (c : ι) : ((P x d c * Real.exp (-s) : ℝ) : EReal)
    * Ideal.div 1 (∑ c, ((P x d c * Real.exp (-s) : ℝ) : EReal)) = ((P x d c / T x d : ℝ) : EReal) := by
  have hT := T_pos x d hd top ht
  rw [coe_sum, ← Finset.sum_mul, show (1 : EReal) = ((1 : ℝ) : EReal) by norm_cast]
  show _ * Ideal.div _ ((T x d * Real.exp (-s) : ℝ) : EReal) = _
  have he := Real.exp_pos (-s)
  rw [div_real _ _ (mul_pos hT he).ne', ← EReal.coe_mul]
  congr 1
  field_simp

/-- The perturbed logit. -/
def logit (c : ι) : EReal := x c + ((-Real.log (d c) : ℝ) : EReal)

/-- The perturbed logits' greatest is a real. -/
theorem logit_top (t : EReal) (h : IsTop (logit x d) t) : ∃ s : ℝ, t = ((s : ℝ) : EReal) := by
  have h1 : t ≠ ⊤ := by
    obtain ⟨c, hc⟩ := h.1
    intro e
    have := ne_top x d hd top ht c
    rw [e] at hc
    unfold logit at hc
    revert hc
    generalize x c = y at *
    induction y with
    | bot => rw [EReal.bot_add]; exact fun h => absurd h bot_ne_top
    | top => exact fun _ => this rfl
    | coe r => rw [← EReal.coe_add]; exact fun h => absurd h (EReal.coe_ne_top _)
  have h2 : t ≠ ⊥ := by
    obtain ⟨c, hc⟩ := ht.1
    intro e
    have := h.2 c
    unfold logit at this
    rw [hc, ← EReal.coe_add, e] at this
    exact absurd this (not_le.mpr (EReal.bot_lt_coe _))
  exact ⟨t.toReal, (EReal.coe_toReal h1 h2).symm⟩

theorem exp_logit (s : ℝ) (c : ι) : Ideal.exp (logit x d c - ((s : ℝ) : EReal)) = ((P x d c * Real.exp (-s) : ℝ) : EReal) := by
  unfold logit
  rw [sub_eq_add_neg, ← EReal.coe_neg, add_assoc, ← EReal.coe_add, exp_add_coe _ (ne_top x d hd top ht c), Real.exp_add,
    Real.exp_neg (Real.log _), Real.exp_log (hd c)]
  congr 1
  unfold P
  ring

/-- The softmax of the perturbed logits. -/
theorem soft_reference (t : EReal) (h : IsTop (logit x d) t) (c : ι) :
    Ideal.div (Ideal.exp (logit x d c - t)) (∑ c, Ideal.exp (logit x d c - t)) = ((P x d c / T x d : ℝ) : EReal) := by
  obtain ⟨s, rfl⟩ := logit_top x d hd top ht t h
  have hT := T_pos x d hd top ht
  have he := Real.exp_pos (-s)
  simp only [exp_logit x d hd top ht]
  rw [coe_sum, ← Finset.sum_mul]
  show Ideal.div _ ((T x d * Real.exp (-s) : ℝ) : EReal) = _
  rw [div_real _ _ (mul_pos hT he).ne']
  congr 1
  field_simp

end row

/-! ## The race and the score -/

theorem log_sub {p e : ℝ} (hp : 0 ≤ p) (he : 0 < e) :
    Ideal.log ((p : ℝ) : EReal) - Ideal.log ((e : ℝ) : EReal) = Ideal.log ((p / e : ℝ) : EReal) := by
  rw [log_pos he]
  rcases hp.eq_or_lt with rfl | hp
  · rw [zero_div, log_zero, sub_eq_add_neg, EReal.bot_add]
  · rw [log_pos hp, log_pos (div_pos hp he), Real.log_div hp.ne' he.ne', EReal.coe_sub]

theorem log_le {p q : ℝ} (hp : 0 ≤ p) (hq : 0 ≤ q) : Ideal.log ((p : ℝ) : EReal) ≤ Ideal.log ((q : ℝ) : EReal) ↔ p ≤ q := by
  rcases hp.eq_or_lt with rfl | hp
  · rw [log_zero]
    exact ⟨fun _ => hq, fun _ => bot_le⟩
  · rcases hq.eq_or_lt with rfl | hq
    · rw [log_zero, log_pos hp]
      exact ⟨fun h => absurd h (not_le.mpr (EReal.bot_lt_coe _)), fun h => absurd h (not_le.mpr hp)⟩
    · rw [log_pos hp, log_pos hq, EReal.coe_le_coe_iff, Real.log_le_log_iff hp hq]

/-- The score `log y - log e` of a share `y = p / t` orders as the race value `p k / e`. -/
theorem score_le {p q e e' t k : ℝ} (hp : 0 ≤ p) (hq : 0 ≤ q) (he : 0 < e) (he' : 0 < e') (ht : 0 < t) (hk : 0 < k) :
    Ideal.log ((p / t : ℝ) : EReal) - Ideal.log ((e : ℝ) : EReal) ≤ Ideal.log ((q / t : ℝ) : EReal) - Ideal.log ((e' : ℝ) : EReal)
      ↔ ((p * k / e : ℝ) : EReal) ≤ ((q * k / e' : ℝ) : EReal) := by
  rw [log_sub (div_nonneg hp ht.le) he, log_sub (div_nonneg hq ht.le) he',
    log_le (div_nonneg (div_nonneg hp ht.le) he.le) (div_nonneg (div_nonneg hq ht.le) he'.le), EReal.coe_le_coe_iff]
  have a1 : p * k / e = p / t / e * (t * k) := by field_simp
  have a2 : q * k / e' = q / t / e' * (t * k) := by field_simp
  rw [a1, a2]
  exact (mul_le_mul_iff_left₀ (mul_pos ht hk)).symm

/-! ## The first position of a greatest element -/

/-- `v` is the number, as a word, of the first element of `f` that is at least every other. -/
def First {N : ℕ} (f : Fin N → EReal) (v : BitVec 32) : Prop :=
  ∃ c : Fin N, (∀ c', f c' ≤ f c) ∧ (∀ c', (∀ c'', f c'' ≤ f c') → c ≤ c') ∧ v = BitVec.ofNat 32 c.val

theorem First.unique {N : ℕ} {f g : Fin N → EReal} (hfg : ∀ c c', f c ≤ f c' ↔ g c ≤ g c') {v w : BitVec 32}
    (hv : First f v) (hw : First g w) : v = w := by
  obtain ⟨c, c1, c2, rfl⟩ := hv
  obtain ⟨e, e1, e2, rfl⟩ := hw
  have : c = e := le_antisymm (c2 e fun c'' => (hfg _ _).mpr (e1 c'')) (e2 c fun c'' => (hfg _ _).mp (c1 c''))
  rw [this]

theorem toInt_small {n : ℕ} (h : n < 2 ^ 31) : (BitVec.ofNat 32 n).toInt = n := by
  rw [BitVec.toInt_eq_toNat_cond, BitVec.toNat_ofNat]
  omega

theorem toInt_minsi (x y : BitVec 32) : (IntOp.minsi x y).toInt = min x.toInt y.toInt := by
  unfold IntOp.minsi
  by_cases h : x.slt y
  · rw [if_pos h]
    rw [BitVec.slt_iff_toInt_lt] at h
    omega
  · rw [if_neg h]
    rw [BitVec.slt_iff_toInt_lt] at h
    omega

/-- A fold of the signed minimum is at most its start and every word met, and is one of them. -/
theorem fold_minsi {ι : Type} (g : ι → BitVec 32) (s : Finset ι) (z : BitVec 32) :
    (∀ c ∈ s, (s.fold IntOp.minsi z g).toInt ≤ (g c).toInt)
    ∧ (s.fold IntOp.minsi z g = z ∨ ∃ c ∈ s, s.fold IntOp.minsi z g = g c) := by
  classical
  induction s using Finset.induction_on with
  | empty => exact ⟨fun c hc => absurd hc (Finset.notMem_empty c), .inl (Finset.fold_empty)⟩
  | insert a s ha ih =>
    obtain ⟨h2, h3⟩ := ih
    rw [Finset.fold_insert ha]
    have e := toInt_minsi (g a) (s.fold IntOp.minsi z g)
    refine ⟨fun c hc => ?_, ?_⟩
    · rcases Finset.mem_insert.mp hc with rfl | hc
      · omega
      · have := h2 c hc
        omega
    · unfold IntOp.minsi
      split
      · exact .inr ⟨a, Finset.mem_insert_self _ _, rfl⟩
      · rcases h3 with h3 | ⟨c, hc, h3⟩
        · exact .inl h3
        · exact .inr ⟨c, Finset.mem_insert_of_mem hc, h3⟩

/-- The signed minimum of the words of the marked elements, all the others and the start carrying a greater word. -/
theorem fold_minsi_marked {ι : Type} [Fintype ι] (mark : ι → BitVec 1) (n : ι → ℕ) (b : BitVec 32) (z : BitVec 32) (B : ℕ)
    (hB : B < 2 ^ 31) (hn : ∀ c, n c < B) (hb : (B : ℤ) ≤ b.toInt) (hz : (B : ℤ) ≤ z.toInt) (hex : ∃ c, mark c = 1#1) :
    ∃ c, mark c = 1#1 ∧ (∀ c', mark c' = 1#1 → n c ≤ n c') ∧
      Finset.univ.fold IntOp.minsi z (fun c => Scalar.select (mark c) (BitVec.ofNat 32 (n c)) b) = BitVec.ofNat 32 (n c) := by
  obtain ⟨h1, h2⟩ := fold_minsi (fun c => Scalar.select (mark c) (BitVec.ofNat 32 (n c)) b) Finset.univ z
  generalize Finset.univ.fold IntOp.minsi z (fun c => Scalar.select (mark c) (BitVec.ofNat 32 (n c)) b) = v at *
  have hm : ∀ c, mark c = 1#1 → v.toInt ≤ n c := fun c hc => by
    have := h1 c (Finset.mem_univ c)
    rw [select_pos hc, toInt_small (lt_trans (hn c) hB)] at this
    exact this
  obtain ⟨c0, hc0⟩ := hex
  have h0 := hm c0 hc0
  have hn0 := hn c0
  rcases h2 with h2 | ⟨c, _, h2⟩
  · rw [h2] at h0; omega
  · by_cases hc : mark c = 1#1
    · rw [select_pos hc] at h2
      refine ⟨c, hc, fun c' hc' => ?_, h2⟩
      have := hm c' hc'
      rw [h2, toInt_small (lt_trans (hn c) hB)] at this
      exact_mod_cast this
    · rw [select_neg hc] at h2
      rw [h2] at h0; omega

end Cert.Gumbel.Row

end
-- ==== Proof.KRow.lean ====
/-
  One row of a step of the kernel over the extended reals: its block of scaled weights is the row's softmax, and its
  sampled position is the first column of the greatest race value.
-/
module

public import proofs.«01_k».proof.Proof.Fold
public import proofs.«01_k».proof.Proof.RowMath
public import Idealize.ShloMosaic.Lib.Pointwise.Reduce

@[expose] public section

set_option maxRecDepth 16384

noncomputable section

namespace Cert.Gumbel.Kernel

open Idealize.ShloMosaic hiding ix1 ix2 ix3
open Idealize.ShloMosaic.TcCoe Idealize.ShloMosaic.ValueIdx
open Cert.KernelIdeal Cert.KernelIdeal.Gen Cert.Gumbel.Row

/-! ## Reductions along a row -/

section reductions
variable {a b : ℕ}

theorem rowMax_apply (v : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) (r : Fin a) :
    multiReduction .maximumf [1] ⟨1, ![a]⟩ v 0xFF800000#32 h hφ hacc (ix1 r)
      = (Finset.univ : Finset (Fin b)).fold max (⊥ : EReal) (fun k => v (ix2 r k)) := by
  refine (multiReduction_maximumf_eq_fold v _ h hφ hacc (ix1 r)).trans ((h.fold_fiber_r2_a1 (ix1 r) _ _ _).trans ?_)
  show (Finset.univ : Finset (Fin b)).fold max (Ideal.ofBits .f32 0xFF800000#32) (fun k => v (ix2 r k)) = _
  rw [ofBits_bot]

theorem rowMin_apply (v : IVec ⟨2, ![a, b]⟩ 32) (h : (⟨2, ![a, b]⟩ : Shape).Reduces [1] ⟨1, ![a]⟩) (acc : BitVec 32)
    (hacc : acc = IKind.minsi.neutral) (r : Fin a) :
    multiReductionI .minsi [1] ⟨1, ![a]⟩ v acc h hacc (ix1 r)
      = (Finset.univ : Finset (Fin b)).fold IntOp.minsi acc (fun k => v (ix2 r k)) :=
  (multiReductionI_eq_fold .minsi v acc h hacc (ix1 r)).trans (h.fold_fiber_r2_a1 (ix1 r) _ _ _)

theorem rowSum_apply (v : FVec Ideal ⟨2, ![a, b]⟩ .f32) (h : (⟨2, ![a, b]⟩ : Shape).Reduces [1] ⟨1, ![a]⟩) (acc : BitVec FTy.f32.bits)
    (hφ : FKind.Formats .f32) (hacc : acc = FKind.add.neutral .f32 hφ) (r : Fin a) :
    multiReduction .add [1] ⟨1, ![a]⟩ v acc h hφ hacc (ix1 r) = ∑ k : Fin b, (v (ix2 r k) : EReal) :=
  (multiReduction_add_apply v acc h hφ hacc (ix1 r)).trans (Ideal.reduceAdd_r2_a1 h v (ix1 r))

end reductions

/-! ## The columns -/

theorem col_or_tcol (c : Fin 100000) : (∃ k, ∃ hk : k < 195, ∃ l : Fin 512, c = col k hk l) ∨ ∃ l : Fin 160, c = tcol l := by
  by_cases h : c.val < 99840
  · exact .inl ⟨c.val / 512, by omega, ⟨c.val % 512, Nat.mod_lt _ (by norm_num)⟩, Fin.ext (by show c.val = 512 * (c.val / 512) + c.val % 512; omega)⟩
  · exact .inr ⟨⟨c.val - 99840, by omega⟩, Fin.ext (by show c.val = 99840 + (c.val - 99840); omega)⟩

/-- A sum over the columns, by lanes and then the last stretch. -/
theorem sum_columns (g : ℕ → EReal) : ∑ l : Fin 512, ∑ k ∈ Finset.range 195, g (512 * k + l.val) + ∑ l : Fin 160, g (99840 + l.val)
    = ∑ c : Fin 100000, g c.val := by
  have h1 (n : ℕ) : ∑ c ∈ Finset.range (512 * n), g c = ∑ k ∈ Finset.range n, ∑ l ∈ Finset.range 512, g (512 * k + l) := by
    induction n with
    | zero => simp
    | succ n ih => rw [Finset.sum_range_succ, ← ih, Nat.mul_succ, Finset.sum_range_add]
  rw [Finset.sum_comm, Finset.sum_range (fun c => g c) |>.symm, show 100000 = 512 * 195 + 160 from rfl, Finset.sum_range_add, h1]
  congr 1

section row
variable (i : grid0.Coords) (x : Vec Ideal S8x100000 .f32) (r : Fin 8)

/-- The row of the block, and its denominators as reals. -/
def xs : Fin 100000 → EReal := fun c => x (ix2 r c)
def ds : Fin 100000 → ℝ := fun c => denR (cnt i r c)
def es : Fin 100000 → ℝ := fun c => drawR (cnt i r c)
theorem ds_pos (c : Fin 100000) : 0 < ds i r c := (denR_spec _).1
theorem es_pos (c : Fin 100000) : 0 < es i r c := (drawR_spec _).1

theorem lane_total (l : Fin 512) (g : ℕ → EReal) (hg : ∀ k (hk : k < 195), g (512 * k + l.val) = wgt i x r (col k hk l)) :
    ∀ k, k ≤ 195 → laneSum i x r l k = ∑ j ∈ Finset.range k, g (512 * j + l.val)
  | 0, _ => by
    rw [Finset.sum_range_zero]
    exact Ideal.ofBits_zero_f32
  | k + 1, h => by
    rw [laneSum_succ i x r l k h, lane_total l g hg k (by omega), Finset.sum_range_succ, hg k h]
    rfl

/-- The row's scale factor is one over the sum of its weights. -/
theorem scale_row : scaleV i x (ix2 r 0) = Ideal.div 1 (∑ c, (wgt i x r c : EReal)) := by
  let g : ℕ → EReal := fun n => if h : n < 100000 then wgt i x r ⟨n, h⟩ else 0
  have hg (c : Fin 100000) : g c.val = wgt i x r c := dif_pos c.isLt
  have e1 : (∑ c, (wgt i x r c : EReal)) = ∑ c : Fin 100000, g c.val := Finset.sum_congr rfl fun c _ => (hg c).symm
  have e2 : shapeCast S8x1 (multiReduction .add [1] S8 (fun j => laneSum i x (j 0) (j 1) 195) 0x00000000#32 reduces_S8x512_S8 (.inl rfl) rfl) shapeCasts_S8_S8x1 (ix2 r 0)
      = ∑ l : Fin 512, ∑ k ∈ Finset.range 195, g (512 * k + l.val) :=
    (shapeCast_a_a1_apply _ _ r 0).trans ((rowSum_apply _ reduces_S8x512_S8 _ _ _ r).trans
      (Finset.sum_congr rfl fun l _ => lane_total i x r l g (fun k hk => hg (col k hk l)) 195 le_rfl))
  have e3 : shapeCast S8x1 (multiReduction .add [1] S8 (tailWgt i x) 0x00000000#32 reduces_S8x160_S8 (.inl rfl) rfl) shapeCasts_S8_S8x1 (ix2 r 0)
      = ∑ l : Fin 160, g (99840 + l.val) :=
    (shapeCast_a_a1_apply _ _ r 0).trans ((rowSum_apply _ reduces_S8x160_S8 _ _ _ r).trans
      (Finset.sum_congr rfl fun l _ => (hg (tcol l)).symm))
  rw [e1, ← sum_columns g, ← e2, ← e3]
  show Ideal.div (Ideal.ofBits .f32 0x3F800000#32) _ = _
  rw [Ideal.ofBits_one_f32]
  rfl

variable (top : ℝ) (ht : IsTop (xs x r) ((top : ℝ) : EReal))
include ht

/-- A weight is the unscaled one times one positive factor of the row. -/
theorem wgt_row : ∃ s : ℝ, ∀ c, wgt i x r c = ((P (xs x r) (ds i r) c * Real.exp (-s) : ℝ) : EReal) := by
  obtain ⟨a, ha⟩ := shift_real
  have e : k0_pay95 x (ix2 r 0) = ((top + a : ℝ) : EReal) := by
    have e1 : (shapeCast S8x1 (multiReduction .maximumf [1] S8 (shapeCast S8x100000 x shapeCasts_S8x100000_S8x100000) 0xFF800000#32 reduces_S8x100000_S8 (.inl rfl) rfl) shapeCasts_S8_S8x1 : FVec Ideal S8x1 .f32) (ix2 r 0) = ((top : ℝ) : EReal) := by
      refine (shapeCast_a_a1_apply _ _ r 0).trans ((rowMax_apply _ reduces_S8x100000_S8 _ _ r).trans ?_)
      rw [shapeCast_self]
      have h := fold_max_top (xs x r)
      exact le_antisymm (by obtain ⟨c, hc⟩ := h.1; exact hc ▸ ht.2 c) (by obtain ⟨c, hc⟩ := ht.1; exact hc ▸ h.2 c)
    show _ + Ideal.ofBits .f32 0x40DD1EB8#32 = _
    rw [ha, EReal.coe_add, ← e1]
  refine ⟨top + a, fun c => ?_⟩
  show Ideal.div (Ideal.exp (x (ix2 r c) - k0_pay95 x (ix2 r 0))) (gumbelDen Ideal (cnt i r c)) = _
  rw [e, (denR_spec _).2]
  exact shifted_weight (xs x r) (ds i r) (ds_pos i r) top ht (top + a) c

/-- The scaled weights of the row. -/
theorem soft_row (c : Fin 100000) : softV i x (ix2 r c) = ((P (xs x r) (ds i r) c / T (xs x r) (ds i r) : ℝ) : EReal) := by
  obtain ⟨s, hs⟩ := wgt_row i x r top ht
  show wgt i x r c * scaleV i x (ix2 r 0) = _
  rw [scale_row, hs c, Finset.sum_congr rfl fun c _ => hs c]
  exact soft_kernel (xs x r) (ds i r) (ds_pos i r) top ht s c

/-- The race values of the row are reals. -/
theorem race_row : ∃ k : ℝ, 0 < k ∧ ∀ c, race i x r c = ((P (xs x r) (ds i r) c * k / es i r c : ℝ) : EReal) := by
  obtain ⟨s, hs⟩ := wgt_row i x r top ht
  refine ⟨Real.exp (-s), Real.exp_pos _, fun c => ?_⟩
  show Ideal.div (wgt i x r c) (drawDen Ideal (cnt i r c)) = _
  rw [hs c, (drawR_spec _).2]
  exact div_real _ _ (es_pos i r c).ne'

end row

/-! ## The sampled position -/

section tail
variable {F : FTy → Type} [FloatOps F]

/-- The vector the last stretch races with. -/
def tailRace (w u : FVec F S8x160 .f32) : FVec F S8x160 .f32 :=
  divf w (subf (broadcast S8x160 (Scalar.ofBits .f32 0x00000000#32)) (log (maximumf (broadcast S8x160 (Scalar.ofBits .f32 0x00800000#32)) u)))

theorem tailRace_apply (i : grid0.Coords) (x : Vec F S8x100000 .f32) (r : Fin 8) (l : Fin 160) :
    tailRace (tailWgt i x) (tailDraw i) (ix2 r l) = race i x r (tcol l) := rfl

/-- The greatest elements of the rows of the two stretches' vectors. -/
def mainMax (v1 : FVec F S8x512 .f32) : FVec F S8x1 .f32 :=
  shapeCast S8x1 (multiReduction .maximumf [1] S8 v1 0xFF800000#32 reduces_S8x512_S8 (.inl rfl) rfl) shapeCasts_S8_S8x1
def tailMax (v3 : FVec F S8x160 .f32) : FVec F S8x1 .f32 :=
  shapeCast S8x1 (multiReduction .maximumf [1] S8 v3 0xFF800000#32 reduces_S8x160_S8 (.inl rfl) rfl) shapeCasts_S8_S8x1
/-- The least words of the elements equal to their row's given value. -/
def mainMin (v1 : FVec F S8x512 .f32) (v2 : IVec S8x512 32) (m : FVec F S8x1 .f32) : IVec S8x1 32 :=
  shapeCast S8x1 (multiReductionI .minsi [1] S8 (select (cmpf .oeq v1 (broadcastTo S8x512 m broadcasts_S8x1_S8x512))
    v2 (broadcast S8x512 2147483647#32)) 2147483647#32 reduces_S8x512_S8 rfl) shapeCasts_S8_S8x1
def tailMin (v3 : FVec F S8x160 .f32) (m : FVec F S8x1 .f32) : IVec S8x1 32 :=
  shapeCast S8x1 (multiReductionI .minsi [1] S8 (select (cmpf .oeq v3 (broadcastTo S8x160 m broadcasts_S8x1_S8x160))
    (addi (iota .tc S8x160 32 [1] iota_S8x160_d1_w32) (broadcast S8x160 99840#32)) (broadcast S8x160 2147483647#32)) 2147483647#32 reduces_S8x160_S8 rfl) shapeCasts_S8_S8x1

theorem pay184_apply (v1 : FVec F S8x512 .f32) (v2 : IVec S8x512 32) (w u : FVec F S8x160 .f32) (r : Fin 8) :
    k0_pay184 v1 v2 w u (ix3 0 r 0) = FloatOps.sitofp .f32 (Scalar.select
      (FloatOps.cmpf .ogt (tailMax (tailRace w u) (ix2 r 0)) (mainMax v1 (ix2 r 0)))
      (tailMin (tailRace w u) (tailMax (tailRace w u)) (ix2 r 0)) (mainMin v1 v2 (mainMax v1) (ix2 r 0))) :=
  shapeCast_apply (sitofp .f32 (select (cmpf .ogt (tailMax (tailRace w u)) (mainMax v1))
      (tailMin (tailRace w u) (tailMax (tailRace w u))) (mainMin v1 v2 (mainMax v1))) : FVec F S8x1 .f32) shapeCasts_S8x1_S1x8x1 (ix3 0 r 0) (ix2 r 0) (by
    rw [Shape.rowMajor_val_two, Shape.rowMajor_val_three]
    show r.val * 1 + 0 = (0 * 8 + r.val) * 1 + 0
    omega)

theorem idsV_apply (i : grid0.Coords) (x : Vec F S8x100000 .f32) (r : Fin 8) : idsV i x (ix3 0 r 0)
    = k0_pay184 (fun j => (laneBest i x (j 0) (j 1) 195).1) (fun j => (laneBest i x (j 0) (j 1) 195).2) (tailWgt i x) (tailDraw i) (ix3 0 r 0) := rfl

end tail

section read
variable (v1 : FVec Ideal S8x512 .f32) (v2 : IVec S8x512 32) (v3 : FVec Ideal S8x160 .f32) (r : Fin 8)

/-- The least word of the elements of a row that are equal to the row's given value. -/
theorem main_read (m : FVec Ideal S8x1 .f32) :
    mainMin v1 v2 m (ix2 r 0)
      = Finset.univ.fold IntOp.minsi 2147483647#32 (fun l : Fin 512 =>
          Scalar.select (Ideal.cmp .oeq (v1 (ix2 r l)) (m (ix2 r 0))) (v2 (ix2 r l)) 2147483647#32) := by
  refine (shapeCast_a_a1_apply _ _ r 0).trans ((rowMin_apply _ reduces_S8x512_S8 _ _ r).trans (congrArg (Finset.univ.fold IntOp.minsi 2147483647#32) (funext fun l => ?_)))
  rw [← broadcastTo_apply m broadcasts_S8x1_S8x512 (ix2 r l) (ix2 r 0) (fun a => match a with | ⟨0, _⟩ => rfl | ⟨1, _⟩ => rfl)]
  rfl

theorem tail_read (m : FVec Ideal S8x1 .f32) :
    tailMin v3 m (ix2 r 0)
      = Finset.univ.fold IntOp.minsi 2147483647#32 (fun l : Fin 160 =>
          Scalar.select (Ideal.cmp .oeq (v3 (ix2 r l)) (m (ix2 r 0))) (BitVec.ofNat 32 (l.val + 99840)) 2147483647#32) := by
  refine (shapeCast_a_a1_apply _ _ r 0).trans ((rowMin_apply _ reduces_S8x160_S8 _ _ r).trans (congrArg (Finset.univ.fold IntOp.minsi 2147483647#32) (funext fun l => ?_)))
  rw [← broadcastTo_apply m broadcasts_S8x1_S8x160 (ix2 r l) (ix2 r 0) (fun a => match a with | ⟨0, _⟩ => rfl | ⟨1, _⟩ => rfl),
    BitVec.ofNat_add, show BitVec.ofNat 32 l.val = BitVec.ofNat 32 (0 * 160 + l.val) by rw [Nat.zero_mul, Nat.zero_add]]
  rfl

/-- The sampled position of a row: of the two stretches' first greatest positions, the one of the greater value. -/
theorem ids_read (w u : FVec Ideal S8x160 .f32) (R Q : EReal)
    (hR : (Finset.univ : Finset (Fin 512)).fold max (⊥ : EReal) (fun l => v1 (ix2 r l)) = R)
    (hQ : (Finset.univ : Finset (Fin 160)).fold max (⊥ : EReal) (fun l => tailRace w u (ix2 r l)) = Q) :
    k0_pay184 v1 v2 w u (ix3 0 r 0) = FloatOps.sitofp (F := Ideal) .f32 (Scalar.select (Ideal.cmp .ogt Q R)
      (Finset.univ.fold IntOp.minsi 2147483647#32 (fun l : Fin 160 =>
          Scalar.select (Ideal.cmp .oeq (tailRace w u (ix2 r l)) Q) (BitVec.ofNat 32 (l.val + 99840)) 2147483647#32))
      (Finset.univ.fold IntOp.minsi 2147483647#32 (fun l : Fin 512 =>
          Scalar.select (Ideal.cmp .oeq (v1 (ix2 r l)) R) (v2 (ix2 r l)) 2147483647#32))) := by
  have e412 : mainMax v1 (ix2 r 0) = R :=
    (shapeCast_a_a1_apply _ _ r 0).trans ((rowMax_apply _ reduces_S8x512_S8 _ _ r).trans hR)
  have e420 : tailMax (tailRace w u) (ix2 r 0) = Q :=
    (shapeCast_a_a1_apply _ _ r 0).trans ((rowMax_apply _ reduces_S8x160_S8 _ _ r).trans hQ)
  have e418 := main_read v1 v2 r (mainMax v1)
  have e429 := tail_read (tailRace w u) r (tailMax (tailRace w u))
  rw [e412] at e418
  rw [e420] at e429
  rw [pay184_apply, e418, e429, e412, e420]
  rfl

end read

section sample
variable (i : grid0.Coords) (x : Vec Ideal S8x100000 .f32) (r : Fin 8)
  (hr : ∀ c, (⊥ : EReal) < race i x r c)
include hr

/-- A lane holds its greatest race value so far and the column where it first stood. -/
theorem lane_first (l : Fin 512) : ∀ k, k < 195 → ∃ j, ∃ hj : j < 195, j ≤ k
    ∧ (laneBest i x r l (k + 1)).2 = BitVec.ofNat 32 (512 * j + l.val)
    ∧ (laneBest i x r l (k + 1)).1 = race i x r (col j hj l)
    ∧ (∀ j' (h : j' < 195), j' < j → (race i x r (col j' h l) : EReal) < race i x r (col j hj l))
    ∧ ∀ j' (h : j' < 195), j' ≤ k → (race i x r (col j' h l) : EReal) ≤ race i x r (col j hj l)
  | 0, h => by
    have e : Ideal.cmp .ogt (race i x r (col 0 h l)) (laneBest i x r l 0).1 = 1#1 := by
      rw [cmp_ogt]
      show Ideal.ofBits .f32 0xFF800000#32 < _
      rw [ofBits_bot]
      exact hr _
    rw [laneBest_succ i x r l 0 h]
    refine ⟨0, h, le_rfl, select_pos e, select_pos e, fun j' _ h' => absurd h' (Nat.not_lt_zero _), fun j' h1 h' => ?_⟩
    obtain rfl : j' = 0 := by omega
    exact le_rfl
  | k + 1, h => by
    obtain ⟨j, hj, jk, b2, b1, lt, le⟩ := lane_first l k (by omega)
    rw [laneBest_succ i x r l (k + 1) h]
    by_cases e : (laneBest i x r l (k + 1)).1 < (race i x r (col (k + 1) h l) : EReal)
    · have e' : Ideal.cmp .ogt (race i x r (col (k + 1) h l)) (laneBest i x r l (k + 1)).1 = 1#1 := cmp_ogt.mpr e
      rw [b1] at e
      refine ⟨k + 1, h, le_rfl, select_pos e', select_pos e', fun j' h1 h' => lt_of_le_of_lt (le j' h1 (by omega)) e, fun j' h1 h' => ?_⟩
      rcases Nat.lt_or_eq_of_le h' with h' | rfl
      · exact le_of_lt (lt_of_le_of_lt (le j' h1 (by omega)) e)
      · exact le_rfl
    · have e' : ¬ Ideal.cmp .ogt (race i x r (col (k + 1) h l)) (laneBest i x r l (k + 1)).1 = 1#1 := fun q => e (cmp_ogt.mp q)
      rw [b1, not_lt] at e
      refine ⟨j, hj, by omega, (select_neg e').trans b2, (select_neg e').trans b1, lt, fun j' h1 h' => ?_⟩
      rcases Nat.lt_or_eq_of_le h' with h' | rfl
      · exact le j' h1 (by omega)
      · exact e

/-- The sampled position of a row, as a number, is of the first column of the greatest race value. -/
theorem ids_row (rc : Fin 100000 → EReal) (hrc : ∀ c, race i x r c = rc c) : ∃ v : BitVec 32, First rc v ∧ idsV i x (ix3 0 r 0) = FloatOps.sitofp (F := Ideal) .f32 v := by
  choose j hj jk b2 b1 lt le using fun l => lane_first i x r hr l 194 (by norm_num)
  simp only [hrc] at b1 lt le
  obtain ⟨best, hb⟩ : ∃ best : Fin 512 → EReal, ∀ l, rc (col (j l) (hj l) l) = best l := ⟨_, fun _ => rfl⟩
  obtain ⟨trace, hq⟩ : ∃ trace : Fin 160 → EReal, ∀ l, rc (tcol l) = trace l := ⟨_, fun _ => rfl⟩
  obtain ⟨R, eR⟩ : ∃ R, Finset.univ.fold max ⊥ best = R := ⟨_, rfl⟩
  obtain ⟨Q, eQ⟩ : ∃ Q, Finset.univ.fold max ⊥ trace = Q := ⟨_, rfl⟩
  have hR : IsTop best R := eR ▸ fold_max_top best
  have hQ : IsTop trace Q := eQ ▸ fold_max_top trace
  simp only [hb] at b1 lt le
  have b1' : ∀ l : Fin 512, (laneBest i x r l 195).1 = best l := b1
  have b2' : ∀ l : Fin 512, (laneBest i x r l 195).2 = BitVec.ofNat 32 (512 * j l + l.val) := b2
  obtain ⟨l0, m0, f0, w0⟩ := fold_minsi_marked (fun l => Ideal.cmp .oeq (best l) R) (fun l : Fin 512 => 512 * j l + l.val) 2147483647#32 2147483647#32 100000
    (by norm_num) (fun l => by have := hj l; omega) (by decide) (by decide) (by obtain ⟨c, hc⟩ := hR.1; exact ⟨c, cmp_oeq.mpr hc⟩)
  obtain ⟨l1, m1, f1, w1⟩ := fold_minsi_marked (fun l => Ideal.cmp .oeq (trace l) Q) (fun l : Fin 160 => l.val + 99840) 2147483647#32 2147483647#32 100000
    (by norm_num) (fun l => by omega) (by decide) (by decide) (by obtain ⟨c, hc⟩ := hQ.1; exact ⟨c, cmp_oeq.mpr hc⟩)
  rw [cmp_oeq] at m0 m1
  have main_le (k) (hk : k < 195) (l : Fin 512) : rc (col k hk l) ≤ R := (le l k hk (by omega)).trans (hR.2 l)
  refine ⟨Scalar.select (Ideal.cmp .ogt Q R) (BitVec.ofNat 32 (l1.val + 99840)) (BitVec.ofNat 32 (512 * j l0 + l0.val)), ?_, ?_⟩
  · by_cases h : R < Q
    · rw [select_pos (cmp_ogt.mpr h)]
      refine ⟨tcol l1, fun c' => ?_, fun c' hc' => ?_, by rw [Nat.add_comm]; rfl⟩
      · rw [hq, m1]
        rcases col_or_tcol c' with ⟨k, hk, l, rfl⟩ | ⟨l, rfl⟩
        · exact (main_le k hk l).trans h.le
        · rw [hq]; exact hQ.2 l
      · have g := hc' (tcol l1)
        rw [hq, m1] at g
        rcases col_or_tcol c' with ⟨k, hk, l, rfl⟩ | ⟨l, rfl⟩
        · exact absurd (g.trans (main_le k hk l)) (not_le.mpr h)
        · rw [hq] at g
          have := f1 l (cmp_oeq.mpr (le_antisymm (hQ.2 l) g))
          show 99840 + l1.val ≤ 99840 + l.val
          omega
    · rw [select_neg fun q => h (cmp_ogt.mp q)]
      rw [not_lt] at h
      refine ⟨col (j l0) (hj l0) l0, fun c' => ?_, fun c' hc' => ?_, rfl⟩
      · rw [hb, m0]
        rcases col_or_tcol c' with ⟨k, hk, l, rfl⟩ | ⟨l, rfl⟩
        · exact main_le k hk l
        · rw [hq]; exact (hQ.2 l).trans h
      · have g := hc' (col (j l0) (hj l0) l0)
        rw [hb, m0] at g
        rcases col_or_tcol c' with ⟨k, hk, l, rfl⟩ | ⟨l, rfl⟩
        · have h3 := f0 l (cmp_oeq.mpr (le_antisymm (hR.2 l) (g.trans (le l k hk (by omega)))))
          have h4 : j l ≤ k := by
            by_contra q
            exact absurd ((hR.2 l).trans g) (not_le.mpr (lt l k hk (by omega)))
          show 512 * j l0 + l0.val ≤ 512 * k + l.val
          omega
        · have := hj l0
          show 512 * j l0 + l0.val ≤ 99840 + l.val
          omega
  · have e := ids_read (fun j => (laneBest i x (j 0) (j 1) 195).1) (fun j => (laneBest i x (j 0) (j 1) 195).2) r (tailWgt i x) (tailDraw i) R Q
      ((congrArg (Finset.univ.fold max ⊥) (funext b1')).trans eR)
      ((congrArg (Finset.univ.fold max ⊥) (funext fun l => (tailRace_apply i x r l).trans ((hrc _).trans (hq l)))).trans eQ)
    have q1 : Finset.univ.fold IntOp.minsi 2147483647#32 (fun l : Fin 160 =>
        Scalar.select (Ideal.cmp .oeq (tailRace (tailWgt i x) (tailDraw i) (ix2 r l)) Q) (BitVec.ofNat 32 (l.val + 99840)) 2147483647#32) = _ :=
      (congrArg (Finset.univ.fold IntOp.minsi 2147483647#32) (funext fun l => by rw [tailRace_apply, hrc, hq])).trans w1
    have q0 : Finset.univ.fold IntOp.minsi 2147483647#32 (fun l : Fin 512 =>
        Scalar.select (Ideal.cmp .oeq (laneBest i x r l 195).1 R) (laneBest i x r l 195).2 2147483647#32) = _ :=
      (congrArg (Finset.univ.fold IntOp.minsi 2147483647#32) (funext fun l => by rw [b1' l, b2' l])).trans w0
    rw [q1] at e
    rw [idsV_apply, e, ← q0]

end sample

end Cert.Gumbel.Kernel

end
-- ==== Proof.RefBits.lean ====
/-
  The reference's random words, read at one element: each line of its two key streams carries the Threefry states of
  `Proof/Threefry.lean` of the element's row-major number `n`.
-/
module

public import proofs.«01_k».proof.Proof.Spec
public import proofs.«01_k».proof.Proof.Gen.ReferenceIdeal.Read

@[expose] public section

set_option maxRecDepth 16384

noncomputable section

namespace Cert.Gumbel.Ref

open Idealize.ShloMosaic Cert.ReferenceIdeal Cert.ReferenceIdeal.Read

variable {F : FTy → Type} [FloatOps F]

/-- The first key's word of an element, from the element's number. -/
theorem wordsU (i : S64x8x100000.Idx) (n : BitVec 32) (hn : val_main_v1 (F := F) i = n) :
    val_main_v167 (F := F) i = bitsU n := by
  have p2 : val_main_v2 (F := F) i = 0#32 := (val_main_v2_apply (F := F) i).trans (val_main_c_apply _)
  have p3 : val_main_v3 (F := F) i = 1832780943#32 := (val_main_v3_apply (F := F) i).trans (val_main_c_0_apply _)
  have p4 : val_main_v4 (F := F) i = (st 1832780943#32 270669613#32 1724713080#32 n 0).1 := (val_main_v4_apply (F := F) i).trans ((word_add p2 p3).trans ((BitVec.zero_add _).trans (st_1_0 1832780943#32 270669613#32 1724713080#32 n).symm))
  have p5 : val_main_v5 (F := F) i = 270669613#32 := (val_main_v5_apply (F := F) i).trans (val_main_c_1_apply _)
  have p6 : val_main_v6 (F := F) i = (st 1832780943#32 270669613#32 1724713080#32 n 0).2 := (val_main_v6_apply (F := F) i).trans ((word_add hn p5).trans (st_2_0 1832780943#32 270669613#32 1724713080#32 n).symm)
  have p7 : val_main_v7 (F := F) i = (st 1832780943#32 270669613#32 1724713080#32 n 1).1 := (val_main_v7_apply (F := F) i).trans ((word_add p4 p6).trans (st_1_1 1832780943#32 270669613#32 1724713080#32 n).symm)
  have p8 : val_main_v8 (F := F) i = 13#32 := (val_main_v8_apply (F := F) i).trans (val_main_c_2_apply _)
  have p9 : val_main_v9 (F := F) i = (st 1832780943#32 270669613#32 1724713080#32 n 0).2 <<< 13 := (val_main_v9_apply (F := F) i).trans (shlh13 p6)
  have p10 : val_main_v10 (F := F) i = 19#32 := (val_main_v10_apply (F := F) i).trans (val_main_c_3_apply _)
  have p11 : val_main_v11 (F := F) i = (st 1832780943#32 270669613#32 1724713080#32 n 0).2 >>> 19 := (val_main_v11_apply (F := F) i).trans (shrh19 p6)
  have p12 : val_main_v12 (F := F) i = ((st 1832780943#32 270669613#32 1724713080#32 n 0).2 <<< 13 ||| (st 1832780943#32 270669613#32 1724713080#32 n 0).2 >>> 19) := (val_main_v12_apply (F := F) i).trans (word_or p9 p11)
  have p13 : val_main_v13 (F := F) i = (st 1832780943#32 270669613#32 1724713080#32 n 1).2 := (val_main_v13_apply (F := F) i).trans ((word_xor_swap p7 p12).trans (st_2_1 1832780943#32 270669613#32 1724713080#32 n).symm)
  have p14 : val_main_v14 (F := F) i = (st 1832780943#32 270669613#32 1724713080#32 n 2).1 := (val_main_v14_apply (F := F) i).trans ((word_add p7 p13).trans (st_1_2 1832780943#32 270669613#32 1724713080#32 n).symm)
  have p15 : val_main_v15 (F := F) i = 15#32 := (val_main_v15_apply (F := F) i).trans (val_main_c_4_apply _)
  have p16 : val_main_v16 (F := F) i = (st 1832780943#32 270669613#32 1724713080#32 n 1).2 <<< 15 := (val_main_v16_apply (F := F) i).trans (shlh15 p13)
  have p17 : val_main_v17 (F := F) i = 17#32 := (val_main_v17_apply (F := F) i).trans (val_main_c_5_apply _)
  have p18 : val_main_v18 (F := F) i = (st 1832780943#32 270669613#32 1724713080#32 n 1).2 >>> 17 := (val_main_v18_apply (F := F) i).trans (shrh17 p13)
  have p19 : val_main_v19 (F := F) i = ((st 1832780943#32 270669613#32 1724713080#32 n 1).2 <<< 15 ||| (st 1832780943#32 270669613#32 1724713080#32 n 1).2 >>> 17) := (val_main_v19_apply (F := F) i).trans (word_or p16 p18)
  have p20 : val_main_v20 (F := F) i = (st 1832780943#32 270669613#32 1724713080#32 n 2).2 := (val_main_v20_apply (F := F) i).trans ((word_xor_swap p14 p19).trans (st_2_2 1832780943#32 270669613#32 1724713080#32 n).symm)
  have p21 : val_main_v21 (F := F) i = (st 1832780943#32 270669613#32 1724713080#32 n 3).1 := (val_main_v21_apply (F := F) i).trans ((word_add p14 p20).trans (st_1_3 1832780943#32 270669613#32 1724713080#32 n).symm)
  have p22 : val_main_v22 (F := F) i = 26#32 := (val_main_v22_apply (F := F) i).trans (val_main_c_6_apply _)
  have p23 : val_main_v23 (F := F) i = (st 1832780943#32 270669613#32 1724713080#32 n 2).2 <<< 26 := (val_main_v23_apply (F := F) i).trans (shlh26 p20)
  have p24 : val_main_v24 (F := F) i = 6#32 := (val_main_v24_apply (F := F) i).trans (val_main_c_7_apply _)
  have p25 : val_main_v25 (F := F) i = (st 1832780943#32 270669613#32 1724713080#32 n 2).2 >>> 6 := (val_main_v25_apply (F := F) i).trans (shrh6 p20)
  have p26 : val_main_v26 (F := F) i = ((st 1832780943#32 270669613#32 1724713080#32 n 2).2 <<< 26 ||| (st 1832780943#32 270669613#32 1724713080#32 n 2).2 >>> 6) := (val_main_v26_apply (F := F) i).trans (word_or p23 p25)
  have p27 : val_main_v27 (F := F) i = (st 1832780943#32 270669613#32 1724713080#32 n 3).2 := (val_main_v27_apply (F := F) i).trans ((word_xor_swap p21 p26).trans (st_2_3 1832780943#32 270669613#32 1724713080#32 n).symm)
  have p28 : val_main_v28 (F := F) i = (st 1832780943#32 270669613#32 1724713080#32 n 4).1 := (val_main_v28_apply (F := F) i).trans ((word_add p21 p27).trans (st_1_4 1832780943#32 270669613#32 1724713080#32 n).symm)
  have p29 : val_main_v29 (F := F) i = 6#32 := (val_main_v29_apply (F := F) i).trans (val_main_c_8_apply _)
  have p30 : val_main_v30 (F := F) i = (st 1832780943#32 270669613#32 1724713080#32 n 3).2 <<< 6 := (val_main_v30_apply (F := F) i).trans (shlh6 p27)
  have p31 : val_main_v31 (F := F) i = 26#32 := (val_main_v31_apply (F := F) i).trans (val_main_c_9_apply _)
  have p32 : val_main_v32 (F := F) i = (st 1832780943#32 270669613#32 1724713080#32 n 3).2 >>> 26 := (val_main_v32_apply (F := F) i).trans (shrh26 p27)
  have p33 : val_main_v33 (F := F) i = ((st 1832780943#32 270669613#32 1724713080#32 n 3).2 <<< 6 ||| (st 1832780943#32 270669613#32 1724713080#32 n 3).2 >>> 26) := (val_main_v33_apply (F := F) i).trans (word_or p30 p32)
  have p34 : val_main_v34 (F := F) i = (st 1832780943#32 270669613#32 1724713080#32 n 4).2 := (val_main_v34_apply (F := F) i).trans ((word_xor_swap p28 p33).trans (st_2_4 1832780943#32 270669613#32 1724713080#32 n).symm)
  have p35 : val_main_v35 (F := F) i = 270669613#32 := (val_main_v35_apply (F := F) i).trans (val_main_c_10_apply _)
  have p36 : val_main_v36 (F := F) i = (st 1832780943#32 270669613#32 1724713080#32 n 5).1 := (val_main_v36_apply (F := F) i).trans ((word_add p28 p35).trans (st_1_5 1832780943#32 270669613#32 1724713080#32 n).symm)
  have p37 : val_main_v37 (F := F) i = 1724713081#32 := (val_main_v37_apply (F := F) i).trans (val_main_c_11_apply _)
  have p38 : val_main_v38 (F := F) i = (st 1832780943#32 270669613#32 1724713080#32 n 5).2 := (val_main_v38_apply (F := F) i).trans ((word_add p34 p37).trans (foldU_5 n))
  have p39 : val_main_v39 (F := F) i = (st 1832780943#32 270669613#32 1724713080#32 n 6).1 := (val_main_v39_apply (F := F) i).trans ((word_add p36 p38).trans (st_1_6 1832780943#32 270669613#32 1724713080#32 n).symm)
  have p40 : val_main_v40 (F := F) i = 17#32 := (val_main_v40_apply (F := F) i).trans (val_main_c_12_apply _)
  have p41 : val_main_v41 (F := F) i = (st 1832780943#32 270669613#32 1724713080#32 n 5).2 <<< 17 := (val_main_v41_apply (F := F) i).trans (shlh17 p38)
  have p42 : val_main_v42 (F := F) i = 15#32 := (val_main_v42_apply (F := F) i).trans (val_main_c_13_apply _)
  have p43 : val_main_v43 (F := F) i = (st 1832780943#32 270669613#32 1724713080#32 n 5).2 >>> 15 := (val_main_v43_apply (F := F) i).trans (shrh15 p38)
  have p44 : val_main_v44 (F := F) i = ((st 1832780943#32 270669613#32 1724713080#32 n 5).2 <<< 17 ||| (st 1832780943#32 270669613#32 1724713080#32 n 5).2 >>> 15) := (val_main_v44_apply (F := F) i).trans (word_or p41 p43)
  have p45 : val_main_v45 (F := F) i = (st 1832780943#32 270669613#32 1724713080#32 n 6).2 := (val_main_v45_apply (F := F) i).trans ((word_xor_swap p39 p44).trans (st_2_6 1832780943#32 270669613#32 1724713080#32 n).symm)
  have p46 : val_main_v46 (F := F) i = (st 1832780943#32 270669613#32 1724713080#32 n 7).1 := (val_main_v46_apply (F := F) i).trans ((word_add p39 p45).trans (st_1_7 1832780943#32 270669613#32 1724713080#32 n).symm)
  have p47 : val_main_v47 (F := F) i = 29#32 := (val_main_v47_apply (F := F) i).trans (val_main_c_14_apply _)
  have p48 : val_main_v48 (F := F) i = (st 1832780943#32 270669613#32 1724713080#32 n 6).2 <<< 29 := (val_main_v48_apply (F := F) i).trans (shlh29 p45)
  have p49 : val_main_v49 (F := F) i = 3#32 := (val_main_v49_apply (F := F) i).trans (val_main_c_15_apply _)
  have p50 : val_main_v50 (F := F) i = (st 1832780943#32 270669613#32 1724713080#32 n 6).2 >>> 3 := (val_main_v50_apply (F := F) i).trans (shrh3 p45)
  have p51 : val_main_v51 (F := F) i = ((st 1832780943#32 270669613#32 1724713080#32 n 6).2 <<< 29 ||| (st 1832780943#32 270669613#32 1724713080#32 n 6).2 >>> 3) := (val_main_v51_apply (F := F) i).trans (word_or p48 p50)
  have p52 : val_main_v52 (F := F) i = (st 1832780943#32 270669613#32 1724713080#32 n 7).2 := (val_main_v52_apply (F := F) i).trans ((word_xor_swap p46 p51).trans (st_2_7 1832780943#32 270669613#32 1724713080#32 n).symm)
  have p53 : val_main_v53 (F := F) i = (st 1832780943#32 270669613#32 1724713080#32 n 8).1 := (val_main_v53_apply (F := F) i).trans ((word_add p46 p52).trans (st_1_8 1832780943#32 270669613#32 1724713080#32 n).symm)
  have p54 : val_main_v54 (F := F) i = 16#32 := (val_main_v54_apply (F := F) i).trans (val_main_c_16_apply _)
  have p55 : val_main_v55 (F := F) i = (st 1832780943#32 270669613#32 1724713080#32 n 7).2 <<< 16 := (val_main_v55_apply (F := F) i).trans (shlh16 p52)
  have p56 : val_main_v56 (F := F) i = 16#32 := (val_main_v56_apply (F := F) i).trans (val_main_c_17_apply _)
  have p57 : val_main_v57 (F := F) i = (st 1832780943#32 270669613#32 1724713080#32 n 7).2 >>> 16 := (val_main_v57_apply (F := F) i).trans (shrh16 p52)
  have p58 : val_main_v58 (F := F) i = ((st 1832780943#32 270669613#32 1724713080#32 n 7).2 <<< 16 ||| (st 1832780943#32 270669613#32 1724713080#32 n 7).2 >>> 16) := (val_main_v58_apply (F := F) i).trans (word_or p55 p57)
  have p59 : val_main_v59 (F := F) i = (st 1832780943#32 270669613#32 1724713080#32 n 8).2 := (val_main_v59_apply (F := F) i).trans ((word_xor_swap p53 p58).trans (st_2_8 1832780943#32 270669613#32 1724713080#32 n).symm)
  have p60 : val_main_v60 (F := F) i = (st 1832780943#32 270669613#32 1724713080#32 n 9).1 := (val_main_v60_apply (F := F) i).trans ((word_add p53 p59).trans (st_1_9 1832780943#32 270669613#32 1724713080#32 n).symm)
  have p61 : val_main_v61 (F := F) i = 24#32 := (val_main_v61_apply (F := F) i).trans (val_main_c_18_apply _)
  have p62 : val_main_v62 (F := F) i = (st 1832780943#32 270669613#32 1724713080#32 n 8).2 <<< 24 := (val_main_v62_apply (F := F) i).trans (shlh24 p59)
  have p63 : val_main_v63 (F := F) i = 8#32 := (val_main_v63_apply (F := F) i).trans (val_main_c_19_apply _)
  have p64 : val_main_v64 (F := F) i = (st 1832780943#32 270669613#32 1724713080#32 n 8).2 >>> 8 := (val_main_v64_apply (F := F) i).trans (shrh8 p59)
  have p65 : val_main_v65 (F := F) i = ((st 1832780943#32 270669613#32 1724713080#32 n 8).2 <<< 24 ||| (st 1832780943#32 270669613#32 1724713080#32 n 8).2 >>> 8) := (val_main_v65_apply (F := F) i).trans (word_or p62 p64)
  have p66 : val_main_v66 (F := F) i = (st 1832780943#32 270669613#32 1724713080#32 n 9).2 := (val_main_v66_apply (F := F) i).trans ((word_xor_swap p60 p65).trans (st_2_9 1832780943#32 270669613#32 1724713080#32 n).symm)
  have p67 : val_main_v67 (F := F) i = 1724713080#32 := (val_main_v67_apply (F := F) i).trans (val_main_c_20_apply _)
  have p68 : val_main_v68 (F := F) i = (st 1832780943#32 270669613#32 1724713080#32 n 10).1 := (val_main_v68_apply (F := F) i).trans ((word_add p60 p67).trans (st_1_10 1832780943#32 270669613#32 1724713080#32 n).symm)
  have p69 : val_main_v69 (F := F) i = 1832780945#32 := (val_main_v69_apply (F := F) i).trans (val_main_c_21_apply _)
  have p70 : val_main_v70 (F := F) i = (st 1832780943#32 270669613#32 1724713080#32 n 10).2 := (val_main_v70_apply (F := F) i).trans ((word_add p66 p69).trans (foldU_10 n))
  have p71 : val_main_v71 (F := F) i = (st 1832780943#32 270669613#32 1724713080#32 n 11).1 := (val_main_v71_apply (F := F) i).trans ((word_add p68 p70).trans (st_1_11 1832780943#32 270669613#32 1724713080#32 n).symm)
  have p72 : val_main_v72 (F := F) i = 13#32 := (val_main_v72_apply (F := F) i).trans (val_main_c_22_apply _)
  have p73 : val_main_v73 (F := F) i = (st 1832780943#32 270669613#32 1724713080#32 n 10).2 <<< 13 := (val_main_v73_apply (F := F) i).trans (shlh13 p70)
  have p74 : val_main_v74 (F := F) i = 19#32 := (val_main_v74_apply (F := F) i).trans (val_main_c_23_apply _)
  have p75 : val_main_v75 (F := F) i = (st 1832780943#32 270669613#32 1724713080#32 n 10).2 >>> 19 := (val_main_v75_apply (F := F) i).trans (shrh19 p70)
  have p76 : val_main_v76 (F := F) i = ((st 1832780943#32 270669613#32 1724713080#32 n 10).2 <<< 13 ||| (st 1832780943#32 270669613#32 1724713080#32 n 10).2 >>> 19) := (val_main_v76_apply (F := F) i).trans (word_or p73 p75)
  have p77 : val_main_v77 (F := F) i = (st 1832780943#32 270669613#32 1724713080#32 n 11).2 := (val_main_v77_apply (F := F) i).trans ((word_xor_swap p71 p76).trans (st_2_11 1832780943#32 270669613#32 1724713080#32 n).symm)
  have p78 : val_main_v78 (F := F) i = (st 1832780943#32 270669613#32 1724713080#32 n 12).1 := (val_main_v78_apply (F := F) i).trans ((word_add p71 p77).trans (st_1_12 1832780943#32 270669613#32 1724713080#32 n).symm)
  have p79 : val_main_v79 (F := F) i = 15#32 := (val_main_v79_apply (F := F) i).trans (val_main_c_24_apply _)
  have p80 : val_main_v80 (F := F) i = (st 1832780943#32 270669613#32 1724713080#32 n 11).2 <<< 15 := (val_main_v80_apply (F := F) i).trans (shlh15 p77)
  have p81 : val_main_v81 (F := F) i = 17#32 := (val_main_v81_apply (F := F) i).trans (val_main_c_25_apply _)
  have p82 : val_main_v82 (F := F) i = (st 1832780943#32 270669613#32 1724713080#32 n 11).2 >>> 17 := (val_main_v82_apply (F := F) i).trans (shrh17 p77)
  have p83 : val_main_v83 (F := F) i = ((st 1832780943#32 270669613#32 1724713080#32 n 11).2 <<< 15 ||| (st 1832780943#32 270669613#32 1724713080#32 n 11).2 >>> 17) := (val_main_v83_apply (F := F) i).trans (word_or p80 p82)
  have p84 : val_main_v84 (F := F) i = (st 1832780943#32 270669613#32 1724713080#32 n 12).2 := (val_main_v84_apply (F := F) i).trans ((word_xor_swap p78 p83).trans (st_2_12 1832780943#32 270669613#32 1724713080#32 n).symm)
  have p85 : val_main_v85 (F := F) i = (st 1832780943#32 270669613#32 1724713080#32 n 13).1 := (val_main_v85_apply (F := F) i).trans ((word_add p78 p84).trans (st_1_13 1832780943#32 270669613#32 1724713080#32 n).symm)
  have p86 : val_main_v86 (F := F) i = 26#32 := (val_main_v86_apply (F := F) i).trans (val_main_c_26_apply _)
  have p87 : val_main_v87 (F := F) i = (st 1832780943#32 270669613#32 1724713080#32 n 12).2 <<< 26 := (val_main_v87_apply (F := F) i).trans (shlh26 p84)
  have p88 : val_main_v88 (F := F) i = 6#32 := (val_main_v88_apply (F := F) i).trans (val_main_c_27_apply _)
  have p89 : val_main_v89 (F := F) i = (st 1832780943#32 270669613#32 1724713080#32 n 12).2 >>> 6 := (val_main_v89_apply (F := F) i).trans (shrh6 p84)
  have p90 : val_main_v90 (F := F) i = ((st 1832780943#32 270669613#32 1724713080#32 n 12).2 <<< 26 ||| (st 1832780943#32 270669613#32 1724713080#32 n 12).2 >>> 6) := (val_main_v90_apply (F := F) i).trans (word_or p87 p89)
  have p91 : val_main_v91 (F := F) i = (st 1832780943#32 270669613#32 1724713080#32 n 13).2 := (val_main_v91_apply (F := F) i).trans ((word_xor_swap p85 p90).trans (st_2_13 1832780943#32 270669613#32 1724713080#32 n).symm)
  have p92 : val_main_v92 (F := F) i = (st 1832780943#32 270669613#32 1724713080#32 n 14).1 := (val_main_v92_apply (F := F) i).trans ((word_add p85 p91).trans (st_1_14 1832780943#32 270669613#32 1724713080#32 n).symm)
  have p93 : val_main_v93 (F := F) i = 6#32 := (val_main_v93_apply (F := F) i).trans (val_main_c_28_apply _)
  have p94 : val_main_v94 (F := F) i = (st 1832780943#32 270669613#32 1724713080#32 n 13).2 <<< 6 := (val_main_v94_apply (F := F) i).trans (shlh6 p91)
  have p95 : val_main_v95 (F := F) i = 26#32 := (val_main_v95_apply (F := F) i).trans (val_main_c_29_apply _)
  have p96 : val_main_v96 (F := F) i = (st 1832780943#32 270669613#32 1724713080#32 n 13).2 >>> 26 := (val_main_v96_apply (F := F) i).trans (shrh26 p91)
  have p97 : val_main_v97 (F := F) i = ((st 1832780943#32 270669613#32 1724713080#32 n 13).2 <<< 6 ||| (st 1832780943#32 270669613#32 1724713080#32 n 13).2 >>> 26) := (val_main_v97_apply (F := F) i).trans (word_or p94 p96)
  have p98 : val_main_v98 (F := F) i = (st 1832780943#32 270669613#32 1724713080#32 n 14).2 := (val_main_v98_apply (F := F) i).trans ((word_xor_swap p92 p97).trans (st_2_14 1832780943#32 270669613#32 1724713080#32 n).symm)
  have p99 : val_main_v99 (F := F) i = 1832780943#32 := (val_main_v99_apply (F := F) i).trans (val_main_c_30_apply _)
  have p100 : val_main_v100 (F := F) i = (st 1832780943#32 270669613#32 1724713080#32 n 15).1 := (val_main_v100_apply (F := F) i).trans ((word_add p92 p99).trans (st_1_15 1832780943#32 270669613#32 1724713080#32 n).symm)
  have p101 : val_main_v101 (F := F) i = 270669616#32 := (val_main_v101_apply (F := F) i).trans (val_main_c_31_apply _)
  have p102 : val_main_v102 (F := F) i = (st 1832780943#32 270669613#32 1724713080#32 n 15).2 := (val_main_v102_apply (F := F) i).trans ((word_add p98 p101).trans (foldU_15 n))
  have p103 : val_main_v103 (F := F) i = (st 1832780943#32 270669613#32 1724713080#32 n 16).1 := (val_main_v103_apply (F := F) i).trans ((word_add p100 p102).trans (st_1_16 1832780943#32 270669613#32 1724713080#32 n).symm)
  have p104 : val_main_v104 (F := F) i = 17#32 := (val_main_v104_apply (F := F) i).trans (val_main_c_32_apply _)
  have p105 : val_main_v105 (F := F) i = (st 1832780943#32 270669613#32 1724713080#32 n 15).2 <<< 17 := (val_main_v105_apply (F := F) i).trans (shlh17 p102)
  have p106 : val_main_v106 (F := F) i = 15#32 := (val_main_v106_apply (F := F) i).trans (val_main_c_33_apply _)
  have p107 : val_main_v107 (F := F) i = (st 1832780943#32 270669613#32 1724713080#32 n 15).2 >>> 15 := (val_main_v107_apply (F := F) i).trans (shrh15 p102)
  have p108 : val_main_v108 (F := F) i = ((st 1832780943#32 270669613#32 1724713080#32 n 15).2 <<< 17 ||| (st 1832780943#32 270669613#32 1724713080#32 n 15).2 >>> 15) := (val_main_v108_apply (F := F) i).trans (word_or p105 p107)
  have p109 : val_main_v109 (F := F) i = (st 1832780943#32 270669613#32 1724713080#32 n 16).2 := (val_main_v109_apply (F := F) i).trans ((word_xor_swap p103 p108).trans (st_2_16 1832780943#32 270669613#32 1724713080#32 n).symm)
  have p110 : val_main_v110 (F := F) i = (st 1832780943#32 270669613#32 1724713080#32 n 17).1 := (val_main_v110_apply (F := F) i).trans ((word_add p103 p109).trans (st_1_17 1832780943#32 270669613#32 1724713080#32 n).symm)
  have p111 : val_main_v111 (F := F) i = 29#32 := (val_main_v111_apply (F := F) i).trans (val_main_c_34_apply _)
  have p112 : val_main_v112 (F := F) i = (st 1832780943#32 270669613#32 1724713080#32 n 16).2 <<< 29 := (val_main_v112_apply (F := F) i).trans (shlh29 p109)
  have p113 : val_main_v113 (F := F) i = 3#32 := (val_main_v113_apply (F := F) i).trans (val_main_c_35_apply _)
  have p114 : val_main_v114 (F := F) i = (st 1832780943#32 270669613#32 1724713080#32 n 16).2 >>> 3 := (val_main_v114_apply (F := F) i).trans (shrh3 p109)
  have p115 : val_main_v115 (F := F) i = ((st 1832780943#32 270669613#32 1724713080#32 n 16).2 <<< 29 ||| (st 1832780943#32 270669613#32 1724713080#32 n 16).2 >>> 3) := (val_main_v115_apply (F := F) i).trans (word_or p112 p114)
  have p116 : val_main_v116 (F := F) i = (st 1832780943#32 270669613#32 1724713080#32 n 17).2 := (val_main_v116_apply (F := F) i).trans ((word_xor_swap p110 p115).trans (st_2_17 1832780943#32 270669613#32 1724713080#32 n).symm)
  have p117 : val_main_v117 (F := F) i = (st 1832780943#32 270669613#32 1724713080#32 n 18).1 := (val_main_v117_apply (F := F) i).trans ((word_add p110 p116).trans (st_1_18 1832780943#32 270669613#32 1724713080#32 n).symm)
  have p118 : val_main_v118 (F := F) i = 16#32 := (val_main_v118_apply (F := F) i).trans (val_main_c_36_apply _)
  have p119 : val_main_v119 (F := F) i = (st 1832780943#32 270669613#32 1724713080#32 n 17).2 <<< 16 := (val_main_v119_apply (F := F) i).trans (shlh16 p116)
  have p120 : val_main_v120 (F := F) i = 16#32 := (val_main_v120_apply (F := F) i).trans (val_main_c_37_apply _)
  have p121 : val_main_v121 (F := F) i = (st 1832780943#32 270669613#32 1724713080#32 n 17).2 >>> 16 := (val_main_v121_apply (F := F) i).trans (shrh16 p116)
  have p122 : val_main_v122 (F := F) i = ((st 1832780943#32 270669613#32 1724713080#32 n 17).2 <<< 16 ||| (st 1832780943#32 270669613#32 1724713080#32 n 17).2 >>> 16) := (val_main_v122_apply (F := F) i).trans (word_or p119 p121)
  have p123 : val_main_v123 (F := F) i = (st 1832780943#32 270669613#32 1724713080#32 n 18).2 := (val_main_v123_apply (F := F) i).trans ((word_xor_swap p117 p122).trans (st_2_18 1832780943#32 270669613#32 1724713080#32 n).symm)
  have p124 : val_main_v124 (F := F) i = (st 1832780943#32 270669613#32 1724713080#32 n 19).1 := (val_main_v124_apply (F := F) i).trans ((word_add p117 p123).trans (st_1_19 1832780943#32 270669613#32 1724713080#32 n).symm)
  have p125 : val_main_v125 (F := F) i = 24#32 := (val_main_v125_apply (F := F) i).trans (val_main_c_38_apply _)
  have p126 : val_main_v126 (F := F) i = (st 1832780943#32 270669613#32 1724713080#32 n 18).2 <<< 24 := (val_main_v126_apply (F := F) i).trans (shlh24 p123)
  have p127 : val_main_v127 (F := F) i = 8#32 := (val_main_v127_apply (F := F) i).trans (val_main_c_39_apply _)
  have p128 : val_main_v128 (F := F) i = (st 1832780943#32 270669613#32 1724713080#32 n 18).2 >>> 8 := (val_main_v128_apply (F := F) i).trans (shrh8 p123)
  have p129 : val_main_v129 (F := F) i = ((st 1832780943#32 270669613#32 1724713080#32 n 18).2 <<< 24 ||| (st 1832780943#32 270669613#32 1724713080#32 n 18).2 >>> 8) := (val_main_v129_apply (F := F) i).trans (word_or p126 p128)
  have p130 : val_main_v130 (F := F) i = (st 1832780943#32 270669613#32 1724713080#32 n 19).2 := (val_main_v130_apply (F := F) i).trans ((word_xor_swap p124 p129).trans (st_2_19 1832780943#32 270669613#32 1724713080#32 n).symm)
  have p131 : val_main_v131 (F := F) i = 270669613#32 := (val_main_v131_apply (F := F) i).trans (val_main_c_40_apply _)
  have p132 : val_main_v132 (F := F) i = (st 1832780943#32 270669613#32 1724713080#32 n 20).1 := (val_main_v132_apply (F := F) i).trans ((word_add p124 p131).trans (st_1_20 1832780943#32 270669613#32 1724713080#32 n).symm)
  have p133 : val_main_v133 (F := F) i = 1724713084#32 := (val_main_v133_apply (F := F) i).trans (val_main_c_41_apply _)
  have p134 : val_main_v134 (F := F) i = (st 1832780943#32 270669613#32 1724713080#32 n 20).2 := (val_main_v134_apply (F := F) i).trans ((word_add p130 p133).trans (foldU_20 n))
  have p135 : val_main_v135 (F := F) i = (st 1832780943#32 270669613#32 1724713080#32 n 21).1 := (val_main_v135_apply (F := F) i).trans ((word_add p132 p134).trans (st_1_21 1832780943#32 270669613#32 1724713080#32 n).symm)
  have p136 : val_main_v136 (F := F) i = 13#32 := (val_main_v136_apply (F := F) i).trans (val_main_c_42_apply _)
  have p137 : val_main_v137 (F := F) i = (st 1832780943#32 270669613#32 1724713080#32 n 20).2 <<< 13 := (val_main_v137_apply (F := F) i).trans (shlh13 p134)
  have p138 : val_main_v138 (F := F) i = 19#32 := (val_main_v138_apply (F := F) i).trans (val_main_c_43_apply _)
  have p139 : val_main_v139 (F := F) i = (st 1832780943#32 270669613#32 1724713080#32 n 20).2 >>> 19 := (val_main_v139_apply (F := F) i).trans (shrh19 p134)
  have p140 : val_main_v140 (F := F) i = ((st 1832780943#32 270669613#32 1724713080#32 n 20).2 <<< 13 ||| (st 1832780943#32 270669613#32 1724713080#32 n 20).2 >>> 19) := (val_main_v140_apply (F := F) i).trans (word_or p137 p139)
  have p141 : val_main_v141 (F := F) i = (st 1832780943#32 270669613#32 1724713080#32 n 21).2 := (val_main_v141_apply (F := F) i).trans ((word_xor_swap p135 p140).trans (st_2_21 1832780943#32 270669613#32 1724713080#32 n).symm)
  have p142 : val_main_v142 (F := F) i = (st 1832780943#32 270669613#32 1724713080#32 n 22).1 := (val_main_v142_apply (F := F) i).trans ((word_add p135 p141).trans (st_1_22 1832780943#32 270669613#32 1724713080#32 n).symm)
  have p143 : val_main_v143 (F := F) i = 15#32 := (val_main_v143_apply (F := F) i).trans (val_main_c_44_apply _)
  have p144 : val_main_v144 (F := F) i = (st 1832780943#32 270669613#32 1724713080#32 n 21).2 <<< 15 := (val_main_v144_apply (F := F) i).trans (shlh15 p141)
  have p145 : val_main_v145 (F := F) i = 17#32 := (val_main_v145_apply (F := F) i).trans (val_main_c_45_apply _)
  have p146 : val_main_v146 (F := F) i = (st 1832780943#32 270669613#32 1724713080#32 n 21).2 >>> 17 := (val_main_v146_apply (F := F) i).trans (shrh17 p141)
  have p147 : val_main_v147 (F := F) i = ((st 1832780943#32 270669613#32 1724713080#32 n 21).2 <<< 15 ||| (st 1832780943#32 270669613#32 1724713080#32 n 21).2 >>> 17) := (val_main_v147_apply (F := F) i).trans (word_or p144 p146)
  have p148 : val_main_v148 (F := F) i = (st 1832780943#32 270669613#32 1724713080#32 n 22).2 := (val_main_v148_apply (F := F) i).trans ((word_xor_swap p142 p147).trans (st_2_22 1832780943#32 270669613#32 1724713080#32 n).symm)
  have p149 : val_main_v149 (F := F) i = (st 1832780943#32 270669613#32 1724713080#32 n 23).1 := (val_main_v149_apply (F := F) i).trans ((word_add p142 p148).trans (st_1_23 1832780943#32 270669613#32 1724713080#32 n).symm)
  have p150 : val_main_v150 (F := F) i = 26#32 := (val_main_v150_apply (F := F) i).trans (val_main_c_46_apply _)
  have p151 : val_main_v151 (F := F) i = (st 1832780943#32 270669613#32 1724713080#32 n 22).2 <<< 26 := (val_main_v151_apply (F := F) i).trans (shlh26 p148)
  have p152 : val_main_v152 (F := F) i = 6#32 := (val_main_v152_apply (F := F) i).trans (val_main_c_47_apply _)
  have p153 : val_main_v153 (F := F) i = (st 1832780943#32 270669613#32 1724713080#32 n 22).2 >>> 6 := (val_main_v153_apply (F := F) i).trans (shrh6 p148)
  have p154 : val_main_v154 (F := F) i = ((st 1832780943#32 270669613#32 1724713080#32 n 22).2 <<< 26 ||| (st 1832780943#32 270669613#32 1724713080#32 n 22).2 >>> 6) := (val_main_v154_apply (F := F) i).trans (word_or p151 p153)
  have p155 : val_main_v155 (F := F) i = (st 1832780943#32 270669613#32 1724713080#32 n 23).2 := (val_main_v155_apply (F := F) i).trans ((word_xor_swap p149 p154).trans (st_2_23 1832780943#32 270669613#32 1724713080#32 n).symm)
  have p156 : val_main_v156 (F := F) i = (st 1832780943#32 270669613#32 1724713080#32 n 24).1 := (val_main_v156_apply (F := F) i).trans ((word_add p149 p155).trans (st_1_24 1832780943#32 270669613#32 1724713080#32 n).symm)
  have p157 : val_main_v157 (F := F) i = 6#32 := (val_main_v157_apply (F := F) i).trans (val_main_c_48_apply _)
  have p158 : val_main_v158 (F := F) i = (st 1832780943#32 270669613#32 1724713080#32 n 23).2 <<< 6 := (val_main_v158_apply (F := F) i).trans (shlh6 p155)
  have p159 : val_main_v159 (F := F) i = 26#32 := (val_main_v159_apply (F := F) i).trans (val_main_c_49_apply _)
  have p160 : val_main_v160 (F := F) i = (st 1832780943#32 270669613#32 1724713080#32 n 23).2 >>> 26 := (val_main_v160_apply (F := F) i).trans (shrh26 p155)
  have p161 : val_main_v161 (F := F) i = ((st 1832780943#32 270669613#32 1724713080#32 n 23).2 <<< 6 ||| (st 1832780943#32 270669613#32 1724713080#32 n 23).2 >>> 26) := (val_main_v161_apply (F := F) i).trans (word_or p158 p160)
  have p162 : val_main_v162 (F := F) i = (st 1832780943#32 270669613#32 1724713080#32 n 24).2 := (val_main_v162_apply (F := F) i).trans ((word_xor_swap p156 p161).trans (st_2_24 1832780943#32 270669613#32 1724713080#32 n).symm)
  have p163 : val_main_v163 (F := F) i = 1724713080#32 := (val_main_v163_apply (F := F) i).trans (val_main_c_50_apply _)
  have p164 : val_main_v164 (F := F) i = (st 1832780943#32 270669613#32 1724713080#32 n 25).1 := (val_main_v164_apply (F := F) i).trans ((word_add p156 p163).trans (st_1_25 1832780943#32 270669613#32 1724713080#32 n).symm)
  have p165 : val_main_v165 (F := F) i = 1832780948#32 := (val_main_v165_apply (F := F) i).trans (val_main_c_51_apply _)
  have p166 : val_main_v166 (F := F) i = (st 1832780943#32 270669613#32 1724713080#32 n 25).2 := (val_main_v166_apply (F := F) i).trans ((word_add p162 p165).trans (foldU_25 n))
  have p167 : val_main_v167 (F := F) i = bitsU n := (val_main_v167_apply (F := F) i).trans (word_xor p164 p166)
  exact p167

/-- The second key's word of an element, from the element's number. -/
theorem wordsS (i : S64x8x100000.Idx) (n : BitVec 32) (hn : val_main_v200 (F := F) i = n) :
    val_main_v366 (F := F) i = bitsS n := by
  have p201 : val_main_v201 (F := F) i = 0#32 := (val_main_v201_apply (F := F) i).trans (val_main_c_60_apply _)
  have p202 : val_main_v202 (F := F) i = 64467757#32 := (val_main_v202_apply (F := F) i).trans (val_main_c_61_apply _)
  have p203 : val_main_v203 (F := F) i = (st 64467757#32 2916123636#32 3050711811#32 n 0).1 := (val_main_v203_apply (F := F) i).trans ((word_add p201 p202).trans ((BitVec.zero_add _).trans (st_1_0 64467757#32 2916123636#32 3050711811#32 n).symm))
  have p204 : val_main_v204 (F := F) i = 2916123636#32 := (val_main_v204_apply (F := F) i).trans (val_main_c_62_apply _)
  have p205 : val_main_v205 (F := F) i = (st 64467757#32 2916123636#32 3050711811#32 n 0).2 := (val_main_v205_apply (F := F) i).trans ((word_add hn p204).trans (st_2_0 64467757#32 2916123636#32 3050711811#32 n).symm)
  have p206 : val_main_v206 (F := F) i = (st 64467757#32 2916123636#32 3050711811#32 n 1).1 := (val_main_v206_apply (F := F) i).trans ((word_add p203 p205).trans (st_1_1 64467757#32 2916123636#32 3050711811#32 n).symm)
  have p207 : val_main_v207 (F := F) i = 13#32 := (val_main_v207_apply (F := F) i).trans (val_main_c_63_apply _)
  have p208 : val_main_v208 (F := F) i = (st 64467757#32 2916123636#32 3050711811#32 n 0).2 <<< 13 := (val_main_v208_apply (F := F) i).trans (shlh13 p205)
  have p209 : val_main_v209 (F := F) i = 19#32 := (val_main_v209_apply (F := F) i).trans (val_main_c_64_apply _)
  have p210 : val_main_v210 (F := F) i = (st 64467757#32 2916123636#32 3050711811#32 n 0).2 >>> 19 := (val_main_v210_apply (F := F) i).trans (shrh19 p205)
  have p211 : val_main_v211 (F := F) i = ((st 64467757#32 2916123636#32 3050711811#32 n 0).2 <<< 13 ||| (st 64467757#32 2916123636#32 3050711811#32 n 0).2 >>> 19) := (val_main_v211_apply (F := F) i).trans (word_or p208 p210)
  have p212 : val_main_v212 (F := F) i = (st 64467757#32 2916123636#32 3050711811#32 n 1).2 := (val_main_v212_apply (F := F) i).trans ((word_xor_swap p206 p211).trans (st_2_1 64467757#32 2916123636#32 3050711811#32 n).symm)
  have p213 : val_main_v213 (F := F) i = (st 64467757#32 2916123636#32 3050711811#32 n 2).1 := (val_main_v213_apply (F := F) i).trans ((word_add p206 p212).trans (st_1_2 64467757#32 2916123636#32 3050711811#32 n).symm)
  have p214 : val_main_v214 (F := F) i = 15#32 := (val_main_v214_apply (F := F) i).trans (val_main_c_65_apply _)
  have p215 : val_main_v215 (F := F) i = (st 64467757#32 2916123636#32 3050711811#32 n 1).2 <<< 15 := (val_main_v215_apply (F := F) i).trans (shlh15 p212)
  have p216 : val_main_v216 (F := F) i = 17#32 := (val_main_v216_apply (F := F) i).trans (val_main_c_66_apply _)
  have p217 : val_main_v217 (F := F) i = (st 64467757#32 2916123636#32 3050711811#32 n 1).2 >>> 17 := (val_main_v217_apply (F := F) i).trans (shrh17 p212)
  have p218 : val_main_v218 (F := F) i = ((st 64467757#32 2916123636#32 3050711811#32 n 1).2 <<< 15 ||| (st 64467757#32 2916123636#32 3050711811#32 n 1).2 >>> 17) := (val_main_v218_apply (F := F) i).trans (word_or p215 p217)
  have p219 : val_main_v219 (F := F) i = (st 64467757#32 2916123636#32 3050711811#32 n 2).2 := (val_main_v219_apply (F := F) i).trans ((word_xor_swap p213 p218).trans (st_2_2 64467757#32 2916123636#32 3050711811#32 n).symm)
  have p220 : val_main_v220 (F := F) i = (st 64467757#32 2916123636#32 3050711811#32 n 3).1 := (val_main_v220_apply (F := F) i).trans ((word_add p213 p219).trans (st_1_3 64467757#32 2916123636#32 3050711811#32 n).symm)
  have p221 : val_main_v221 (F := F) i = 26#32 := (val_main_v221_apply (F := F) i).trans (val_main_c_67_apply _)
  have p222 : val_main_v222 (F := F) i = (st 64467757#32 2916123636#32 3050711811#32 n 2).2 <<< 26 := (val_main_v222_apply (F := F) i).trans (shlh26 p219)
  have p223 : val_main_v223 (F := F) i = 6#32 := (val_main_v223_apply (F := F) i).trans (val_main_c_68_apply _)
  have p224 : val_main_v224 (F := F) i = (st 64467757#32 2916123636#32 3050711811#32 n 2).2 >>> 6 := (val_main_v224_apply (F := F) i).trans (shrh6 p219)
  have p225 : val_main_v225 (F := F) i = ((st 64467757#32 2916123636#32 3050711811#32 n 2).2 <<< 26 ||| (st 64467757#32 2916123636#32 3050711811#32 n 2).2 >>> 6) := (val_main_v225_apply (F := F) i).trans (word_or p222 p224)
  have p226 : val_main_v226 (F := F) i = (st 64467757#32 2916123636#32 3050711811#32 n 3).2 := (val_main_v226_apply (F := F) i).trans ((word_xor_swap p220 p225).trans (st_2_3 64467757#32 2916123636#32 3050711811#32 n).symm)
  have p227 : val_main_v227 (F := F) i = (st 64467757#32 2916123636#32 3050711811#32 n 4).1 := (val_main_v227_apply (F := F) i).trans ((word_add p220 p226).trans (st_1_4 64467757#32 2916123636#32 3050711811#32 n).symm)
  have p228 : val_main_v228 (F := F) i = 6#32 := (val_main_v228_apply (F := F) i).trans (val_main_c_69_apply _)
  have p229 : val_main_v229 (F := F) i = (st 64467757#32 2916123636#32 3050711811#32 n 3).2 <<< 6 := (val_main_v229_apply (F := F) i).trans (shlh6 p226)
  have p230 : val_main_v230 (F := F) i = 26#32 := (val_main_v230_apply (F := F) i).trans (val_main_c_70_apply _)
  have p231 : val_main_v231 (F := F) i = (st 64467757#32 2916123636#32 3050711811#32 n 3).2 >>> 26 := (val_main_v231_apply (F := F) i).trans (shrh26 p226)
  have p232 : val_main_v232 (F := F) i = ((st 64467757#32 2916123636#32 3050711811#32 n 3).2 <<< 6 ||| (st 64467757#32 2916123636#32 3050711811#32 n 3).2 >>> 26) := (val_main_v232_apply (F := F) i).trans (word_or p229 p231)
  have p233 : val_main_v233 (F := F) i = (st 64467757#32 2916123636#32 3050711811#32 n 4).2 := (val_main_v233_apply (F := F) i).trans ((word_xor_swap p227 p232).trans (st_2_4 64467757#32 2916123636#32 3050711811#32 n).symm)
  have p234 : val_main_v234 (F := F) i = 2916123636#32 := (val_main_v234_apply (F := F) i).trans (val_main_c_71_apply _)
  have p235 : val_main_v235 (F := F) i = (st 64467757#32 2916123636#32 3050711811#32 n 5).1 := (val_main_v235_apply (F := F) i).trans ((word_add p227 p234).trans (st_1_5 64467757#32 2916123636#32 3050711811#32 n).symm)
  have p236 : val_main_v236 (F := F) i = 3050711812#32 := (val_main_v236_apply (F := F) i).trans (val_main_c_72_apply _)
  have p237 : val_main_v237 (F := F) i = (st 64467757#32 2916123636#32 3050711811#32 n 5).2 := (val_main_v237_apply (F := F) i).trans ((word_add p233 p236).trans (foldS_5 n))
  have p238 : val_main_v238 (F := F) i = (st 64467757#32 2916123636#32 3050711811#32 n 6).1 := (val_main_v238_apply (F := F) i).trans ((word_add p235 p237).trans (st_1_6 64467757#32 2916123636#32 3050711811#32 n).symm)
  have p239 : val_main_v239 (F := F) i = 17#32 := (val_main_v239_apply (F := F) i).trans (val_main_c_73_apply _)
  have p240 : val_main_v240 (F := F) i = (st 64467757#32 2916123636#32 3050711811#32 n 5).2 <<< 17 := (val_main_v240_apply (F := F) i).trans (shlh17 p237)
  have p241 : val_main_v241 (F := F) i = 15#32 := (val_main_v241_apply (F := F) i).trans (val_main_c_74_apply _)
  have p242 : val_main_v242 (F := F) i = (st 64467757#32 2916123636#32 3050711811#32 n 5).2 >>> 15 := (val_main_v242_apply (F := F) i).trans (shrh15 p237)
  have p243 : val_main_v243 (F := F) i = ((st 64467757#32 2916123636#32 3050711811#32 n 5).2 <<< 17 ||| (st 64467757#32 2916123636#32 3050711811#32 n 5).2 >>> 15) := (val_main_v243_apply (F := F) i).trans (word_or p240 p242)
  have p244 : val_main_v244 (F := F) i = (st 64467757#32 2916123636#32 3050711811#32 n 6).2 := (val_main_v244_apply (F := F) i).trans ((word_xor_swap p238 p243).trans (st_2_6 64467757#32 2916123636#32 3050711811#32 n).symm)
  have p245 : val_main_v245 (F := F) i = (st 64467757#32 2916123636#32 3050711811#32 n 7).1 := (val_main_v245_apply (F := F) i).trans ((word_add p238 p244).trans (st_1_7 64467757#32 2916123636#32 3050711811#32 n).symm)
  have p246 : val_main_v246 (F := F) i = 29#32 := (val_main_v246_apply (F := F) i).trans (val_main_c_75_apply _)
  have p247 : val_main_v247 (F := F) i = (st 64467757#32 2916123636#32 3050711811#32 n 6).2 <<< 29 := (val_main_v247_apply (F := F) i).trans (shlh29 p244)
  have p248 : val_main_v248 (F := F) i = 3#32 := (val_main_v248_apply (F := F) i).trans (val_main_c_76_apply _)
  have p249 : val_main_v249 (F := F) i = (st 64467757#32 2916123636#32 3050711811#32 n 6).2 >>> 3 := (val_main_v249_apply (F := F) i).trans (shrh3 p244)
  have p250 : val_main_v250 (F := F) i = ((st 64467757#32 2916123636#32 3050711811#32 n 6).2 <<< 29 ||| (st 64467757#32 2916123636#32 3050711811#32 n 6).2 >>> 3) := (val_main_v250_apply (F := F) i).trans (word_or p247 p249)
  have p251 : val_main_v251 (F := F) i = (st 64467757#32 2916123636#32 3050711811#32 n 7).2 := (val_main_v251_apply (F := F) i).trans ((word_xor_swap p245 p250).trans (st_2_7 64467757#32 2916123636#32 3050711811#32 n).symm)
  have p252 : val_main_v252 (F := F) i = (st 64467757#32 2916123636#32 3050711811#32 n 8).1 := (val_main_v252_apply (F := F) i).trans ((word_add p245 p251).trans (st_1_8 64467757#32 2916123636#32 3050711811#32 n).symm)
  have p253 : val_main_v253 (F := F) i = 16#32 := (val_main_v253_apply (F := F) i).trans (val_main_c_77_apply _)
  have p254 : val_main_v254 (F := F) i = (st 64467757#32 2916123636#32 3050711811#32 n 7).2 <<< 16 := (val_main_v254_apply (F := F) i).trans (shlh16 p251)
  have p255 : val_main_v255 (F := F) i = 16#32 := (val_main_v255_apply (F := F) i).trans (val_main_c_78_apply _)
  have p256 : val_main_v256 (F := F) i = (st 64467757#32 2916123636#32 3050711811#32 n 7).2 >>> 16 := (val_main_v256_apply (F := F) i).trans (shrh16 p251)
  have p257 : val_main_v257 (F := F) i = ((st 64467757#32 2916123636#32 3050711811#32 n 7).2 <<< 16 ||| (st 64467757#32 2916123636#32 3050711811#32 n 7).2 >>> 16) := (val_main_v257_apply (F := F) i).trans (word_or p254 p256)
  have p258 : val_main_v258 (F := F) i = (st 64467757#32 2916123636#32 3050711811#32 n 8).2 := (val_main_v258_apply (F := F) i).trans ((word_xor_swap p252 p257).trans (st_2_8 64467757#32 2916123636#32 3050711811#32 n).symm)
  have p259 : val_main_v259 (F := F) i = (st 64467757#32 2916123636#32 3050711811#32 n 9).1 := (val_main_v259_apply (F := F) i).trans ((word_add p252 p258).trans (st_1_9 64467757#32 2916123636#32 3050711811#32 n).symm)
  have p260 : val_main_v260 (F := F) i = 24#32 := (val_main_v260_apply (F := F) i).trans (val_main_c_79_apply _)
  have p261 : val_main_v261 (F := F) i = (st 64467757#32 2916123636#32 3050711811#32 n 8).2 <<< 24 := (val_main_v261_apply (F := F) i).trans (shlh24 p258)
  have p262 : val_main_v262 (F := F) i = 8#32 := (val_main_v262_apply (F := F) i).trans (val_main_c_80_apply _)
  have p263 : val_main_v263 (F := F) i = (st 64467757#32 2916123636#32 3050711811#32 n 8).2 >>> 8 := (val_main_v263_apply (F := F) i).trans (shrh8 p258)
  have p264 : val_main_v264 (F := F) i = ((st 64467757#32 2916123636#32 3050711811#32 n 8).2 <<< 24 ||| (st 64467757#32 2916123636#32 3050711811#32 n 8).2 >>> 8) := (val_main_v264_apply (F := F) i).trans (word_or p261 p263)
  have p265 : val_main_v265 (F := F) i = (st 64467757#32 2916123636#32 3050711811#32 n 9).2 := (val_main_v265_apply (F := F) i).trans ((word_xor_swap p259 p264).trans (st_2_9 64467757#32 2916123636#32 3050711811#32 n).symm)
  have p266 : val_main_v266 (F := F) i = 3050711811#32 := (val_main_v266_apply (F := F) i).trans (val_main_c_81_apply _)
  have p267 : val_main_v267 (F := F) i = (st 64467757#32 2916123636#32 3050711811#32 n 10).1 := (val_main_v267_apply (F := F) i).trans ((word_add p259 p266).trans (st_1_10 64467757#32 2916123636#32 3050711811#32 n).symm)
  have p268 : val_main_v268 (F := F) i = 64467759#32 := (val_main_v268_apply (F := F) i).trans (val_main_c_82_apply _)
  have p269 : val_main_v269 (F := F) i = (st 64467757#32 2916123636#32 3050711811#32 n 10).2 := (val_main_v269_apply (F := F) i).trans ((word_add p265 p268).trans (foldS_10 n))
  have p270 : val_main_v270 (F := F) i = (st 64467757#32 2916123636#32 3050711811#32 n 11).1 := (val_main_v270_apply (F := F) i).trans ((word_add p267 p269).trans (st_1_11 64467757#32 2916123636#32 3050711811#32 n).symm)
  have p271 : val_main_v271 (F := F) i = 13#32 := (val_main_v271_apply (F := F) i).trans (val_main_c_83_apply _)
  have p272 : val_main_v272 (F := F) i = (st 64467757#32 2916123636#32 3050711811#32 n 10).2 <<< 13 := (val_main_v272_apply (F := F) i).trans (shlh13 p269)
  have p273 : val_main_v273 (F := F) i = 19#32 := (val_main_v273_apply (F := F) i).trans (val_main_c_84_apply _)
  have p274 : val_main_v274 (F := F) i = (st 64467757#32 2916123636#32 3050711811#32 n 10).2 >>> 19 := (val_main_v274_apply (F := F) i).trans (shrh19 p269)
  have p275 : val_main_v275 (F := F) i = ((st 64467757#32 2916123636#32 3050711811#32 n 10).2 <<< 13 ||| (st 64467757#32 2916123636#32 3050711811#32 n 10).2 >>> 19) := (val_main_v275_apply (F := F) i).trans (word_or p272 p274)
  have p276 : val_main_v276 (F := F) i = (st 64467757#32 2916123636#32 3050711811#32 n 11).2 := (val_main_v276_apply (F := F) i).trans ((word_xor_swap p270 p275).trans (st_2_11 64467757#32 2916123636#32 3050711811#32 n).symm)
  have p277 : val_main_v277 (F := F) i = (st 64467757#32 2916123636#32 3050711811#32 n 12).1 := (val_main_v277_apply (F := F) i).trans ((word_add p270 p276).trans (st_1_12 64467757#32 2916123636#32 3050711811#32 n).symm)
  have p278 : val_main_v278 (F := F) i = 15#32 := (val_main_v278_apply (F := F) i).trans (val_main_c_85_apply _)
  have p279 : val_main_v279 (F := F) i = (st 64467757#32 2916123636#32 3050711811#32 n 11).2 <<< 15 := (val_main_v279_apply (F := F) i).trans (shlh15 p276)
  have p280 : val_main_v280 (F := F) i = 17#32 := (val_main_v280_apply (F := F) i).trans (val_main_c_86_apply _)
  have p281 : val_main_v281 (F := F) i = (st 64467757#32 2916123636#32 3050711811#32 n 11).2 >>> 17 := (val_main_v281_apply (F := F) i).trans (shrh17 p276)
  have p282 : val_main_v282 (F := F) i = ((st 64467757#32 2916123636#32 3050711811#32 n 11).2 <<< 15 ||| (st 64467757#32 2916123636#32 3050711811#32 n 11).2 >>> 17) := (val_main_v282_apply (F := F) i).trans (word_or p279 p281)
  have p283 : val_main_v283 (F := F) i = (st 64467757#32 2916123636#32 3050711811#32 n 12).2 := (val_main_v283_apply (F := F) i).trans ((word_xor_swap p277 p282).trans (st_2_12 64467757#32 2916123636#32 3050711811#32 n).symm)
  have p284 : val_main_v284 (F := F) i = (st 64467757#32 2916123636#32 3050711811#32 n 13).1 := (val_main_v284_apply (F := F) i).trans ((word_add p277 p283).trans (st_1_13 64467757#32 2916123636#32 3050711811#32 n).symm)
  have p285 : val_main_v285 (F := F) i = 26#32 := (val_main_v285_apply (F := F) i).trans (val_main_c_87_apply _)
  have p286 : val_main_v286 (F := F) i = (st 64467757#32 2916123636#32 3050711811#32 n 12).2 <<< 26 := (val_main_v286_apply (F := F) i).trans (shlh26 p283)
  have p287 : val_main_v287 (F := F) i = 6#32 := (val_main_v287_apply (F := F) i).trans (val_main_c_88_apply _)
  have p288 : val_main_v288 (F := F) i = (st 64467757#32 2916123636#32 3050711811#32 n 12).2 >>> 6 := (val_main_v288_apply (F := F) i).trans (shrh6 p283)
  have p289 : val_main_v289 (F := F) i = ((st 64467757#32 2916123636#32 3050711811#32 n 12).2 <<< 26 ||| (st 64467757#32 2916123636#32 3050711811#32 n 12).2 >>> 6) := (val_main_v289_apply (F := F) i).trans (word_or p286 p288)
  have p290 : val_main_v290 (F := F) i = (st 64467757#32 2916123636#32 3050711811#32 n 13).2 := (val_main_v290_apply (F := F) i).trans ((word_xor_swap p284 p289).trans (st_2_13 64467757#32 2916123636#32 3050711811#32 n).symm)
  have p291 : val_main_v291 (F := F) i = (st 64467757#32 2916123636#32 3050711811#32 n 14).1 := (val_main_v291_apply (F := F) i).trans ((word_add p284 p290).trans (st_1_14 64467757#32 2916123636#32 3050711811#32 n).symm)
  have p292 : val_main_v292 (F := F) i = 6#32 := (val_main_v292_apply (F := F) i).trans (val_main_c_89_apply _)
  have p293 : val_main_v293 (F := F) i = (st 64467757#32 2916123636#32 3050711811#32 n 13).2 <<< 6 := (val_main_v293_apply (F := F) i).trans (shlh6 p290)
  have p294 : val_main_v294 (F := F) i = 26#32 := (val_main_v294_apply (F := F) i).trans (val_main_c_90_apply _)
  have p295 : val_main_v295 (F := F) i = (st 64467757#32 2916123636#32 3050711811#32 n 13).2 >>> 26 := (val_main_v295_apply (F := F) i).trans (shrh26 p290)
  have p296 : val_main_v296 (F := F) i = ((st 64467757#32 2916123636#32 3050711811#32 n 13).2 <<< 6 ||| (st 64467757#32 2916123636#32 3050711811#32 n 13).2 >>> 26) := (val_main_v296_apply (F := F) i).trans (word_or p293 p295)
  have p297 : val_main_v297 (F := F) i = (st 64467757#32 2916123636#32 3050711811#32 n 14).2 := (val_main_v297_apply (F := F) i).trans ((word_xor_swap p291 p296).trans (st_2_14 64467757#32 2916123636#32 3050711811#32 n).symm)
  have p298 : val_main_v298 (F := F) i = 64467757#32 := (val_main_v298_apply (F := F) i).trans (val_main_c_91_apply _)
  have p299 : val_main_v299 (F := F) i = (st 64467757#32 2916123636#32 3050711811#32 n 15).1 := (val_main_v299_apply (F := F) i).trans ((word_add p291 p298).trans (st_1_15 64467757#32 2916123636#32 3050711811#32 n).symm)
  have p300 : val_main_v300 (F := F) i = 2916123639#32 := (val_main_v300_apply (F := F) i).trans (val_main_c_92_apply _)
  have p301 : val_main_v301 (F := F) i = (st 64467757#32 2916123636#32 3050711811#32 n 15).2 := (val_main_v301_apply (F := F) i).trans ((word_add p297 p300).trans (foldS_15 n))
  have p302 : val_main_v302 (F := F) i = (st 64467757#32 2916123636#32 3050711811#32 n 16).1 := (val_main_v302_apply (F := F) i).trans ((word_add p299 p301).trans (st_1_16 64467757#32 2916123636#32 3050711811#32 n).symm)
  have p303 : val_main_v303 (F := F) i = 17#32 := (val_main_v303_apply (F := F) i).trans (val_main_c_93_apply _)
  have p304 : val_main_v304 (F := F) i = (st 64467757#32 2916123636#32 3050711811#32 n 15).2 <<< 17 := (val_main_v304_apply (F := F) i).trans (shlh17 p301)
  have p305 : val_main_v305 (F := F) i = 15#32 := (val_main_v305_apply (F := F) i).trans (val_main_c_94_apply _)
  have p306 : val_main_v306 (F := F) i = (st 64467757#32 2916123636#32 3050711811#32 n 15).2 >>> 15 := (val_main_v306_apply (F := F) i).trans (shrh15 p301)
  have p307 : val_main_v307 (F := F) i = ((st 64467757#32 2916123636#32 3050711811#32 n 15).2 <<< 17 ||| (st 64467757#32 2916123636#32 3050711811#32 n 15).2 >>> 15) := (val_main_v307_apply (F := F) i).trans (word_or p304 p306)
  have p308 : val_main_v308 (F := F) i = (st 64467757#32 2916123636#32 3050711811#32 n 16).2 := (val_main_v308_apply (F := F) i).trans ((word_xor_swap p302 p307).trans (st_2_16 64467757#32 2916123636#32 3050711811#32 n).symm)
  have p309 : val_main_v309 (F := F) i = (st 64467757#32 2916123636#32 3050711811#32 n 17).1 := (val_main_v309_apply (F := F) i).trans ((word_add p302 p308).trans (st_1_17 64467757#32 2916123636#32 3050711811#32 n).symm)
  have p310 : val_main_v310 (F := F) i = 29#32 := (val_main_v310_apply (F := F) i).trans (val_main_c_95_apply _)
  have p311 : val_main_v311 (F := F) i = (st 64467757#32 2916123636#32 3050711811#32 n 16).2 <<< 29 := (val_main_v311_apply (F := F) i).trans (shlh29 p308)
  have p312 : val_main_v312 (F := F) i = 3#32 := (val_main_v312_apply (F := F) i).trans (val_main_c_96_apply _)
  have p313 : val_main_v313 (F := F) i = (st 64467757#32 2916123636#32 3050711811#32 n 16).2 >>> 3 := (val_main_v313_apply (F := F) i).trans (shrh3 p308)
  have p314 : val_main_v314 (F := F) i = ((st 64467757#32 2916123636#32 3050711811#32 n 16).2 <<< 29 ||| (st 64467757#32 2916123636#32 3050711811#32 n 16).2 >>> 3) := (val_main_v314_apply (F := F) i).trans (word_or p311 p313)
  have p315 : val_main_v315 (F := F) i = (st 64467757#32 2916123636#32 3050711811#32 n 17).2 := (val_main_v315_apply (F := F) i).trans ((word_xor_swap p309 p314).trans (st_2_17 64467757#32 2916123636#32 3050711811#32 n).symm)
  have p316 : val_main_v316 (F := F) i = (st 64467757#32 2916123636#32 3050711811#32 n 18).1 := (val_main_v316_apply (F := F) i).trans ((word_add p309 p315).trans (st_1_18 64467757#32 2916123636#32 3050711811#32 n).symm)
  have p317 : val_main_v317 (F := F) i = 16#32 := (val_main_v317_apply (F := F) i).trans (val_main_c_97_apply _)
  have p318 : val_main_v318 (F := F) i = (st 64467757#32 2916123636#32 3050711811#32 n 17).2 <<< 16 := (val_main_v318_apply (F := F) i).trans (shlh16 p315)
  have p319 : val_main_v319 (F := F) i = 16#32 := (val_main_v319_apply (F := F) i).trans (val_main_c_98_apply _)
  have p320 : val_main_v320 (F := F) i = (st 64467757#32 2916123636#32 3050711811#32 n 17).2 >>> 16 := (val_main_v320_apply (F := F) i).trans (shrh16 p315)
  have p321 : val_main_v321 (F := F) i = ((st 64467757#32 2916123636#32 3050711811#32 n 17).2 <<< 16 ||| (st 64467757#32 2916123636#32 3050711811#32 n 17).2 >>> 16) := (val_main_v321_apply (F := F) i).trans (word_or p318 p320)
  have p322 : val_main_v322 (F := F) i = (st 64467757#32 2916123636#32 3050711811#32 n 18).2 := (val_main_v322_apply (F := F) i).trans ((word_xor_swap p316 p321).trans (st_2_18 64467757#32 2916123636#32 3050711811#32 n).symm)
  have p323 : val_main_v323 (F := F) i = (st 64467757#32 2916123636#32 3050711811#32 n 19).1 := (val_main_v323_apply (F := F) i).trans ((word_add p316 p322).trans (st_1_19 64467757#32 2916123636#32 3050711811#32 n).symm)
  have p324 : val_main_v324 (F := F) i = 24#32 := (val_main_v324_apply (F := F) i).trans (val_main_c_99_apply _)
  have p325 : val_main_v325 (F := F) i = (st 64467757#32 2916123636#32 3050711811#32 n 18).2 <<< 24 := (val_main_v325_apply (F := F) i).trans (shlh24 p322)
  have p326 : val_main_v326 (F := F) i = 8#32 := (val_main_v326_apply (F := F) i).trans (val_main_c_100_apply _)
  have p327 : val_main_v327 (F := F) i = (st 64467757#32 2916123636#32 3050711811#32 n 18).2 >>> 8 := (val_main_v327_apply (F := F) i).trans (shrh8 p322)
  have p328 : val_main_v328 (F := F) i = ((st 64467757#32 2916123636#32 3050711811#32 n 18).2 <<< 24 ||| (st 64467757#32 2916123636#32 3050711811#32 n 18).2 >>> 8) := (val_main_v328_apply (F := F) i).trans (word_or p325 p327)
  have p329 : val_main_v329 (F := F) i = (st 64467757#32 2916123636#32 3050711811#32 n 19).2 := (val_main_v329_apply (F := F) i).trans ((word_xor_swap p323 p328).trans (st_2_19 64467757#32 2916123636#32 3050711811#32 n).symm)
  have p330 : val_main_v330 (F := F) i = 2916123636#32 := (val_main_v330_apply (F := F) i).trans (val_main_c_101_apply _)
  have p331 : val_main_v331 (F := F) i = (st 64467757#32 2916123636#32 3050711811#32 n 20).1 := (val_main_v331_apply (F := F) i).trans ((word_add p323 p330).trans (st_1_20 64467757#32 2916123636#32 3050711811#32 n).symm)
  have p332 : val_main_v332 (F := F) i = 3050711815#32 := (val_main_v332_apply (F := F) i).trans (val_main_c_102_apply _)
  have p333 : val_main_v333 (F := F) i = (st 64467757#32 2916123636#32 3050711811#32 n 20).2 := (val_main_v333_apply (F := F) i).trans ((word_add p329 p332).trans (foldS_20 n))
  have p334 : val_main_v334 (F := F) i = (st 64467757#32 2916123636#32 3050711811#32 n 21).1 := (val_main_v334_apply (F := F) i).trans ((word_add p331 p333).trans (st_1_21 64467757#32 2916123636#32 3050711811#32 n).symm)
  have p335 : val_main_v335 (F := F) i = 13#32 := (val_main_v335_apply (F := F) i).trans (val_main_c_103_apply _)
  have p336 : val_main_v336 (F := F) i = (st 64467757#32 2916123636#32 3050711811#32 n 20).2 <<< 13 := (val_main_v336_apply (F := F) i).trans (shlh13 p333)
  have p337 : val_main_v337 (F := F) i = 19#32 := (val_main_v337_apply (F := F) i).trans (val_main_c_104_apply _)
  have p338 : val_main_v338 (F := F) i = (st 64467757#32 2916123636#32 3050711811#32 n 20).2 >>> 19 := (val_main_v338_apply (F := F) i).trans (shrh19 p333)
  have p339 : val_main_v339 (F := F) i = ((st 64467757#32 2916123636#32 3050711811#32 n 20).2 <<< 13 ||| (st 64467757#32 2916123636#32 3050711811#32 n 20).2 >>> 19) := (val_main_v339_apply (F := F) i).trans (word_or p336 p338)
  have p340 : val_main_v340 (F := F) i = (st 64467757#32 2916123636#32 3050711811#32 n 21).2 := (val_main_v340_apply (F := F) i).trans ((word_xor_swap p334 p339).trans (st_2_21 64467757#32 2916123636#32 3050711811#32 n).symm)
  have p341 : val_main_v341 (F := F) i = (st 64467757#32 2916123636#32 3050711811#32 n 22).1 := (val_main_v341_apply (F := F) i).trans ((word_add p334 p340).trans (st_1_22 64467757#32 2916123636#32 3050711811#32 n).symm)
  have p342 : val_main_v342 (F := F) i = 15#32 := (val_main_v342_apply (F := F) i).trans (val_main_c_105_apply _)
  have p343 : val_main_v343 (F := F) i = (st 64467757#32 2916123636#32 3050711811#32 n 21).2 <<< 15 := (val_main_v343_apply (F := F) i).trans (shlh15 p340)
  have p344 : val_main_v344 (F := F) i = 17#32 := (val_main_v344_apply (F := F) i).trans (val_main_c_106_apply _)
  have p345 : val_main_v345 (F := F) i = (st 64467757#32 2916123636#32 3050711811#32 n 21).2 >>> 17 := (val_main_v345_apply (F := F) i).trans (shrh17 p340)
  have p346 : val_main_v346 (F := F) i = ((st 64467757#32 2916123636#32 3050711811#32 n 21).2 <<< 15 ||| (st 64467757#32 2916123636#32 3050711811#32 n 21).2 >>> 17) := (val_main_v346_apply (F := F) i).trans (word_or p343 p345)
  have p347 : val_main_v347 (F := F) i = (st 64467757#32 2916123636#32 3050711811#32 n 22).2 := (val_main_v347_apply (F := F) i).trans ((word_xor_swap p341 p346).trans (st_2_22 64467757#32 2916123636#32 3050711811#32 n).symm)
  have p348 : val_main_v348 (F := F) i = (st 64467757#32 2916123636#32 3050711811#32 n 23).1 := (val_main_v348_apply (F := F) i).trans ((word_add p341 p347).trans (st_1_23 64467757#32 2916123636#32 3050711811#32 n).symm)
  have p349 : val_main_v349 (F := F) i = 26#32 := (val_main_v349_apply (F := F) i).trans (val_main_c_107_apply _)
  have p350 : val_main_v350 (F := F) i = (st 64467757#32 2916123636#32 3050711811#32 n 22).2 <<< 26 := (val_main_v350_apply (F := F) i).trans (shlh26 p347)
  have p351 : val_main_v351 (F := F) i = 6#32 := (val_main_v351_apply (F := F) i).trans (val_main_c_108_apply _)
  have p352 : val_main_v352 (F := F) i = (st 64467757#32 2916123636#32 3050711811#32 n 22).2 >>> 6 := (val_main_v352_apply (F := F) i).trans (shrh6 p347)
  have p353 : val_main_v353 (F := F) i = ((st 64467757#32 2916123636#32 3050711811#32 n 22).2 <<< 26 ||| (st 64467757#32 2916123636#32 3050711811#32 n 22).2 >>> 6) := (val_main_v353_apply (F := F) i).trans (word_or p350 p352)
  have p354 : val_main_v354 (F := F) i = (st 64467757#32 2916123636#32 3050711811#32 n 23).2 := (val_main_v354_apply (F := F) i).trans ((word_xor_swap p348 p353).trans (st_2_23 64467757#32 2916123636#32 3050711811#32 n).symm)
  have p355 : val_main_v355 (F := F) i = (st 64467757#32 2916123636#32 3050711811#32 n 24).1 := (val_main_v355_apply (F := F) i).trans ((word_add p348 p354).trans (st_1_24 64467757#32 2916123636#32 3050711811#32 n).symm)
  have p356 : val_main_v356 (F := F) i = 6#32 := (val_main_v356_apply (F := F) i).trans (val_main_c_109_apply _)
  have p357 : val_main_v357 (F := F) i = (st 64467757#32 2916123636#32 3050711811#32 n 23).2 <<< 6 := (val_main_v357_apply (F := F) i).trans (shlh6 p354)
  have p358 : val_main_v358 (F := F) i = 26#32 := (val_main_v358_apply (F := F) i).trans (val_main_c_110_apply _)
  have p359 : val_main_v359 (F := F) i = (st 64467757#32 2916123636#32 3050711811#32 n 23).2 >>> 26 := (val_main_v359_apply (F := F) i).trans (shrh26 p354)
  have p360 : val_main_v360 (F := F) i = ((st 64467757#32 2916123636#32 3050711811#32 n 23).2 <<< 6 ||| (st 64467757#32 2916123636#32 3050711811#32 n 23).2 >>> 26) := (val_main_v360_apply (F := F) i).trans (word_or p357 p359)
  have p361 : val_main_v361 (F := F) i = (st 64467757#32 2916123636#32 3050711811#32 n 24).2 := (val_main_v361_apply (F := F) i).trans ((word_xor_swap p355 p360).trans (st_2_24 64467757#32 2916123636#32 3050711811#32 n).symm)
  have p362 : val_main_v362 (F := F) i = 3050711811#32 := (val_main_v362_apply (F := F) i).trans (val_main_c_111_apply _)
  have p363 : val_main_v363 (F := F) i = (st 64467757#32 2916123636#32 3050711811#32 n 25).1 := (val_main_v363_apply (F := F) i).trans ((word_add p355 p362).trans (st_1_25 64467757#32 2916123636#32 3050711811#32 n).symm)
  have p364 : val_main_v364 (F := F) i = 64467762#32 := (val_main_v364_apply (F := F) i).trans (val_main_c_112_apply _)
  have p365 : val_main_v365 (F := F) i = (st 64467757#32 2916123636#32 3050711811#32 n 25).2 := (val_main_v365_apply (F := F) i).trans ((word_add p361 p364).trans (foldS_25 n))
  have p366 : val_main_v366 (F := F) i = bitsS n := (val_main_v366_apply (F := F) i).trans (word_xor p363 p365)
  exact p366

end Cert.Gumbel.Ref

end
-- ==== Proof.RefRead.lean ====
/-
  The reference read at one element `(b, r, c)`, at any floats: its two random draws by the element's number, and the
  arrays that spread a row's value over the row.
-/
module

public import proofs.«01_k».proof.Proof.RefBits
public import proofs.«01_k».proof.Proof.RowMath
public import Idealize.ShloMosaic.Lib.Pointwise.Reduce
public import Idealize.ShloMosaic.Lib.ValueIdxCore

@[expose] public section

set_option maxRecDepth 16384

noncomputable section

namespace Cert.Gumbel.Ref

open Idealize.ShloMosaic hiding ix1 ix2 ix3
open Idealize.ShloMosaic.ValueIdx Cert.ReferenceIdeal Cert.ReferenceIdeal.Read Cert.ReferenceIdeal.Gen

variable {F : FTy → Type} [FloatOps F]

/-- The number of element `(b, r, c)`. -/
def numAt (b : Fin 64) (r : Fin 8) (c : Fin 100000) : BitVec 32 := BitVec.ofNat 32 ((b.val * 8 + r.val) * 100000 + c.val)

theorem count1 (b : Fin 64) (r : Fin 8) (c : Fin 100000) : val_main_v1 (F := F) (ix3 b r c) = numAt b r c := by
  rw [val_main_v1_apply, val_main_v0_apply]; rfl

theorem count2 (b : Fin 64) (r : Fin 8) (c : Fin 100000) : val_main_v200 (F := F) (ix3 b r c) = numAt b r c := by
  rw [val_main_v200_apply, val_main_v199_apply]; rfl

/-- The first draw, its logarithm negated. -/
theorem den_read (b : Fin 64) (r : Fin 8) (c : Fin 100000) :
    val_main_v180 (F := F) (ix3 b r c) = FloatOps.hostNegf (FloatOps.hostUnary .log
      (FloatOps.addf (FloatOps.mulf (unit01 F (bitsU (numAt b r c))) (fbits 0x3F7FBE77#32)) (fbits 0x2B8CBCCC#32))) := by
  have h9 : val_main_v168 (F := F) (ix3 b r c) = 9#32 := (val_main_v168_apply _).trans (val_main_c_52_apply _)
  have ho : val_main_v170 (F := F) (ix3 b r c) = 1065353216#32 := (val_main_v170_apply _).trans (val_main_c_53_apply _)
  rw [val_main_v180_apply, val_main_v179_apply, val_main_v178_apply, val_main_v176_apply, val_main_v174_apply,
    val_main_v172_apply, val_main_v171_apply, val_main_v169_apply, h9, ho, val_main_v173_apply, val_main_v175_apply,
    val_main_v177_apply, val_main_cst_54_apply, val_main_cst_55_apply, val_main_cst_56_apply,
    wordsU _ _ (count1 b r c), shrh9 rfl]
  rfl

/-- The second draw, its logarithm negated. -/
theorem draw_read (b : Fin 64) (r : Fin 8) (c : Fin 100000) :
    val_main_v377 (F := F) (ix3 b r c) = FloatOps.hostNegf (FloatOps.hostUnary .log
      (FloatOps.maximumf (fbits 0x00800000#32) (unit01 F (bitsS (numAt b r c))))) := by
  have h9 : val_main_v367 (F := F) (ix3 b r c) = 9#32 := (val_main_v367_apply _).trans (val_main_c_113_apply _)
  have ho : val_main_v369 (F := F) (ix3 b r c) = 1065353216#32 := (val_main_v369_apply _).trans (val_main_c_114_apply _)
  rw [val_main_v377_apply, val_main_v376_apply, val_main_v375_apply, val_main_v373_apply,
    val_main_v371_apply, val_main_v370_apply, val_main_v368_apply, h9, ho, val_main_v374_apply, val_main_v372_apply,
    val_main_cst_115_apply, val_main_cst_116_apply, wordsS _ _ (count2 b r c), shrh9 rfl]
  rfl

theorem gumbelDen_eq (n : BitVec 32) : gumbelDen F n = FloatOps.subf (fbits 0x00000000#32) (FloatOps.log
    (FloatOps.addf (FloatOps.mulf (unit01 F (bitsU n)) (fbits 0x3F7FBE77#32)) (fbits 0x2B8CBCCC#32))) := rfl

theorem drawDen_eq (n : BitVec 32) : drawDen F n = FloatOps.subf (fbits 0x00000000#32) (FloatOps.log
    (FloatOps.maximumf (fbits 0x00800000#32) (unit01 F (bitsS n)))) := rfl

theorem row_idx (b : Fin 64) (r : Fin 8) (c : Fin 100000) : idx_main_v190 (idx_main_v191 (ix3 b r c)) = ix2 b r := by
  funext a; fin_cases a <;> rfl
theorem row_idx' (b : Fin 64) (r : Fin 8) (c : Fin 100000) : idx_main_v195 (idx_main_v196 (ix3 b r c)) = ix2 b r := by
  funext a; fin_cases a <;> rfl
theorem row_idx'' (b : Fin 64) (r : Fin 8) (c : Fin 100000) : idx_main_v381 (idx_main_v382 (ix3 b r c)) = ix2 b r := by
  funext a; fin_cases a <;> rfl
theorem sum_idx (b : Fin 64) (r : Fin 8) (c : Fin 100000) : idx_main_v194 (ix2 b r) c = ix3 b r c := by
  funext a; fin_cases a <;> rfl

/-- A reduction over the last axis, at a row, as a fold over the row's columns. -/
theorem reduce_row {α : Type} (f : α → α → α) [Std.Commutative f] [Std.Associative f] (v : S64x8x100000.Idx → α)
    (init : S_.Idx → α) (b : Fin 64) (r : Fin 8) :
    Host.reduce f v init reducesTo_S64x8x100000_S64x8_d2 h_S_ (ix2 b r)
      = (Finset.univ : Finset (Fin 100000)).fold f (init (Shape.Idx.first h_S_)) (fun k => v (ix3 b r k)) :=
  (Host.reduce_eq_fold f v init reducesTo_S64x8x100000_S64x8_d2 h_S_ (ix2 b r)).trans
    (reducesTo_S64x8x100000_S64x8_d2.fold_fiber_r3_a2 (ix2 b r) f _ v)

variable (X : (⟨S64x8x100000, .f32⟩ : BufTy).Contents (Elt F))

/-- The perturbed logit over the temperature. -/
theorem logit_read (b : Fin 64) (r : Fin 8) (c : Fin 100000) :
    val_main_v186 X (ix3 b r c) = FloatOps.hostDivf (FloatOps.addf (X (ix3 b r c))
      (FloatOps.hostNegf (FloatOps.hostUnary .log (val_main_v180 (F := F) (ix3 b r c))))) (fbits 0x3F800000#32) := by
  rw [val_main_v186_apply, val_main_v183_apply, val_main_v182_apply, val_main_v181_apply, val_main_v185_apply,
    val_main_v184_apply, val_main_cst_apply]

/-- The row's greatest logit. -/
theorem best_read (b : Fin 64) (r : Fin 8) : val_main_v189 X (ix2 b r) = FloatOps.maximumf (fbits 0xFF800000#32) (val_main_v187 X (ix2 b r)) := by
  rw [val_main_v189_apply, val_main_v188_apply, val_main_cst_58_apply]

theorem exp_read (b : Fin 64) (r : Fin 8) (c : Fin 100000) :
    val_main_v193 X (ix3 b r c) = FloatOps.hostUnary .exp (FloatOps.subf (val_main_v186 X (ix3 b r c)) (val_main_v189 X (ix2 b r))) := by
  rw [val_main_v193_apply, val_main_v192_apply, val_main_v191_apply, val_main_v190_apply, row_idx]

theorem soft_read (b : Fin 64) (r : Fin 8) (c : Fin 100000) :
    val_main_v197 X (ix3 b r c) = FloatOps.hostDivf (val_main_v193 X (ix3 b r c)) (val_main_v194 X (ix2 b r)) := by
  rw [val_main_v197_apply, val_main_v196_apply, val_main_v195_apply, row_idx']

theorem score_read (b : Fin 64) (r : Fin 8) (c : Fin 100000) :
    val_main_v379 X (ix3 b r c) = FloatOps.subf (FloatOps.hostUnary .log (val_main_v197 X (ix3 b r c)))
      (FloatOps.hostUnary .log (val_main_v377 (F := F) (ix3 b r c))) := by
  rw [val_main_v379_apply, val_main_v198_apply, val_main_v378_apply]

theorem mark_read (b : Fin 64) (r : Fin 8) (c : Fin 100000) :
    val_main_v385 X (ix3 b r c) = Scalar.select (FloatOps.cmpf .oeq (val_main_v379 X (ix3 b r c)) (val_main_v380 X (ix2 b r)))
      (BitVec.ofNat 32 c.val) 100000#32 := by
  rw [val_main_v385_apply, val_main_v383_apply, val_main_v382_apply, val_main_v381_apply, row_idx'', val_main_v384_apply,
    val_main_call0_v1_apply, val_main_call0_v0_apply, val_main_c_118_apply]

/-- The sampled column's number. -/
theorem pick_read (b : Fin 64) (r : Fin 8) :
    val_main_v386 X (ix2 b r) = (Finset.univ : Finset (Fin 100000)).fold IntOp.minsi 2147483647#32
      (fun k => Scalar.select (FloatOps.cmpf .oeq (val_main_v379 X (ix3 b r k)) (val_main_v380 X (ix2 b r))) (BitVec.ofNat 32 k.val) 100000#32) := by
  have h := reduce_row IntOp.minsi (val_main_v385 X) (val_main_c_119 (F := F)) b r
  rw [val_main_c_119_apply] at h
  simp only [mark_read] at h
  exact h

/-! ## Reading the sampled column's probability back -/

/-- The column's number as the lookup takes it: itself, being nonnegative. -/
theorem word_ok (n : ℕ) (hn : n < 100000) : IntOp.cmpi .slt (BitVec.ofNat 32 n) 0#32 = 0#1
    ∧ IntOp.cmpi .sge (BitVec.ofNat 32 n) 0#32 = 1#1 ∧ IntOp.cmpi .sle (BitVec.ofNat 32 n) 99999#32 = 1#1 := by
  have e : (BitVec.ofNat 32 n).toInt = n := Row.toInt_small (by omega)
  have z : (0#32 : BitVec 32).toInt = 0 := by decide
  have k : (99999#32 : BitVec 32).toInt = 99999 := by decide
  refine ⟨?_, ?_, ?_⟩ <;> simp only [IntOp.cmpi, BitVec.slt, BitVec.sle, e, z, k]
  · rw [decide_eq_false (by omega)]; rfl
  · rw [decide_eq_true (by omega)]; rfl
  · rw [decide_eq_true (by omega)]; rfl

/-- Where every sampled column is in range the lookup's guard holds everywhere. -/
theorem guard_read (hX : ∀ b r, ∃ n : ℕ, n < 100000 ∧ val_main_v386 X (ix2 b r) = BitVec.ofNat 32 n) (i : S64x8x1.Idx) :
    val_main_call1_v12 X i = 1#1 := by
  have h5 : ∀ j, ∃ n : ℕ, n < 100000 ∧ val_main_call1_v5 X j = BitVec.ofNat 32 n := fun j => by
    have h7 : ∀ k : S64x8x1.Idx, ∃ n : ℕ, n < 100000 ∧ val_main_v387 X k = BitVec.ofNat 32 n := fun k => by
      rw [val_main_v387_apply]
      obtain ⟨n, hn, e⟩ := hX (idx_main_v387 k 0) (idx_main_v387 k 1)
      have hk : idx_main_v387 k = ix2 (idx_main_v387 k 0) (idx_main_v387 k 1) := by funext a; fin_cases a <;> rfl
      exact ⟨n, hn, by rw [hk]; exact e⟩
    obtain ⟨n, hn, e⟩ := h7 (idx_main_call1_v5 j)
    refine ⟨n, hn, ?_⟩
    rw [val_main_call1_v5_apply, val_main_call1_v4_apply, val_main_call1_v1_apply, e, val_main_call1_v0_apply,
      val_main_call1_c_apply, (word_ok n hn).1]
    exact Row.select_neg (by decide)
  have h11 : ∀ j, val_main_call1_v11 X j = 1#1 := fun j => by
    obtain ⟨n, hn, e⟩ := h5 j
    rw [val_main_call1_v11_apply, val_main_call1_v7_apply, val_main_call1_v10_apply, e, val_main_call1_v6_apply,
      val_main_call1_c_2_apply, val_main_call1_v9_apply, val_main_call1_v8_apply, val_main_call1_c_1_apply,
      (word_ok n hn).2.1, (word_ok n hn).2.2]
    rfl
  have hf : val_main_call1_v11 X = fun _ => 1#1 := funext h11
  unfold val_main_call1_v12
  rw [hf, Host.reduce_eq_foldl, val_main_call1_c_3_apply]
  generalize (List.filter _ _) = l
  induction l with
  | nil => rfl
  | cons a l ih => exact ih

/-- The looked-up value is one of the probabilities. -/
theorem lookup_read (hX : ∀ b r, ∃ n : ℕ, n < 100000 ∧ val_main_v386 X (ix2 b r) = BitVec.ofNat 32 n) (i : S64x8.Idx) :
    ∃ j, val_main_v389 X i = val_main_v197 X j := by
  rw [val_main_v389_apply, val_main_v388_apply, guard_read X hX, Row.select_pos rfl]
  unfold val_main_call1_v13
  exact ⟨_, rfl⟩

/-- The last lines: the column's number as a float, plus one times the looked-up value less itself. -/
theorem ids_read (i : S64x8.Idx) :
    val_main_v394 X i = FloatOps.addf (FloatOps.sitofp .f32 (val_main_v386 X i))
      (FloatOps.mulf (fbits 0x3F800000#32) (FloatOps.subf (val_main_v389 X i) (val_main_v389 X i))) := by
  rw [val_main_v394_apply, val_main_v390_apply, val_main_v393_apply, val_main_v392_apply, val_main_cst_120_apply, val_main_v391_apply]

end Cert.Gumbel.Ref
-- ==== Proof.RefValue.lean ====
/-
  The reference's results over the extended reals, row by row: with the row's greatest logit a real, its soft output
  is the weight `P` over the row's total `T`, and its sampled column is the first where `log (P / T) - log e` is greatest.
-/
module

public import proofs.«01_k».proof.Proof.RefRead

@[expose] public section

set_option maxRecDepth 16384

noncomputable section

namespace Cert.Gumbel.Ref

open Idealize.ShloMosaic hiding ix1 ix2 ix3
open Idealize.ShloMosaic.ValueIdx Cert.ReferenceIdeal Cert.ReferenceIdeal.Read Cert.ReferenceIdeal.Gen Cert.Gumbel.Row

theorem neg_log_eq (y : EReal) : FloatOps.hostNegf (F := Ideal) (φ := .f32) (FloatOps.hostUnary (F := Ideal) (φ := .f32) .log y)
    = FloatOps.subf (F := Ideal) (φ := .f32) (fbits 0x00000000#32) (FloatOps.log (F := Ideal) (φ := .f32) y) := by
  show -(Ideal.log y) = Ideal.ofBits .f32 0x00000000#32 - Ideal.log y
  rw [Ideal.ofBits_zero_f32, sub_eq_add_neg, zero_add]

/-- The two draws of column `c` of row `(b, r)`. -/
def dn (b : Fin 64) (r : Fin 8) (c : Fin 100000) : ℝ := denR (numAt b r c)
def en (b : Fin 64) (r : Fin 8) (c : Fin 100000) : ℝ := drawR (numAt b r c)

theorem dn_pos (b : Fin 64) (r : Fin 8) (c : Fin 100000) : 0 < dn b r c := (denR_spec _).1
theorem en_pos (b : Fin 64) (r : Fin 8) (c : Fin 100000) : 0 < en b r c := (drawR_spec _).1

theorem den_val (b : Fin 64) (r : Fin 8) (c : Fin 100000) : val_main_v180 (F := Ideal) (ix3 b r c) = ((dn b r c : ℝ) : EReal) := by
  rw [den_read, neg_log_eq, ← gumbelDen_eq]; exact (denR_spec _).2

theorem draw_val (b : Fin 64) (r : Fin 8) (c : Fin 100000) : val_main_v377 (F := Ideal) (ix3 b r c) = ((en b r c : ℝ) : EReal) := by
  rw [draw_read, neg_log_eq, ← drawDen_eq]; exact (drawR_spec _).2

variable (X : (⟨S64x8x100000, .f32⟩ : BufTy).Contents (Elt Ideal))

/-- Row `(b, r)`'s logits. -/
def xr (b : Fin 64) (r : Fin 8) (c : Fin 100000) : EReal := X (ix3 b r c)

/-- `(x - log d) / 1`. -/
theorem over_one (x : EReal) (d : ℝ) (hd : 0 < d) : FloatOps.hostDivf (F := Ideal) (φ := .f32) (FloatOps.addf (F := Ideal) (φ := .f32) x
      (FloatOps.hostNegf (F := Ideal) (φ := .f32) (FloatOps.hostUnary (F := Ideal) (φ := .f32) .log ((d : ℝ) : EReal)))) (fbits 0x3F800000#32)
    = x + ((-Real.log d : ℝ) : EReal) := by
  show Ideal.div (x + -(Ideal.log ((d : ℝ) : EReal))) (Ideal.ofBits .f32 0x3F800000#32) = _
  rw [Ideal.ofBits_one_f32, log_pos hd, ← EReal.coe_neg]
  unfold Ideal.div
  rw [if_neg one_ne_zero, inv_one, mul_one]

theorem logit_val (b : Fin 64) (r : Fin 8) (c : Fin 100000) : val_main_v186 X (ix3 b r c) = logit (xr X b r) (dn b r) c := by
  rw [logit_read, den_val, over_one _ _ (dn_pos b r c)]; rfl

theorem max_row (y : S64x8x100000.Idx → EReal) (u : S_.Idx → EReal) (hu : u (Shape.Idx.first h_S_) = ⊥) (b : Fin 64) (r : Fin 8) :
    IsTop (fun c => y (ix3 b r c)) (Host.reduce (FloatOps.maximumf (F := Ideal) (φ := .f32)) y u reducesTo_S64x8x100000_S64x8_d2 h_S_ (ix2 b r)) := by
  have h := reduce_row (max : EReal → EReal → EReal) y u b r
  rw [hu] at h
  have k := fold_max_top (fun c => y (ix3 b r c))
  rw [← h] at k
  exact k

theorem first57 : val_main_cst_57 (F := Ideal) (Shape.Idx.first h_S_) = (⊥ : EReal) := (val_main_cst_57_apply _).trans ofBits_bot
theorem first117 : val_main_cst_117 (F := Ideal) (Shape.Idx.first h_S_) = (⊥ : EReal) := (val_main_cst_117_apply _).trans ofBits_bot

theorem bot_max (y : EReal) : FloatOps.maximumf (F := Ideal) (φ := .f32) (fbits 0xFF800000#32) y = y := by
  show max (Ideal.ofBits .f32 0xFF800000#32) y = y
  rw [ofBits_bot]; exact max_eq_right bot_le

theorem best_val (b : Fin 64) (r : Fin 8) : IsTop (logit (xr X b r) (dn b r)) (val_main_v189 X (ix2 b r)) := by
  have h := max_row (val_main_v186 X) (val_main_cst_57 (F := Ideal)) first57 b r
  have e : (fun c => val_main_v186 X (ix3 b r c)) = logit (xr X b r) (dn b r) := funext (logit_val X b r)
  rw [e] at h
  rw [best_read, bot_max]
  exact h

theorem exp_val (b : Fin 64) (r : Fin 8) (c : Fin 100000) :
    val_main_v193 X (ix3 b r c) = Ideal.exp (logit (xr X b r) (dn b r) c - val_main_v189 X (ix2 b r)) := by
  rw [exp_read, logit_val]
  generalize val_main_v189 X (ix2 b r) = t
  generalize logit (xr X b r) (dn b r) c = l
  rfl

theorem total_val (b : Fin 64) (r : Fin 8) :
    val_main_v194 X (ix2 b r) = ∑ c, Ideal.exp (logit (xr X b r) (dn b r) c - val_main_v189 X (ix2 b r)) := by
  have h0 : val_main_cst_59 (F := Ideal) (Shape.Idx.first h_S_) = (0 : EReal) := (val_main_cst_59_apply _).trans Ideal.ofBits_zero_f32
  rw [val_main_v194_apply, h0, zero_add]
  exact Finset.sum_congr rfl fun c _ => by rw [sum_idx, exp_val]

section Row
variable (b : Fin 64) (r : Fin 8) (top : ℝ) (ht : IsTop (xr X b r) ((top : ℝ) : EReal))
include ht

theorem soft_val (c : Fin 100000) :
    val_main_v197 X (ix3 b r c) = ((P (xr X b r) (dn b r) c / T (xr X b r) (dn b r) : ℝ) : EReal) := by
  rw [soft_read, exp_val, total_val, ← soft_reference (xr X b r) (dn b r) (dn_pos b r) top ht _ (best_val X b r) c]
  generalize (∑ c, Ideal.exp (logit (xr X b r) (dn b r) c - val_main_v189 X (ix2 b r))) = q
  generalize Ideal.exp _ = p
  rfl

/-- The sampling score of a column. -/
def score (c : Fin 100000) : EReal :=
  Ideal.log ((P (xr X b r) (dn b r) c / T (xr X b r) (dn b r) : ℝ) : EReal) - Ideal.log ((en b r c : ℝ) : EReal)

theorem score_val (c : Fin 100000) : val_main_v379 X (ix3 b r c) = score X b r c := by
  rw [score_read, soft_val X b r top ht, draw_val]
  unfold score
  generalize ((P (xr X b r) (dn b r) c / T (xr X b r) (dn b r) : ℝ) : EReal) = p
  generalize ((en b r c : ℝ) : EReal) = q
  rfl

theorem pick_val : ∃ n : ℕ, n < 100000 ∧ First (score X b r) (val_main_v386 X (ix2 b r)) ∧ val_main_v386 X (ix2 b r) = BitVec.ofNat 32 n := by
  have h := max_row (val_main_v379 X) (val_main_cst_117 (F := Ideal)) first117 b r
  have e : (fun c => val_main_v379 X (ix3 b r c)) = score X b r := funext (score_val X b r top ht)
  rw [e] at h
  have h' : IsTop (score X b r) (val_main_v380 X (ix2 b r)) := h
  have hm : ∀ c, FloatOps.cmpf (F := Ideal) (φ := .f32) .oeq (val_main_v379 X (ix3 b r c)) (val_main_v380 X (ix2 b r)) = 1#1
      ↔ ∀ c', score X b r c' ≤ score X b r c := fun c => by
    rw [score_val X b r top ht, ← h'.iff c]
    exact cmp_oeq
  obtain ⟨c, c1, c2, c3⟩ := fold_minsi_marked
    (fun c => FloatOps.cmpf (F := Ideal) (φ := .f32) .oeq (val_main_v379 X (ix3 b r c)) (val_main_v380 X (ix2 b r)))
    (fun c : Fin 100000 => c.val) 100000#32 2147483647#32 100000 (by norm_num) (fun c => c.isLt) (by decide) (by decide)
    (by obtain ⟨c, hc⟩ := h'.1; exact ⟨c, (hm c).mpr ((h'.iff c).mp hc)⟩)
  have c4 : val_main_v386 X (ix2 b r) = BitVec.ofNat 32 c.val := (pick_read X b r).trans c3
  exact ⟨c.val, c.isLt, ⟨c, (hm c).mp c1, fun c' hc' => c2 c' ((hm c').mpr hc'), c4⟩, c4⟩

end Row

/-- `a + 1 * (p - p)` at a real `p`. -/
theorem add_nothing (a : EReal) (p : ℝ) : FloatOps.addf (F := Ideal) (φ := .f32) a (FloatOps.mulf (F := Ideal) (φ := .f32) (fbits 0x3F800000#32)
    (FloatOps.subf (F := Ideal) (φ := .f32) ((p : ℝ) : EReal) ((p : ℝ) : EReal))) = a := by
  show a + Ideal.ofBits .f32 0x3F800000#32 * (((p : ℝ) : EReal) - ((p : ℝ) : EReal)) = a
  rw [← EReal.coe_sub, sub_self, EReal.coe_zero, mul_zero, add_zero]

theorem ids_val (hX : ∀ b r, ∃ top : ℝ, IsTop (xr X b r) ((top : ℝ) : EReal)) (b : Fin 64) (r : Fin 8) :
    val_main_v394 X (ix2 b r) = FloatOps.sitofp (F := Ideal) .f32 (val_main_v386 X (ix2 b r)) := by
  obtain ⟨j, hj⟩ := lookup_read X (fun b r => by
    obtain ⟨top, ht⟩ := hX b r
    obtain ⟨n, hn, _, e⟩ := pick_val X b r top ht
    exact ⟨n, hn, e⟩) (ix2 b r)
  have ej : j = ix3 (j 0) (j 1) (j 2) := by funext a; fin_cases a <;> rfl
  obtain ⟨top, ht⟩ := hX (j 0) (j 1)
  have es : val_main_v389 X (ix2 b r) = _ := hj.trans ((congrArg (val_main_v197 X) ej).trans (soft_val X (j 0) (j 1) top ht (j 2)))
  rw [ids_read, es]
  exact add_nothing _ _

end Cert.Gumbel.Ref
-- ==== Proof.Meet.lean ====
/-
  Where the row's greatest logit is a real, the idealized kernel's row is the reference's row.
-/
module

public import proofs.«01_k».proof.Pre_row_max_finite
public import proofs.«01_k».proof.Proof.KRow
public import proofs.«01_k».proof.Proof.KFinal
public import proofs.«01_k».proof.Proof.RefValue

@[expose] public section

set_option maxRecDepth 16384

noncomputable section

namespace Cert.Gumbel.Meet

open Idealize.ShloMosaic hiding ix1 ix2 ix3
open Idealize.ShloMosaic.ValueIdx
open Cert.Gumbel.Row Cert.Gumbel.Ref
open Cert.ReferenceIdeal (S64x8x100000)

/-! ## The precondition, row by row -/

theorem preFacts : Cert.Pre_row_max_finite.Facts where
  reducesTo_S64x8x100000_S64x8_d2 := by decide
  h_S_ := by decide
  bcast_S64x8_S64x8x1_0_1 := by decide
  bcast_S_S64x8x1 := by decide

section
variable {F : FTy → Type} [FloatOps F]

/-- The greatest of each row. -/
def greatest (x : FVec F S64x8x100000 .f32) : FVec F Cert.ReferenceIdeal.S64x8 .f32 :=
  Host.reduce FloatOps.maximumf x (constant Cert.ReferenceIdeal.S_ .f32 0xFF800000#32)
    Cert.ReferenceIdeal.Gen.reducesTo_S64x8x100000_S64x8_d2 Cert.ReferenceIdeal.Gen.h_S_

theorem pre_read (x : FVec F S64x8x100000 .f32) (b : Fin 64) (r : Fin 8) :
    @Cert.Pre_row_max_finite.fn preFacts F _ x (ix3 b r 0)
      = IntOp.andi (FloatOps.cmpf .ogt (greatest x (ix2 b r)) (fbits 0xFF800000#32)) (FloatOps.cmpf .olt (greatest x (ix2 b r)) (fbits 0x7F800000#32)) := by
  have e := broadcastInDim_apply ![0, 1] preFacts.bcast_S64x8_S64x8x1_0_1 (greatest x) (ix3 b r 0) (ix2 b r)
    (fun a => by fin_cases a <;> rfl)
  rw [← e]
  rfl
end

theorem andi_bits : ∀ p q : BitVec 1, IntOp.andi p q = 1#1 → p = 1#1 ∧ q = 1#1 := by decide

theorem row_real (X : FVec Ideal S64x8x100000 .f32)
    (h : @Cert.Pre_row_max_finite.fn preFacts Ideal _ X = fun _ => 1#1) (b : Fin 64) (r : Fin 8) :
    ∃ top : ℝ, IsTop (xr X b r) ((top : ℝ) : EReal) := by
  have h1 := congrFun h (ix3 b r 0)
  rw [pre_read] at h1
  have hu : (constant (F := Ideal) Cert.ReferenceIdeal.S_ .f32 0xFF800000#32 : FVec Ideal Cert.ReferenceIdeal.S_ .f32)
      (Shape.Idx.first Cert.ReferenceIdeal.Gen.h_S_) = (⊥ : EReal) := ofBits_bot
  have ht : IsTop (xr X b r) (greatest X (ix2 b r)) := by
    have k := max_row X _ hu b r
    unfold greatest
    exact k
  generalize greatest X (ix2 b r) = t at h1 ht
  obtain ⟨p, q⟩ := andi_bits _ _ h1
  have p' : (⊥ : EReal) < t := by rw [← ofBits_bot]; exact cmp_ogt.mp p
  have q' : t < (⊤ : EReal) := by rw [← ofBits_top]; exact cmp_olt.mp q
  exact ⟨t.toReal, by rw [EReal.coe_toReal q'.ne p'.ne']; exact ht⟩

/-! ## The rows meet -/

open Cert.Gumbel.Kernel

theorem cnt_eq (b : Fin 64) (r : Fin 8) (c : Fin 100000) : cnt (Cert.KernelIdeal.grid0.coords (pt b)) r c = numAt b r c := by
  unfold cnt numAt; rw [coords_val]

theorem ds_eq (b : Fin 64) (r : Fin 8) : ds (Cert.KernelIdeal.grid0.coords (pt b)) r = dn b r := by
  funext c; unfold ds dn; rw [cnt_eq]

theorem es_eq (b : Fin 64) (r : Fin 8) : es (Cert.KernelIdeal.grid0.coords (pt b)) r = en b r := by
  funext c; unfold es en; rw [cnt_eq]

variable (X : FVec Ideal S64x8x100000 .f32)

theorem xs_eq (b : Fin 64) (r : Fin 8) : xs (rows X b) r = xr X b r := rfl

section
variable (b : Fin 64) (r : Fin 8) (top : ℝ) (ht : IsTop (xr X b r) ((top : ℝ) : EReal))
include ht

theorem soft_meet (c : Fin 100000) : soft (F := Ideal) X b r c = Cert.ReferenceIdeal.Read.val_main_v197 (F := Ideal) X (ix3 b r c) := by
  have h := soft_row (Cert.KernelIdeal.grid0.coords (pt b)) (rows X b) r top (by rw [xs_eq]; exact ht) c
  rw [xs_eq, ds_eq] at h
  rw [soft_val X b r top ht c, ← h]
  rfl

theorem ids_meet : sampled X b r = FloatOps.sitofp (F := Ideal) .f32 (Cert.ReferenceIdeal.Read.val_main_v386 (F := Ideal) X (ix2 b r)) := by
  obtain ⟨k, hk, hr⟩ := race_row (Cert.KernelIdeal.grid0.coords (pt b)) (rows X b) r top (by rw [xs_eq]; exact ht)
  obtain ⟨v, hv, e⟩ := ids_row (Cert.KernelIdeal.grid0.coords (pt b)) (rows X b) r (fun c => by rw [hr c]; exact EReal.bot_lt_coe _) _ hr
  rw [xs_eq, ds_eq, es_eq] at hv
  obtain ⟨n, _, hw, _⟩ := pick_val X b r top ht
  have hT := T_pos (xr X b r) (dn b r) (dn_pos b r) top ht
  have hP := P_nonneg (xr X b r) (dn b r) (dn_pos b r)
  have hvw : v = _ := First.unique (fun c c' =>
    (score_le (hP c) (hP c') (en_pos b r c) (en_pos b r c') hT hk).symm) hv hw
  rw [← hvw, ← e]
  rfl
end

section
variable (hX : ∀ b r, ∃ top : ℝ, IsTop (xr X b r) ((top : ℝ) : EReal))
include hX

/-- The soft output. -/
theorem soft_all : (fun i => soft X (i 0) (i 1) (i 2) : FVec Ideal S64x8x100000 .f32) = Cert.ReferenceIdeal.Read.val_main_v197 (F := Ideal) X := by
  funext i
  obtain ⟨top, ht⟩ := hX (i 0) (i 1)
  have ei : i = ix3 (i 0) (i 1) (i 2) := by funext a; fin_cases a <;> rfl
  exact (soft_meet X (i 0) (i 1) top ht (i 2)).trans (congrArg _ ei.symm)

/-- The sampled columns. -/
theorem ids_all : (fun i => sampled X (i 0) (i 1) : FVec Ideal Cert.ReferenceIdeal.S64x8 .f32) = Cert.ReferenceIdeal.Read.val_main_v394 (F := Ideal) X := by
  funext i
  obtain ⟨top, ht⟩ := hX (i 0) (i 1)
  have ei : i = ix2 (i 0) (i 1) := by funext a; fin_cases a <;> rfl
  exact (ids_meet X (i 0) (i 1) top ht).trans ((ids_val X hX (i 0) (i 1)).symm.trans (congrArg _ ei.symm))
end

end Cert.Gumbel.Meet
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.BitsFrame
public import proofs.«01_k».proof.Proof.KernelFrame
public import proofs.«01_k».proof.Proof.KFinal
public import proofs.«01_k».proof.Proof.Meet
public import Idealize.ShloMosaic.Lib.Claim

@[expose] public section

set_option maxRecDepth 16384

noncomputable section

namespace Cert.Proof

open Idealize.ShloMosaic Idealize.SL.Sem Idealize.ShloMosaic.StableHlo

/-- The reference runs, leaves its argument as it was and has no semaphore to leave raised. -/
theorem frame_reference : Cert.quiescent_ReferenceIdeal := by
  intro m ρ _
  exact θ_run_mono (Cert.ReferenceIdeal.Value.run m ρ) fun r h =>
    ⟨fun c => (h c).2.2.2.2, sem_eq_zero_of_no_sems (by decide) r.2⟩

/-- The reference's results, as the stages of its text over its argument. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v394)
          = Cert.ReferenceIdeal.Read.val_main_v394 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_v197)
          = Cert.ReferenceIdeal.Read.val_main_v197 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_cst)
          = constant (F := Ideal) Cert.ReferenceIdeal.S1 .f32 0x3F800000#32
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  θ_run_mono (Cert.ReferenceIdeal.Value.run m ρ) fun r h c =>
    ⟨(h c).1.trans (Cert.ReferenceIdeal.Read.val_main_v394_eq (launchContents m c)),
      (h c).2.1.trans (Cert.ReferenceIdeal.Read.val_main_v197_eq (launchContents m c)), (h c).2.2.1, (h c).2.2.2.2⟩

/-- The results of the two idealized programs are equal where every row's greatest logit is a real. -/
theorem algebraic : Cert.algebraic_KernelIdeal_ReferenceIdeal_pre_row_max_finite (hKernelIdeal := Cert.KernelIdeal.Gen.facts)
    (hReferenceIdeal := Cert.ReferenceIdeal.Gen.facts) (hPre_row_max_finite := Cert.Gumbel.Meet.preFacts) := by
  intro m ρ m' ρ' hpre hag
  have hX := fun c => Cert.Gumbel.Meet.row_real _ (hpre c)
  refine ⟨_, _, _, _, Cert.Gumbel.Kernel.final_run m ρ, θ_run_mono (run_reference m' ρ') fun r h c => ?_⟩
  obtain ⟨h1, h2, h3, h4⟩ := h c
  rw [hag c] at h1 h2
  exact ⟨h1.trans (Cert.Gumbel.Meet.ids_all _ (hX c)).symm, h2.trans (Cert.Gumbel.Meet.soft_all _ (hX c)).symm, h3,
    h2.trans (Cert.Gumbel.Meet.soft_all _ (hX c)).symm, h4⟩

theorem claim : Cert.Claim := ⟨Cert.Kernel.Gen.facts, Cert.KernelIdeal.Gen.facts, Cert.ReferenceIdeal.Gen.facts, Cert.Gumbel.Meet.preFacts,
  fun m ρ _ => Cert.Gumbel.BitsFrame.frame m ρ, fun m ρ _ => Cert.Gumbel.Kernel.frame m ρ, fun m ρ _ => Cert.Gumbel.Kernel.frame m ρ,
  frame_reference, fun m ρ _ => frame_reference m ρ trivial, trivial, algebraic⟩

end Cert.Proof

end
